-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15)
      ∧ r.2.mem ((c.tc : Thread Cert.Kernel19.nD Cert.Kernel19.τ).loc Cert.Kernel19.main_arg16) = m ((c.tc : Thread Cert.Kernel19.nD Cert.Kernel19.τ).loc Cert.Kernel19.main_arg16)
      ∧ r.2.mem ((c.tc : Thread Cert.Kernel19.nD Cert.Kernel19.τ).loc Cert.Kernel19.main_arg17) = m ((c.tc : Thread Cert.Kernel19.nD Cert.Kernel19.τ).loc Cert.Kernel19.main_arg17)
      ∧ r.2.mem ((c.tc : Thread Cert.Kernel19.nD Cert.Kernel19.τ).loc Cert.Kernel19.main_arg18) = m ((c.tc : Thread Cert.Kernel19.nD Cert.Kernel19.τ).loc Cert.Kernel19.main_arg18)
      ∧ r.2.mem ((c.tc : Thread Cert.Kernel19.nD Cert.Kernel19.τ).loc Cert.Kernel19.main_arg19) = m ((c.tc : Thread Cert.Kernel19.nD Cert.Kernel19.τ).loc Cert.Kernel19.main_arg19)
      ∧ r.2.mem ((c.tc : Thread Cert.Kernel19.nD Cert.Kernel19.τ).loc Cert.Kernel19.main_arg20) = m ((c.tc : Thread Cert.Kernel19.nD Cert.Kernel19.τ).loc Cert.Kernel19.main_arg20)
      ∧ r.2.mem ((c.tc : Thread Cert.Kernel19.nD Cert.Kernel19.τ).loc Cert.Kernel19.main_arg21) = m ((c.tc : Thread Cert.Kernel19.nD Cert.Kernel19.τ).loc Cert.Kernel19.main_arg21)
      ∧ r.2.mem ((c.tc : Thread Cert.Kernel19.nD Cert.Kernel19.τ).loc Cert.Kernel19.main_arg22) = m ((c.tc : Thread Cert.Kernel19.nD Cert.Kernel19.τ).loc Cert.Kernel19.main_arg22)
      ∧ r.2.mem ((c.tc : Thread Cert.Kernel19.nD Cert.Kernel19.τ).loc Cert.Kernel19.main_arg23) = m ((c.tc : Thread Cert.Kernel19.nD Cert.Kernel19.τ).loc Cert.Kernel19.main_arg23)
      ∧ r.2.mem ((c.tc : Thread Cert.Kernel19.nD Cert.Kernel19.τ).loc Cert.Kernel19.main_arg24) = m ((c.tc : Thread Cert.Kernel19.nD Cert.Kernel19.τ).loc Cert.Kernel19.main_arg24)
      ∧ r.2.mem ((c.tc : Thread Cert.Kernel19.nD Cert.Kernel19.τ).loc Cert.Kernel19.main_arg25) = m ((c.tc : Thread Cert.Kernel19.nD Cert.Kernel19.τ).loc Cert.Kernel19.main_arg25)
      ∧ r.2.mem ((c.tc : Thread Cert.Kernel19.nD Cert.Kernel19.τ).loc Cert.Kernel19.main_arg26) = m ((c.tc : Thread Cert.Kernel19.nD Cert.Kernel19.τ).loc Cert.Kernel19.main_arg26)
      ∧ r.2.mem ((c.tc : Thread Cert.Kernel19.nD Cert.Kernel19.τ).loc Cert.Kernel19.main_arg27) = m ((c.tc : Thread Cert.Kernel19.nD Cert.Kernel19.τ).loc Cert.Kernel19.main_arg27)
      ∧ r.2.mem ((c.tc : Thread Cert.Kernel19.nD Cert.Kernel19.τ).loc Cert.Kernel19.main_arg28) = m ((c.tc : Thread Cert.Kernel19.nD Cert.Kernel19.τ).loc Cert.Kernel19.main_arg28)
      ∧ r.2.mem ((c.tc : Thread Cert.Kernel19.nD Cert.Kernel19.τ).loc Cert.Kernel19.main_arg29) = m ((c.tc : Thread Cert.Kernel19.nD Cert.Kernel19.τ).loc Cert.Kernel19.main_arg29)
      ∧ r.2.mem ((c.tc : Thread Cert.Kernel19.nD Cert.Kernel19.τ).loc Cert.Kernel19.main_arg30) = m ((c.tc : Thread Cert.Kernel19.nD Cert.Kernel19.τ).loc Cert.Kernel19.main_arg30)
      ∧ r.2.mem ((c.tc : Thread Cert.Kernel19.nD Cert.Kernel19.τ).loc Cert.Kernel19.main_arg31) = m ((c.tc : Thread Cert.Kernel19.nD Cert.Kernel19.τ).loc Cert.Kernel19.main_arg31))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
      ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
      ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
      ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
      ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
      ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
      ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
      ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
      ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
      ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
      ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
      ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
      ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
      ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
      ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
      ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
      ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15)
      ∧ r.2.mem ((c.tc : Thread Cert.Reference19Ideal.nD Cert.Reference19Ideal.τ).loc Cert.Reference19Ideal.main_arg16) = m ((c.tc : Thread Cert.Reference19Ideal.nD Cert.Reference19Ideal.τ).loc Cert.Reference19Ideal.main_arg16)
      ∧ r.2.mem ((c.tc : Thread Cert.Reference19Ideal.nD Cert.Reference19Ideal.τ).loc Cert.Reference19Ideal.main_arg17) = m ((c.tc : Thread Cert.Reference19Ideal.nD Cert.Reference19Ideal.τ).loc Cert.Reference19Ideal.main_arg17)
      ∧ r.2.mem ((c.tc : Thread Cert.Reference19Ideal.nD Cert.Reference19Ideal.τ).loc Cert.Reference19Ideal.main_arg18) = m ((c.tc : Thread Cert.Reference19Ideal.nD Cert.Reference19Ideal.τ).loc Cert.Reference19Ideal.main_arg18)
      ∧ r.2.mem ((c.tc : Thread Cert.Reference19Ideal.nD Cert.Reference19Ideal.τ).loc Cert.Reference19Ideal.main_arg19) = m ((c.tc : Thread Cert.Reference19Ideal.nD Cert.Reference19Ideal.τ).loc Cert.Reference19Ideal.main_arg19)
      ∧ r.2.mem ((c.tc : Thread Cert.Reference19Ideal.nD Cert.Reference19Ideal.τ).loc Cert.Reference19Ideal.main_arg20) = m ((c.tc : Thread Cert.Reference19Ideal.nD Cert.Reference19Ideal.τ).loc Cert.Reference19Ideal.main_arg20)
      ∧ r.2.mem ((c.tc : Thread Cert.Reference19Ideal.nD Cert.Reference19Ideal.τ).loc Cert.Reference19Ideal.main_arg21) = m ((c.tc : Thread Cert.Reference19Ideal.nD Cert.Reference19Ideal.τ).loc Cert.Reference19Ideal.main_arg21)
      ∧ r.2.mem ((c.tc : Thread Cert.Reference19Ideal.nD Cert.Reference19Ideal.τ).loc Cert.Reference19Ideal.main_arg22) = m ((c.tc : Thread Cert.Reference19Ideal.nD Cert.Reference19Ideal.τ).loc Cert.Reference19Ideal.main_arg22)
      ∧ r.2.mem ((c.tc : Thread Cert.Reference19Ideal.nD Cert.Reference19Ideal.τ).loc Cert.Reference19Ideal.main_arg23) = m ((c.tc : Thread Cert.Reference19Ideal.nD Cert.Reference19Ideal.τ).loc Cert.Reference19Ideal.main_arg23)
      ∧ r.2.mem ((c.tc : Thread Cert.Reference19Ideal.nD Cert.Reference19Ideal.τ).loc Cert.Reference19Ideal.main_arg24) = m ((c.tc : Thread Cert.Reference19Ideal.nD Cert.Reference19Ideal.τ).loc Cert.Reference19Ideal.main_arg24)
      ∧ r.2.mem ((c.tc : Thread Cert.Reference19Ideal.nD Cert.Reference19Ideal.τ).loc Cert.Reference19Ideal.main_arg25) = m ((c.tc : Thread Cert.Reference19Ideal.nD Cert.Reference19Ideal.τ).loc Cert.Reference19Ideal.main_arg25)
      ∧ r.2.mem ((c.tc : Thread Cert.Reference19Ideal.nD Cert.Reference19Ideal.τ).loc Cert.Reference19Ideal.main_arg26) = m ((c.tc : Thread Cert.Reference19Ideal.nD Cert.Reference19Ideal.τ).loc Cert.Reference19Ideal.main_arg26)
      ∧ r.2.mem ((c.tc : Thread Cert.Reference19Ideal.nD Cert.Reference19Ideal.τ).loc Cert.Reference19Ideal.main_arg27) = m ((c.tc : Thread Cert.Reference19Ideal.nD Cert.Reference19Ideal.τ).loc Cert.Reference19Ideal.main_arg27)
      ∧ r.2.mem ((c.tc : Thread Cert.Reference19Ideal.nD Cert.Reference19Ideal.τ).loc Cert.Reference19Ideal.main_arg28) = m ((c.tc : Thread Cert.Reference19Ideal.nD Cert.Reference19Ideal.τ).loc Cert.Reference19Ideal.main_arg28)
      ∧ r.2.mem ((c.tc : Thread Cert.Reference19Ideal.nD Cert.Reference19Ideal.τ).loc Cert.Reference19Ideal.main_arg29) = m ((c.tc : Thread Cert.Reference19Ideal.nD Cert.Reference19Ideal.τ).loc Cert.Reference19Ideal.main_arg29)
      ∧ r.2.mem ((c.tc : Thread Cert.Reference19Ideal.nD Cert.Reference19Ideal.τ).loc Cert.Reference19Ideal.main_arg30) = m ((c.tc : Thread Cert.Reference19Ideal.nD Cert.Reference19Ideal.τ).loc Cert.Reference19Ideal.main_arg30)
      ∧ r.2.mem ((c.tc : Thread Cert.Reference19Ideal.nD Cert.Reference19Ideal.τ).loc Cert.Reference19Ideal.main_arg31) = m ((c.tc : Thread Cert.Reference19Ideal.nD Cert.Reference19Ideal.τ).loc Cert.Reference19Ideal.main_arg31))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)
      ∧ m' ((c.tc : Thread Cert.Reference19Ideal.nD Cert.Reference19Ideal.τ).loc Cert.Reference19Ideal.main_arg16) = m ((c.tc : Thread Cert.Kernel19Ideal.nD Cert.Kernel19Ideal.τ).loc Cert.Kernel19Ideal.main_arg16)
      ∧ m' ((c.tc : Thread Cert.Reference19Ideal.nD Cert.Reference19Ideal.τ).loc Cert.Reference19Ideal.main_arg17) = m ((c.tc : Thread Cert.Kernel19Ideal.nD Cert.Kernel19Ideal.τ).loc Cert.Kernel19Ideal.main_arg17)
      ∧ m' ((c.tc : Thread Cert.Reference19Ideal.nD Cert.Reference19Ideal.τ).loc Cert.Reference19Ideal.main_arg18) = m ((c.tc : Thread Cert.Kernel19Ideal.nD Cert.Kernel19Ideal.τ).loc Cert.Kernel19Ideal.main_arg18)
      ∧ m' ((c.tc : Thread Cert.Reference19Ideal.nD Cert.Reference19Ideal.τ).loc Cert.Reference19Ideal.main_arg19) = m ((c.tc : Thread Cert.Kernel19Ideal.nD Cert.Kernel19Ideal.τ).loc Cert.Kernel19Ideal.main_arg19)
      ∧ m' ((c.tc : Thread Cert.Reference19Ideal.nD Cert.Reference19Ideal.τ).loc Cert.Reference19Ideal.main_arg20) = m ((c.tc : Thread Cert.Kernel19Ideal.nD Cert.Kernel19Ideal.τ).loc Cert.Kernel19Ideal.main_arg20)
      ∧ m' ((c.tc : Thread Cert.Reference19Ideal.nD Cert.Reference19Ideal.τ).loc Cert.Reference19Ideal.main_arg21) = m ((c.tc : Thread Cert.Kernel19Ideal.nD Cert.Kernel19Ideal.τ).loc Cert.Kernel19Ideal.main_arg21)
      ∧ m' ((c.tc : Thread Cert.Reference19Ideal.nD Cert.Reference19Ideal.τ).loc Cert.Reference19Ideal.main_arg22) = m ((c.tc : Thread Cert.Kernel19Ideal.nD Cert.Kernel19Ideal.τ).loc Cert.Kernel19Ideal.main_arg22)
      ∧ m' ((c.tc : Thread Cert.Reference19Ideal.nD Cert.Reference19Ideal.τ).loc Cert.Reference19Ideal.main_arg23) = m ((c.tc : Thread Cert.Kernel19Ideal.nD Cert.Kernel19Ideal.τ).loc Cert.Kernel19Ideal.main_arg23)
      ∧ m' ((c.tc : Thread Cert.Reference19Ideal.nD Cert.Reference19Ideal.τ).loc Cert.Reference19Ideal.main_arg24) = m ((c.tc : Thread Cert.Kernel19Ideal.nD Cert.Kernel19Ideal.τ).loc Cert.Kernel19Ideal.main_arg24)
      ∧ m' ((c.tc : Thread Cert.Reference19Ideal.nD Cert.Reference19Ideal.τ).loc Cert.Reference19Ideal.main_arg25) = m ((c.tc : Thread Cert.Kernel19Ideal.nD Cert.Kernel19Ideal.τ).loc Cert.Kernel19Ideal.main_arg25)
      ∧ m' ((c.tc : Thread Cert.Reference19Ideal.nD Cert.Reference19Ideal.τ).loc Cert.Reference19Ideal.main_arg26) = m ((c.tc : Thread Cert.Kernel19Ideal.nD Cert.Kernel19Ideal.τ).loc Cert.Kernel19Ideal.main_arg26)
      ∧ m' ((c.tc : Thread Cert.Reference19Ideal.nD Cert.Reference19Ideal.τ).loc Cert.Reference19Ideal.main_arg27) = m ((c.tc : Thread Cert.Kernel19Ideal.nD Cert.Kernel19Ideal.τ).loc Cert.Kernel19Ideal.main_arg27)
      ∧ m' ((c.tc : Thread Cert.Reference19Ideal.nD Cert.Reference19Ideal.τ).loc Cert.Reference19Ideal.main_arg28) = m ((c.tc : Thread Cert.Kernel19Ideal.nD Cert.Kernel19Ideal.τ).loc Cert.Kernel19Ideal.main_arg28)
      ∧ m' ((c.tc : Thread Cert.Reference19Ideal.nD Cert.Reference19Ideal.τ).loc Cert.Reference19Ideal.main_arg29) = m ((c.tc : Thread Cert.Kernel19Ideal.nD Cert.Kernel19Ideal.τ).loc Cert.Kernel19Ideal.main_arg29)
      ∧ m' ((c.tc : Thread Cert.Reference19Ideal.nD Cert.Reference19Ideal.τ).loc Cert.Reference19Ideal.main_arg30) = m ((c.tc : Thread Cert.Kernel19Ideal.nD Cert.Kernel19Ideal.τ).loc Cert.Kernel19Ideal.main_arg30)
      ∧ m' ((c.tc : Thread Cert.Reference19Ideal.nD Cert.Reference19Ideal.τ).loc Cert.Reference19Ideal.main_arg31) = m ((c.tc : Thread Cert.Kernel19Ideal.nD Cert.Kernel19Ideal.τ).loc Cert.Kernel19Ideal.main_arg31)) →
    ∃ (v0 : (c : Dev Cert.Kernel19Ideal.nD) → Buf (Elt Ideal) ((c.tc : Thread Cert.Kernel19Ideal.nD Cert.Kernel19Ideal.τ).loc Cert.Kernel19Ideal.main_v35)) (v1 : (c : Dev Cert.Kernel19Ideal.nD) → Buf (Elt Ideal) ((c.tc : Thread Cert.Kernel19Ideal.nD Cert.Kernel19Ideal.τ).loc Cert.Kernel19Ideal.main_v37)) (v2 : (c : Dev Cert.Kernel19Ideal.nD) → Buf (Elt Ideal) ((c.tc : Thread Cert.Kernel19Ideal.nD Cert.Kernel19Ideal.τ).loc Cert.Kernel19Ideal.main_v39)) (v3 : (c : Dev Cert.Kernel19Ideal.nD) → Buf (Elt Ideal) ((c.tc : Thread Cert.Kernel19Ideal.nD Cert.Kernel19Ideal.τ).loc Cert.Kernel19Ideal.main_v41)) (v4 : (c : Dev Cert.Kernel19Ideal.nD) → Buf (Elt Ideal) ((c.tc : Thread Cert.Kernel19Ideal.nD Cert.Kernel19Ideal.τ).loc Cert.Kernel19Ideal.main_v42)) (v5 : (c : Dev Cert.Kernel19Ideal.nD) → Buf (Elt Ideal) ((c.tc : Thread Cert.Kernel19Ideal.nD Cert.Kernel19Ideal.τ).loc Cert.Kernel19Ideal.main_v43)) (v6 : (c : Dev Cert.Kernel19Ideal.nD) → Buf (Elt Ideal) ((c.tc : Thread Cert.Kernel19Ideal.nD Cert.Kernel19Ideal.τ).loc Cert.Kernel19Ideal.main_v45)) (v7 : (c : Dev Cert.Kernel19Ideal.nD) → Buf (Elt Ideal) ((c.tc : Thread Cert.Kernel19Ideal.nD Cert.Kernel19Ideal.τ).loc Cert.Kernel19Ideal.main_v46)) (v8 : (c : Dev Cert.Kernel19Ideal.nD) → Buf (Elt Ideal) ((c.tc : Thread Cert.Kernel19Ideal.nD Cert.Kernel19Ideal.τ).loc Cert.Kernel19Ideal.main_v49)) (v9 : (c : Dev Cert.Kernel19Ideal.nD) → Buf (Elt Ideal) ((c.tc : Thread Cert.Kernel19Ideal.nD Cert.Kernel19Ideal.τ).loc Cert.Kernel19Ideal.main_v51)) (v10 : (c : Dev Cert.Kernel19Ideal.nD) → Buf (Elt Ideal) ((c.tc : Thread Cert.Kernel19Ideal.nD Cert.Kernel19Ideal.τ).loc Cert.Kernel19Ideal.main_v53)) (v11 : (c : Dev Cert.Kernel19Ideal.nD) → Buf (Elt Ideal) ((c.tc : Thread Cert.Kernel19Ideal.nD Cert.Kernel19Ideal.τ).loc Cert.Kernel19Ideal.main_v55)) (v12 : (c : Dev Cert.Kernel19Ideal.nD) → Buf (Elt Ideal) ((c.tc : Thread Cert.Kernel19Ideal.nD Cert.Kernel19Ideal.τ).loc Cert.Kernel19Ideal.main_v56)) (v13 : (c : Dev Cert.Kernel19Ideal.nD) → Buf (Elt Ideal) ((c.tc : Thread Cert.Kernel19Ideal.nD Cert.Kernel19Ideal.τ).loc Cert.Kernel19Ideal.main_v57)) (v14 : (c : Dev Cert.Kernel19Ideal.nD) → Buf (Elt Ideal) ((c.tc : Thread Cert.Kernel19Ideal.nD Cert.Kernel19Ideal.τ).loc Cert.Kernel19Ideal.main_v59)) (v15 : (c : Dev Cert.Kernel19Ideal.nD) → Buf (Elt Ideal) ((c.tc : Thread Cert.Kernel19Ideal.nD Cert.Kernel19Ideal.τ).loc Cert.Kernel19Ideal.main_v60)) (v16 : (c : Dev Cert.Kernel19Ideal.nD) → Buf (Elt Ideal) ((c.tc : Thread Cert.Kernel19Ideal.nD Cert.Kernel19Ideal.τ).loc Cert.Kernel19Ideal.main_v63)) (v17 : (c : Dev Cert.Kernel19Ideal.nD) → Buf (Elt Ideal) ((c.tc : Thread Cert.Kernel19Ideal.nD Cert.Kernel19Ideal.τ).loc Cert.Kernel19Ideal.main_v65)) (v18 : (c : Dev Cert.Kernel19Ideal.nD) → Buf (Elt Ideal) ((c.tc : Thread Cert.Kernel19Ideal.nD Cert.Kernel19Ideal.τ).loc Cert.Kernel19Ideal.main_v67)) (v19 : (c : Dev Cert.Kernel19Ideal.nD) → Buf (Elt Ideal) ((c.tc : Thread Cert.Kernel19Ideal.nD Cert.Kernel19Ideal.τ).loc Cert.Kernel19Ideal.main_v69)) (v20 : (c : Dev Cert.Kernel19Ideal.nD) → Buf (Elt Ideal) ((c.tc : Thread Cert.Kernel19Ideal.nD Cert.Kernel19Ideal.τ).loc Cert.Kernel19Ideal.main_v70)) (v21 : (c : Dev Cert.Kernel19Ideal.nD) → Buf (Elt Ideal) ((c.tc : Thread Cert.Kernel19Ideal.nD Cert.Kernel19Ideal.τ).loc Cert.Kernel19Ideal.main_v71)) (v22 : (c : Dev Cert.Kernel19Ideal.nD) → Buf (Elt Ideal) ((c.tc : Thread Cert.Kernel19Ideal.nD Cert.Kernel19Ideal.τ).loc Cert.Kernel19Ideal.main_v73)) (v23 : (c : Dev Cert.Kernel19Ideal.nD) → Buf (Elt Ideal) ((c.tc : Thread Cert.Kernel19Ideal.nD Cert.Kernel19Ideal.τ).loc Cert.Kernel19Ideal.main_v74)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v35) = v0 c
          ∧ r.2.mem ((c.tc : Thread Cert.Kernel19Ideal.nD Cert.Kernel19Ideal.τ).loc Cert.Kernel19Ideal.main_v37) = v1 c
          ∧ r.2.mem ((c.tc : Thread Cert.Kernel19Ideal.nD Cert.Kernel19Ideal.τ).loc Cert.Kernel19Ideal.main_v39) = v2 c
          ∧ r.2.mem ((c.tc : Thread Cert.Kernel19Ideal.nD Cert.Kernel19Ideal.τ).loc Cert.Kernel19Ideal.main_v41) = v3 c
          ∧ r.2.mem ((c.tc : Thread Cert.Kernel19Ideal.nD Cert.Kernel19Ideal.τ).loc Cert.Kernel19Ideal.main_v42) = v4 c
          ∧ r.2.mem ((c.tc : Thread Cert.Kernel19Ideal.nD Cert.Kernel19Ideal.τ).loc Cert.Kernel19Ideal.main_v43) = v5 c
          ∧ r.2.mem ((c.tc : Thread Cert.Kernel19Ideal.nD Cert.Kernel19Ideal.τ).loc Cert.Kernel19Ideal.main_v45) = v6 c
          ∧ r.2.mem ((c.tc : Thread Cert.Kernel19Ideal.nD Cert.Kernel19Ideal.τ).loc Cert.Kernel19Ideal.main_v46) = v7 c
          ∧ r.2.mem ((c.tc : Thread Cert.Kernel19Ideal.nD Cert.Kernel19Ideal.τ).loc Cert.Kernel19Ideal.main_v49) = v8 c
          ∧ r.2.mem ((c.tc : Thread Cert.Kernel19Ideal.nD Cert.Kernel19Ideal.τ).loc Cert.Kernel19Ideal.main_v51) = v9 c
          ∧ r.2.mem ((c.tc : Thread Cert.Kernel19Ideal.nD Cert.Kernel19Ideal.τ).loc Cert.Kernel19Ideal.main_v53) = v10 c
          ∧ r.2.mem ((c.tc : Thread Cert.Kernel19Ideal.nD Cert.Kernel19Ideal.τ).loc Cert.Kernel19Ideal.main_v55) = v11 c
          ∧ r.2.mem ((c.tc : Thread Cert.Kernel19Ideal.nD Cert.Kernel19Ideal.τ).loc Cert.Kernel19Ideal.main_v56) = v12 c
          ∧ r.2.mem ((c.tc : Thread Cert.Kernel19Ideal.nD Cert.Kernel19Ideal.τ).loc Cert.Kernel19Ideal.main_v57) = v13 c
          ∧ r.2.mem ((c.tc : Thread Cert.Kernel19Ideal.nD Cert.Kernel19Ideal.τ).loc Cert.Kernel19Ideal.main_v59) = v14 c
          ∧ r.2.mem ((c.tc : Thread Cert.Kernel19Ideal.nD Cert.Kernel19Ideal.τ).loc Cert.Kernel19Ideal.main_v60) = v15 c
          ∧ r.2.mem ((c.tc : Thread Cert.Kernel19Ideal.nD Cert.Kernel19Ideal.τ).loc Cert.Kernel19Ideal.main_v63) = v16 c
          ∧ r.2.mem ((c.tc : Thread Cert.Kernel19Ideal.nD Cert.Kernel19Ideal.τ).loc Cert.Kernel19Ideal.main_v65) = v17 c
          ∧ r.2.mem ((c.tc : Thread Cert.Kernel19Ideal.nD Cert.Kernel19Ideal.τ).loc Cert.Kernel19Ideal.main_v67) = v18 c
          ∧ r.2.mem ((c.tc : Thread Cert.Kernel19Ideal.nD Cert.Kernel19Ideal.τ).loc Cert.Kernel19Ideal.main_v69) = v19 c
          ∧ r.2.mem ((c.tc : Thread Cert.Kernel19Ideal.nD Cert.Kernel19Ideal.τ).loc Cert.Kernel19Ideal.main_v70) = v20 c
          ∧ r.2.mem ((c.tc : Thread Cert.Kernel19Ideal.nD Cert.Kernel19Ideal.τ).loc Cert.Kernel19Ideal.main_v71) = v21 c
          ∧ r.2.mem ((c.tc : Thread Cert.Kernel19Ideal.nD Cert.Kernel19Ideal.τ).loc Cert.Kernel19Ideal.main_v73) = v22 c
          ∧ r.2.mem ((c.tc : Thread Cert.Kernel19Ideal.nD Cert.Kernel19Ideal.τ).loc Cert.Kernel19Ideal.main_v74) = v23 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
          ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
          ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
          ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
          ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
          ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
          ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
          ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
          ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
          ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
          ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
          ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
          ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
          ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
          ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
          ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
          ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v47) = v1 c
          ∧ r.2.mem ((c.tc : Thread Cert.Reference19Ideal.nD Cert.Reference19Ideal.τ).loc Cert.Reference19Ideal.main_v71) = v2 c
          ∧ r.2.mem ((c.tc : Thread Cert.Reference19Ideal.nD Cert.Reference19Ideal.τ).loc Cert.Reference19Ideal.main_v95) = v3 c
          ∧ r.2.mem ((c.tc : Thread Cert.Reference19Ideal.nD Cert.Reference19Ideal.τ).loc Cert.Reference19Ideal.main_v119) = v4 c
          ∧ r.2.mem ((c.tc : Thread Cert.Reference19Ideal.nD Cert.Reference19Ideal.τ).loc Cert.Reference19Ideal.main_v143) = v5 c
          ∧ r.2.mem ((c.tc : Thread Cert.Reference19Ideal.nD Cert.Reference19Ideal.τ).loc Cert.Reference19Ideal.main_v167) = v6 c
          ∧ r.2.mem ((c.tc : Thread Cert.Reference19Ideal.nD Cert.Reference19Ideal.τ).loc Cert.Reference19Ideal.main_v191) = v7 c
          ∧ r.2.mem ((c.tc : Thread Cert.Reference19Ideal.nD Cert.Reference19Ideal.τ).loc Cert.Reference19Ideal.main_v4) = v8 c
          ∧ r.2.mem ((c.tc : Thread Cert.Reference19Ideal.nD Cert.Reference19Ideal.τ).loc Cert.Reference19Ideal.main_v28) = v9 c
          ∧ r.2.mem ((c.tc : Thread Cert.Reference19Ideal.nD Cert.Reference19Ideal.τ).loc Cert.Reference19Ideal.main_v52) = v10 c
          ∧ r.2.mem ((c.tc : Thread Cert.Reference19Ideal.nD Cert.Reference19Ideal.τ).loc Cert.Reference19Ideal.main_v76) = v11 c
          ∧ r.2.mem ((c.tc : Thread Cert.Reference19Ideal.nD Cert.Reference19Ideal.τ).loc Cert.Reference19Ideal.main_v100) = v12 c
          ∧ r.2.mem ((c.tc : Thread Cert.Reference19Ideal.nD Cert.Reference19Ideal.τ).loc Cert.Reference19Ideal.main_v124) = v13 c
          ∧ r.2.mem ((c.tc : Thread Cert.Reference19Ideal.nD Cert.Reference19Ideal.τ).loc Cert.Reference19Ideal.main_v148) = v14 c
          ∧ r.2.mem ((c.tc : Thread Cert.Reference19Ideal.nD Cert.Reference19Ideal.τ).loc Cert.Reference19Ideal.main_v172) = v15 c
          ∧ r.2.mem ((c.tc : Thread Cert.Reference19Ideal.nD Cert.Reference19Ideal.τ).loc Cert.Reference19Ideal.main_v10) = v16 c
          ∧ r.2.mem ((c.tc : Thread Cert.Reference19Ideal.nD Cert.Reference19Ideal.τ).loc Cert.Reference19Ideal.main_v34) = v17 c
          ∧ r.2.mem ((c.tc : Thread Cert.Reference19Ideal.nD Cert.Reference19Ideal.τ).loc Cert.Reference19Ideal.main_v58) = v18 c
          ∧ r.2.mem ((c.tc : Thread Cert.Reference19Ideal.nD Cert.Reference19Ideal.τ).loc Cert.Reference19Ideal.main_v82) = v19 c
          ∧ r.2.mem ((c.tc : Thread Cert.Reference19Ideal.nD Cert.Reference19Ideal.τ).loc Cert.Reference19Ideal.main_v106) = v20 c
          ∧ r.2.mem ((c.tc : Thread Cert.Reference19Ideal.nD Cert.Reference19Ideal.τ).loc Cert.Reference19Ideal.main_v130) = v21 c
          ∧ r.2.mem ((c.tc : Thread Cert.Reference19Ideal.nD Cert.Reference19Ideal.τ).loc Cert.Reference19Ideal.main_v154) = v22 c
          ∧ r.2.mem ((c.tc : Thread Cert.Reference19Ideal.nD Cert.Reference19Ideal.τ).loc Cert.Reference19Ideal.main_v178) = v23 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15)
          ∧ r.2.mem ((c.tc : Thread Cert.Reference19Ideal.nD Cert.Reference19Ideal.τ).loc Cert.Reference19Ideal.main_arg16) = m' ((c.tc : Thread Cert.Reference19Ideal.nD Cert.Reference19Ideal.τ).loc Cert.Reference19Ideal.main_arg16)
          ∧ r.2.mem ((c.tc : Thread Cert.Reference19Ideal.nD Cert.Reference19Ideal.τ).loc Cert.Reference19Ideal.main_arg17) = m' ((c.tc : Thread Cert.Reference19Ideal.nD Cert.Reference19Ideal.τ).loc Cert.Reference19Ideal.main_arg17)
          ∧ r.2.mem ((c.tc : Thread Cert.Reference19Ideal.nD Cert.Reference19Ideal.τ).loc Cert.Reference19Ideal.main_arg18) = m' ((c.tc : Thread Cert.Reference19Ideal.nD Cert.Reference19Ideal.τ).loc Cert.Reference19Ideal.main_arg18)
          ∧ r.2.mem ((c.tc : Thread Cert.Reference19Ideal.nD Cert.Reference19Ideal.τ).loc Cert.Reference19Ideal.main_arg19) = m' ((c.tc : Thread Cert.Reference19Ideal.nD Cert.Reference19Ideal.τ).loc Cert.Reference19Ideal.main_arg19)
          ∧ r.2.mem ((c.tc : Thread Cert.Reference19Ideal.nD Cert.Reference19Ideal.τ).loc Cert.Reference19Ideal.main_arg20) = m' ((c.tc : Thread Cert.Reference19Ideal.nD Cert.Reference19Ideal.τ).loc Cert.Reference19Ideal.main_arg20)
          ∧ r.2.mem ((c.tc : Thread Cert.Reference19Ideal.nD Cert.Reference19Ideal.τ).loc Cert.Reference19Ideal.main_arg21) = m' ((c.tc : Thread Cert.Reference19Ideal.nD Cert.Reference19Ideal.τ).loc Cert.Reference19Ideal.main_arg21)
          ∧ r.2.mem ((c.tc : Thread Cert.Reference19Ideal.nD Cert.Reference19Ideal.τ).loc Cert.Reference19Ideal.main_arg22) = m' ((c.tc : Thread Cert.Reference19Ideal.nD Cert.Reference19Ideal.τ).loc Cert.Reference19Ideal.main_arg22)
          ∧ r.2.mem ((c.tc : Thread Cert.Reference19Ideal.nD Cert.Reference19Ideal.τ).loc Cert.Reference19Ideal.main_arg23) = m' ((c.tc : Thread Cert.Reference19Ideal.nD Cert.Reference19Ideal.τ).loc Cert.Reference19Ideal.main_arg23)
          ∧ r.2.mem ((c.tc : Thread Cert.Reference19Ideal.nD Cert.Reference19Ideal.τ).loc Cert.Reference19Ideal.main_arg24) = m' ((c.tc : Thread Cert.Reference19Ideal.nD Cert.Reference19Ideal.τ).loc Cert.Reference19Ideal.main_arg24)
          ∧ r.2.mem ((c.tc : Thread Cert.Reference19Ideal.nD Cert.Reference19Ideal.τ).loc Cert.Reference19Ideal.main_arg25) = m' ((c.tc : Thread Cert.Reference19Ideal.nD Cert.Reference19Ideal.τ).loc Cert.Reference19Ideal.main_arg25)
          ∧ r.2.mem ((c.tc : Thread Cert.Reference19Ideal.nD Cert.Reference19Ideal.τ).loc Cert.Reference19Ideal.main_arg26) = m' ((c.tc : Thread Cert.Reference19Ideal.nD Cert.Reference19Ideal.τ).loc Cert.Reference19Ideal.main_arg26)
          ∧ r.2.mem ((c.tc : Thread Cert.Reference19Ideal.nD Cert.Reference19Ideal.τ).loc Cert.Reference19Ideal.main_arg27) = m' ((c.tc : Thread Cert.Reference19Ideal.nD Cert.Reference19Ideal.τ).loc Cert.Reference19Ideal.main_arg27)
          ∧ r.2.mem ((c.tc : Thread Cert.Reference19Ideal.nD Cert.Reference19Ideal.τ).loc Cert.Reference19Ideal.main_arg28) = m' ((c.tc : Thread Cert.Reference19Ideal.nD Cert.Reference19Ideal.τ).loc Cert.Reference19Ideal.main_arg28)
          ∧ r.2.mem ((c.tc : Thread Cert.Reference19Ideal.nD Cert.Reference19Ideal.τ).loc Cert.Reference19Ideal.main_arg29) = m' ((c.tc : Thread Cert.Reference19Ideal.nD Cert.Reference19Ideal.τ).loc Cert.Reference19Ideal.main_arg29)
          ∧ r.2.mem ((c.tc : Thread Cert.Reference19Ideal.nD Cert.Reference19Ideal.τ).loc Cert.Reference19Ideal.main_arg30) = m' ((c.tc : Thread Cert.Reference19Ideal.nD Cert.Reference19Ideal.τ).loc Cert.Reference19Ideal.main_arg30)
          ∧ r.2.mem ((c.tc : Thread Cert.Reference19Ideal.nD Cert.Reference19Ideal.τ).loc Cert.Reference19Ideal.main_arg31) = m' ((c.tc : Thread Cert.Reference19Ideal.nD Cert.Reference19Ideal.τ).loc Cert.Reference19Ideal.main_arg31))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v36) = v0 c
          ∧ r.2.mem ((c.tc : Thread Cert.Reference26Ideal.nD Cert.Reference26Ideal.τ).loc Cert.Reference26Ideal.main_v37) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v50) = v0 c
          ∧ r.2.mem ((c.tc : Thread Cert.Reference27Ideal.nD Cert.Reference27Ideal.τ).loc Cert.Reference27Ideal.main_v51) = v1 c
          ∧ r.2.mem ((c.tc : Thread Cert.Reference27Ideal.nD Cert.Reference27Ideal.τ).loc Cert.Reference27Ideal.main_v52) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

class Facts : Prop where
  slices_S4096x5632_S4096x2816_0_2816 : S4096x5632.Slices ![0, 2816] S4096x2816
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S2816x1024 .f32) (main_arg2 : FVec F S4096x1024 .f32) : IVec S4096x2816 1 × IVec S2816x1024 1 × IVec S4096x1024 1 :=
  let main_v0 : FVec F S4096x2816 .f32 := (extractStridedSlice S4096x2816 ![0, 2816] · slices_S4096x5632_S4096x2816_0_2816) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  (main_v3, main_v6, main_v9)
-- ==== Kernel.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S4096x2x2x1408 : Shape := ⟨4, ![4096, 2, 2, 1408]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x2x2x1408, .f32⟩
  | .hbm, ⟨6, _⟩ => ⟨S4096x2x2x1408, .f32⟩
  | .hbm, ⟨7, _⟩ => ⟨S4096x5632, .f32⟩
  | .hbm, ⟨8, _⟩ => ⟨S4096x5632, .bf16⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S1x1024, .f32⟩
  | .hbm, ⟨13, _⟩ => ⟨S4096x1024, .f32⟩
  | .hbm, ⟨14, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_24 : BitVec 32 := 0#32
  let v46 : BitVec 1 := Scalar.cmpi .eq arg0 c0_i32_24
  let v47 : BitVec 32 := Scalar.extui v46
  let c0_i32_25 : BitVec 32 := 0#32
  let v48 : BitVec 1 := Scalar.cmpi .ne v47 c0_i32_25
  v48

def k0_cond5 (i : grid0.Coords) : BitVec 1 :=
  let arg0 : BitVec 32 := BitVec.ofNat 32 (i 0).val
  let c0_i32_26 : BitVec 32 := 0#32
  let v49 : BitVec 1 := Scalar.cmpi .sgt arg0 c0_i32_26
  let v50 : BitVec 32 := Scalar.extui v49
  let c0_i32_27 : BitVec 32 := 0#32
  let v51 : BitVec 1 := Scalar.cmpi .ne v50 c0_i32_27
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel2.lean ====
abbrev S4096x5632 : Shape := ⟨2, ![4096, 5632]⟩
abbrev S2816x1024 : Shape := ⟨2, ![2816, 1024]⟩
abbrev S4096x1024 : Shape := ⟨2, ![4096, 1024]⟩
abbrev S4096x2x2x1408 : Shape := ⟨4, ![4096, 2, 2, 1408]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x2x2x1408, .f32⟩
  | .hbm, ⟨5, _⟩ => ⟨S4096x2x2x1408, .f32⟩
  | .hbm, ⟨6, _⟩ => ⟨S4096x5632, .f32⟩
  | .hbm, ⟨7, _⟩ => ⟨S4096x5632, .bf16⟩
  | .hbm, ⟨8, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S4096x2x2x1408 : Shape := ⟨4, ![4096, 2, 2, 1408]⟩

abbrev nBuf : Space → Nat
  | .hbm => 42
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S4096x2x2x1408, .f32⟩
  | .hbm, ⟨39, _⟩ => ⟨S4096x2x2x1408, .f32⟩
  | .hbm, ⟨40, _⟩ => ⟨S4096x5632, .f32⟩
  | .hbm, ⟨41, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4096x2x2x1408 : Shape := ⟨4, ![4096, 2, 2, 1408]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x2x2x1408, .f32⟩
  | .hbm, ⟨4, _⟩ => ⟨S4096x2x2x1408, .f32⟩
  | .hbm, ⟨5, _⟩ => ⟨S4096x5632, .f32⟩
  | .hbm, ⟨6, _⟩ => ⟨S4096x5632, .bf16⟩
  | .hbm, ⟨7, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S4096x2816 : Shape := ⟨2, ![4096, 2816]⟩
abbrev S1024x1024 : Shape := ⟨2, ![1024, 1024]⟩
abbrev S1x1024x1408 : Shape := ⟨3, ![1, 1024, 1408]⟩
abbrev S1024x2816 : Shape := ⟨2, ![1024, 2816]⟩
abbrev S1024x1408 : Shape := ⟨2, ![1024, 1408]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S4096x5632, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x2816, .bf16⟩
  | .local _ .vmem, ⟨7, _⟩ => ⟨S1024x2816, .bf16⟩
  | .local _ .vmem, ⟨8, _⟩ => ⟨S1024x1408, .bf16⟩
  | .local _ .vmem, ⟨9, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S4096x2x2x1408 : Shape := ⟨4, ![4096, 2, 2, 1408]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2x2x1408, .f32⟩
  | .hbm, ⟨16, _⟩ => ⟨S4096x2x2x1408, .f32⟩
  | .hbm, ⟨17, _⟩ => ⟨S4096x5632, .f32⟩
  | .hbm, ⟨18, _⟩ => ⟨S4096x5632, .bf16⟩
  | .hbm, ⟨19, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel6.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1024x4x768 : Shape := ⟨3, ![1024, 4, 768]⟩
abbrev S4x1024x768 : Shape := ⟨3, ![4, 1024, 768]⟩
abbrev S1x1024 : Shape := ⟨2, ![1, 1024]⟩
abbrev S512x768 : Shape := ⟨2, ![512, 768]⟩
abbrev S1x1024x768 : Shape := ⟨3, ![1, 1024, 768]⟩
abbrev S512x1024 : Shape := ⟨2, ![512, 1024]⟩
abbrev S1024x768 : Shape := ⟨2, ![1024, 768]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x3072, .bf16⟩
  | .hbm, ⟨6, _⟩ => ⟨S1024x4x768, .f32⟩
  | .hbm, ⟨7, _⟩ => ⟨S4x1024x768, .f32⟩
  | .hbm, ⟨8, _⟩ => ⟨S4x1024x768, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_24 : BitVec 32 := 0#32
  let v46 : BitVec 1 := Scalar.cmpi .eq arg0 c0_i32_24
  let v47 : BitVec 32 := Scalar.extui v46
  let c0_i32_25 : BitVec 32 := 0#32
  let v48 : BitVec 1 := Scalar.cmpi .ne v47 c0_i32_25
  v48

def k0_cond5 (i : grid0.Coords) : BitVec 1 :=
  let arg0 : BitVec 32 := BitVec.ofNat 32 (i 0).val
  let c0_i32_26 : BitVec 32 := 0#32
  let v49 : BitVec 1 := Scalar.cmpi .sgt arg0 c0_i32_26
  let v50 : BitVec 32 := Scalar.extui v49
  let c0_i32_27 : BitVec 32 := 0#32
  let v51 : BitVec 1 := Scalar.cmpi .ne v50 c0_i32_27
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel9.lean ====
abbrev S4096x1024 : Shape := ⟨2, ![4096, 1024]⟩
abbrev S4096x3072 : Shape := ⟨2, ![4096, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x4x768, .f32⟩
  | .hbm, ⟨8, _⟩ => ⟨S4x1024x768, .f32⟩
  | .hbm, ⟨9, _⟩ => ⟨S4x1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S4096x3072 : Shape := ⟨2, ![4096, 3072]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x4x768, .f32⟩
  | .hbm, ⟨4, _⟩ => ⟨S4x1024x768, .f32⟩
  | .hbm, ⟨5, _⟩ => ⟨S4x1024x768, .bf16⟩
  | .hbm, ⟨6, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S2x1024x1408 : Shape := ⟨3, ![2, 1024, 1408]⟩
abbrev S2048x1408 : Shape := ⟨2, ![2048, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
abbrev S2x1024x1408 : Shape := ⟨3, ![2, 1024, 1408]⟩
abbrev S2048x1408 : Shape := ⟨2, ![2048, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S1x1024x768 : Shape := ⟨3, ![1, 1024, 768]⟩
abbrev S1024x768 : Shape := ⟨2, ![1024, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
abbrev S1x1024x768 : Shape := ⟨3, ![1, 1024, 768]⟩
abbrev S1024x768 : Shape := ⟨2, ![1024, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S1024x768, .f32⟩
  | .hbm, ⟨38, _⟩ => ⟨S1024x768, .f32⟩
  | .hbm, ⟨39, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S256x320 : Shape := ⟨2, ![256, 320]⟩

abbrev nBuf : Space → Nat
  | .hbm => 7
  | .vmem => 7
  | .smem => 0
  | _ => 0

abbrev bufTy : (tb : Table) → Fin (tcTables nBuf tb) → BufTy
  | .hbm, ⟨0, _⟩ => ⟨S256x320, .f32⟩
  | .hbm, ⟨1, _⟩ => ⟨S256x320, .f32⟩
  | .hbm, ⟨2, _⟩ => ⟨S256x320, .f32⟩
  | .hbm, ⟨3, _⟩ => ⟨S256x320, .f32⟩
  | .hbm, ⟨4, _⟩ => ⟨S256x320, .f32⟩
  | .hbm, ⟨5, _⟩ => ⟨S256x320, .f32⟩
  | .hbm, ⟨6, _⟩ => ⟨S256x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | _, _ => ⟨S256x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
abbrev S256x320 : Shape := ⟨2, ![256, 320]⟩

abbrev nBuf : Space → Nat
  | .hbm => 7
  | .vmem => 7
  | .smem => 0
  | _ => 0

abbrev bufTy : (tb : Table) → Fin (tcTables nBuf tb) → BufTy
  | .hbm, ⟨0, _⟩ => ⟨S256x320, .f32⟩
  | .hbm, ⟨1, _⟩ => ⟨S256x320, .f32⟩
  | .hbm, ⟨2, _⟩ => ⟨S256x320, .f32⟩
  | .hbm, ⟨3, _⟩ => ⟨S256x320, .f32⟩
  | .hbm, ⟨4, _⟩ => ⟨S256x320, .f32⟩
  | .hbm, ⟨5, _⟩ => ⟨S256x320, .f32⟩
  | .hbm, ⟨6, _⟩ => ⟨S256x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | _, _ => ⟨S256x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S256x320 : Shape := ⟨2, ![256, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x320, .f32⟩
  | .hbm, ⟨1, _⟩ => ⟨S256x320, .f32⟩
  | .hbm, ⟨2, _⟩ => ⟨S256x320, .f32⟩
  | .hbm, ⟨3, _⟩ => ⟨S256x320, .f32⟩
  | .hbm, ⟨4, _⟩ => ⟨S_, .f32⟩
  | .hbm, ⟨5, _⟩ => ⟨S256x320, .f32⟩
  | .hbm, ⟨6, _⟩ => ⟨S256x320, .f32⟩
  | .hbm, ⟨7, _⟩ => ⟨S_, .f32⟩
  | .hbm, ⟨8, _⟩ => ⟨S256x320, .f32⟩
  | .hbm, ⟨9, _⟩ => ⟨S256x320, .f32⟩
  | .hbm, ⟨10, _⟩ => ⟨S256x320, .f32⟩
  | .hbm, ⟨11, _⟩ => ⟨S_, .f32⟩
  | .hbm, ⟨12, _⟩ => ⟨S256x320, .f32⟩
  | .hbm, ⟨13, _⟩ => ⟨S256x320, .f32⟩
  | .hbm, ⟨14, _⟩ => ⟨S256x320, .f32⟩
  | .hbm, ⟨15, _⟩ => ⟨S_, .f32⟩
  | .hbm, ⟨16, _⟩ => ⟨S256x320, .f32⟩
  | .hbm, ⟨17, _⟩ => ⟨S256x320, .f32⟩
  | .hbm, ⟨18, _⟩ => ⟨S256x320, .f32⟩
  | .hbm, ⟨19, _⟩ => ⟨S_, .f32⟩
  | .hbm, ⟨20, _⟩ => ⟨S256x320, .f32⟩
  | .hbm, ⟨21, _⟩ => ⟨S256x320, .f32⟩
  | .hbm, ⟨22, _⟩ => ⟨S_, .f32⟩
  | .hbm, ⟨23, _⟩ => ⟨S256x320, .f32⟩
  | .hbm, ⟨24, _⟩ => ⟨S256x320, .f32⟩
  | .hbm, ⟨25, _⟩ => ⟨S256x320, .f32⟩
  | .hbm, ⟨26, _⟩ => ⟨S_, .f32⟩
  | .hbm, ⟨27, _⟩ => ⟨S256x320, .f32⟩
  | .hbm, ⟨28, _⟩ => ⟨S256x320, .f32⟩
  | .hbm, ⟨29, _⟩ => ⟨S256x320, .f32⟩
  | .hbm, ⟨30, _⟩ => ⟨S_, .f32⟩
  | .hbm, ⟨31, _⟩ => ⟨S256x320, .f32⟩
  | .hbm, ⟨32, _⟩ => ⟨S256x320, .f32⟩
  | .hbm, ⟨33, _⟩ => ⟨S256x320, .f32⟩
  | .hbm, ⟨34, _⟩ => ⟨S_, .f32⟩
  | .hbm, ⟨35, _⟩ => ⟨S256x320, .f32⟩
  | .hbm, ⟨36, _⟩ => ⟨S256x320, .f32⟩
  | _, _ => ⟨S256x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel16Ideal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x256x768 : Shape := ⟨3, ![1, 256, 768]⟩
abbrev S256x768 : Shape := ⟨2, ![256, 768]⟩

abbrev nBuf : Space → Nat
  | .hbm => 11
  | .vmem => 7
  | .smem => 0
  | _ => 0

abbrev bufTy : (tb : Table) → Fin (tcTables nBuf tb) → BufTy
  | .hbm, ⟨0, _⟩ => ⟨S1x256x768, .f32⟩
  | .hbm, ⟨1, _⟩ => ⟨S1x256x768, .f32⟩
  | .hbm, ⟨2, _⟩ => ⟨S1x256x768, .f32⟩
  | .hbm, ⟨3, _⟩ => ⟨S1x256x768, .f32⟩
  | .hbm, ⟨4, _⟩ => ⟨S256x768, .f32⟩
  | .hbm, ⟨5, _⟩ => ⟨S256x768, .f32⟩
  | .hbm, ⟨6, _⟩ => ⟨S256x768, .f32⟩
  | .hbm, ⟨7, _⟩ => ⟨S256x768, .f32⟩
  | .hbm, ⟨8, _⟩ => ⟨S256x768, .f32⟩
  | .hbm, ⟨9, _⟩ => ⟨S256x768, .f32⟩
  | .hbm, ⟨10, _⟩ => ⟨S256x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | _, _ => ⟨S1x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
abbrev S1x256x768 : Shape := ⟨3, ![1, 256, 768]⟩
abbrev S256x768 : Shape := ⟨2, ![256, 768]⟩

abbrev nBuf : Space → Nat
  | .hbm => 11
  | .vmem => 7
  | .smem => 0
  | _ => 0

abbrev bufTy : (tb : Table) → Fin (tcTables nBuf tb) → BufTy
  | .hbm, ⟨0, _⟩ => ⟨S1x256x768, .f32⟩
  | .hbm, ⟨1, _⟩ => ⟨S1x256x768, .f32⟩
  | .hbm, ⟨2, _⟩ => ⟨S1x256x768, .f32⟩
  | .hbm, ⟨3, _⟩ => ⟨S1x256x768, .f32⟩
  | .hbm, ⟨4, _⟩ => ⟨S256x768, .f32⟩
  | .hbm, ⟨5, _⟩ => ⟨S256x768, .f32⟩
  | .hbm, ⟨6, _⟩ => ⟨S256x768, .f32⟩
  | .hbm, ⟨7, _⟩ => ⟨S256x768, .f32⟩
  | .hbm, ⟨8, _⟩ => ⟨S256x768, .f32⟩
  | .hbm, ⟨9, _⟩ => ⟨S256x768, .f32⟩
  | .hbm, ⟨10, _⟩ => ⟨S256x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | _, _ => ⟨S1x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S1x256x768 : Shape := ⟨3, ![1, 256, 768]⟩
abbrev S_ : Shape := ⟨0, ![]⟩
abbrev S256x768 : Shape := ⟨2, ![256, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x256x768, .f32⟩
  | .hbm, ⟨1, _⟩ => ⟨S1x256x768, .f32⟩
  | .hbm, ⟨2, _⟩ => ⟨S1x256x768, .f32⟩
  | .hbm, ⟨3, _⟩ => ⟨S1x256x768, .f32⟩
  | .hbm, ⟨4, _⟩ => ⟨S_, .f32⟩
  | .hbm, ⟨5, _⟩ => ⟨S1x256x768, .f32⟩
  | .hbm, ⟨6, _⟩ => ⟨S1x256x768, .f32⟩
  | .hbm, ⟨7, _⟩ => ⟨S_, .f32⟩
  | .hbm, ⟨8, _⟩ => ⟨S1x256x768, .f32⟩
  | .hbm, ⟨9, _⟩ => ⟨S1x256x768, .f32⟩
  | .hbm, ⟨10, _⟩ => ⟨S1x256x768, .f32⟩
  | .hbm, ⟨11, _⟩ => ⟨S_, .f32⟩
  | .hbm, ⟨12, _⟩ => ⟨S1x256x768, .f32⟩
  | .hbm, ⟨13, _⟩ => ⟨S1x256x768, .f32⟩
  | .hbm, ⟨14, _⟩ => ⟨S1x256x768, .f32⟩
  | .hbm, ⟨15, _⟩ => ⟨S_, .f32⟩
  | .hbm, ⟨16, _⟩ => ⟨S1x256x768, .f32⟩
  | .hbm, ⟨17, _⟩ => ⟨S1x256x768, .f32⟩
  | .hbm, ⟨18, _⟩ => ⟨S1x256x768, .f32⟩
  | .hbm, ⟨19, _⟩ => ⟨S_, .f32⟩
  | .hbm, ⟨20, _⟩ => ⟨S1x256x768, .f32⟩
  | .hbm, ⟨21, _⟩ => ⟨S1x256x768, .f32⟩
  | .hbm, ⟨22, _⟩ => ⟨S_, .f32⟩
  | .hbm, ⟨23, _⟩ => ⟨S1x256x768, .f32⟩
  | .hbm, ⟨24, _⟩ => ⟨S1x256x768, .f32⟩
  | .hbm, ⟨25, _⟩ => ⟨S1x256x768, .f32⟩
  | .hbm, ⟨26, _⟩ => ⟨S_, .f32⟩
  | .hbm, ⟨27, _⟩ => ⟨S1x256x768, .f32⟩
  | .hbm, ⟨28, _⟩ => ⟨S1x256x768, .f32⟩
  | .hbm, ⟨29, _⟩ => ⟨S1x256x768, .f32⟩
  | .hbm, ⟨30, _⟩ => ⟨S_, .f32⟩
  | .hbm, ⟨31, _⟩ => ⟨S1x256x768, .f32⟩
  | .hbm, ⟨32, _⟩ => ⟨S1x256x768, .f32⟩
  | .hbm, ⟨33, _⟩ => ⟨S1x256x768, .f32⟩
  | .hbm, ⟨34, _⟩ => ⟨S_, .f32⟩
  | .hbm, ⟨35, _⟩ => ⟨S1x256x768, .f32⟩
  | .hbm, ⟨36, _⟩ => ⟨S1x256x768, .f32⟩
  | .hbm, ⟨37, _⟩ => ⟨S256x768, .f32⟩
  | .hbm, ⟨38, _⟩ => ⟨S256x768, .f32⟩
  | .hbm, ⟨39, _⟩ => ⟨S256x768, .f32⟩
  | _, _ => ⟨S1x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S1x768x384 : Shape := ⟨3, ![1, 768, 384]⟩
abbrev S768x384 : Shape := ⟨2, ![768, 384]⟩
abbrev S384x384 : Shape := ⟨2, ![384, 384]⟩

abbrev nBuf : Space → Nat
  | .hbm => 11
  | .vmem => 14
  | .smem => 0
  | _ => 0

abbrev bufTy : (tb : Table) → Fin (tcTables nBuf tb) → BufTy
  | .hbm, ⟨0, _⟩ => ⟨S1x768x384, .f32⟩
  | .hbm, ⟨1, _⟩ => ⟨S1x768x384, .f32⟩
  | .hbm, ⟨2, _⟩ => ⟨S1x768x384, .f32⟩
  | .hbm, ⟨3, _⟩ => ⟨S1x768x384, .f32⟩
  | .hbm, ⟨4, _⟩ => ⟨S768x384, .f32⟩
  | .hbm, ⟨5, _⟩ => ⟨S768x384, .f32⟩
  | .hbm, ⟨6, _⟩ => ⟨S768x384, .f32⟩
  | .hbm, ⟨7, _⟩ => ⟨S768x384, .f32⟩
  | .hbm, ⟨8, _⟩ => ⟨S768x384, .f32⟩
  | .hbm, ⟨9, _⟩ => ⟨S768x384, .f32⟩
  | .hbm, ⟨10, _⟩ => ⟨S768x384, .f32⟩
  | .local _ .vmem, ⟨0, _⟩ => ⟨S384x384, .f32⟩
  | .local _ .vmem, ⟨1, _⟩ => ⟨S384x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S384x384, .f32⟩
  | .local _ .vmem, ⟨6, _⟩ => ⟨S384x384, .f32⟩
  | .local _ .vmem, ⟨7, _⟩ => ⟨S384x384, .f32⟩
  | .local _ .vmem, ⟨8, _⟩ => ⟨S384x384, .f32⟩
  | .local _ .vmem, ⟨9, _⟩ => ⟨S384x384, .f32⟩
  | .local _ .vmem, ⟨10, _⟩ => ⟨S384x384, .f32⟩
  | .local _ .vmem, ⟨11, _⟩ => ⟨S384x384, .f32⟩
  | .local _ .vmem, ⟨12, _⟩ => ⟨S384x384, .f32⟩
  | .local _ .vmem, ⟨13, _⟩ => ⟨S384x384, .f32⟩
  | _, _ => ⟨S1x768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1x768x384 : Shape := ⟨3, ![1, 768, 384]⟩
abbrev S_ : Shape := ⟨0, ![]⟩
abbrev S768x384 : Shape := ⟨2, ![768, 384]⟩

abbrev nBuf : Space → Nat
  | .hbm => 40
  | .vmem => 0
  | .smem => 0
  | _ => 0

abbrev bufTy : (tb : Table) → Fin (tcTables nBuf tb) → BufTy
  | .hbm, ⟨0, _⟩ => ⟨S1x768x384, .f32⟩
  | .hbm, ⟨1, _⟩ => ⟨S1x768x384, .f32⟩
  | .hbm, ⟨2, _⟩ => ⟨S1x768x384, .f32⟩
  | .hbm, ⟨3, _⟩ => ⟨S1x768x384, .f32⟩
  | .hbm, ⟨4, _⟩ => ⟨S_, .f32⟩
  | .hbm, ⟨5, _⟩ => ⟨S1x768x384, .f32⟩
  | .hbm, ⟨6, _⟩ => ⟨S1x768x384, .f32⟩
  | .hbm, ⟨7, _⟩ => ⟨S_, .f32⟩
  | .hbm, ⟨8, _⟩ => ⟨S1x768x384, .f32⟩
  | .hbm, ⟨9, _⟩ => ⟨S1x768x384, .f32⟩
  | .hbm, ⟨10, _⟩ => ⟨S1x768x384, .f32⟩
  | .hbm, ⟨11, _⟩ => ⟨S_, .f32⟩
  | .hbm, ⟨12, _⟩ => ⟨S1x768x384, .f32⟩
  | .hbm, ⟨13, _⟩ => ⟨S1x768x384, .f32⟩
  | .hbm, ⟨14, _⟩ => ⟨S1x768x384, .f32⟩
  | .hbm, ⟨15, _⟩ => ⟨S_, .f32⟩
  | .hbm, ⟨16, _⟩ => ⟨S1x768x384, .f32⟩
  | .hbm, ⟨17, _⟩ => ⟨S1x768x384, .f32⟩
  | .hbm, ⟨18, _⟩ => ⟨S1x768x384, .f32⟩
  | .hbm, ⟨19, _⟩ => ⟨S_, .f32⟩
  | .hbm, ⟨20, _⟩ => ⟨S1x768x384, .f32⟩
  | .hbm, ⟨21, _⟩ => ⟨S1x768x384, .f32⟩
  | .hbm, ⟨22, _⟩ => ⟨S_, .f32⟩
  | .hbm, ⟨23, _⟩ => ⟨S1x768x384, .f32⟩
  | .hbm, ⟨24, _⟩ => ⟨S1x768x384, .f32⟩
  | .hbm, ⟨25, _⟩ => ⟨S1x768x384, .f32⟩
  | .hbm, ⟨26, _⟩ => ⟨S_, .f32⟩
  | .hbm, ⟨27, _⟩ => ⟨S1x768x384, .f32⟩
  | .hbm, ⟨28, _⟩ => ⟨S1x768x384, .f32⟩
  | .hbm, ⟨29, _⟩ => ⟨S1x768x384, .f32⟩
  | .hbm, ⟨30, _⟩ => ⟨S_, .f32⟩
  | .hbm, ⟨31, _⟩ => ⟨S1x768x384, .f32⟩
  | .hbm, ⟨32, _⟩ => ⟨S1x768x384, .f32⟩
  | .hbm, ⟨33, _⟩ => ⟨S1x768x384, .f32⟩
  | .hbm, ⟨34, _⟩ => ⟨S_, .f32⟩
  | .hbm, ⟨35, _⟩ => ⟨S1x768x384, .f32⟩
  | .hbm, ⟨36, _⟩ => ⟨S1x768x384, .f32⟩
  | .hbm, ⟨37, _⟩ => ⟨S768x384, .f32⟩
  | .hbm, ⟨38, _⟩ => ⟨S768x384, .f32⟩
  | .hbm, ⟨39, _⟩ => ⟨S768x384, .f32⟩
  | _, _ => ⟨S1x768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S2x1024 : Shape := ⟨2, ![2, 1024]⟩
abbrev S1x16x257 : Shape := ⟨3, ![1, 16, 257]⟩
abbrev S1024 : Shape := ⟨1, ![1024]⟩
abbrev S256 : Shape := ⟨1, ![256]⟩
abbrev S1x768 : Shape := ⟨2, ![1, 768]⟩
abbrev S2048 : Shape := ⟨1, ![2048]⟩
abbrev S4112 : Shape := ⟨1, ![4112]⟩
abbrev S768 : Shape := ⟨1, ![768]⟩
abbrev S13328 : Shape := ⟨1, ![13328]⟩
abbrev S_ : Shape := ⟨0, ![]⟩
abbrev S14336 : Shape := ⟨1, ![14336]⟩
abbrev S112x128 : Shape := ⟨2, ![112, 128]⟩

abbrev nBuf : Space → Nat
  | .hbm => 117
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S1x16x257, .f32⟩
  | .hbm, ⟨4, _⟩ => ⟨S1024, .f32⟩
  | .hbm, ⟨5, _⟩ => ⟨S256, .f32⟩
  | .hbm, ⟨6, _⟩ => ⟨S1x768, .f32⟩
  | .hbm, ⟨7, _⟩ => ⟨S1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S1x16x257, .f32⟩
  | .hbm, ⟨12, _⟩ => ⟨S1024, .f32⟩
  | .hbm, ⟨13, _⟩ => ⟨S256, .f32⟩
  | .hbm, ⟨14, _⟩ => ⟨S1x768, .f32⟩
  | .hbm, ⟨15, _⟩ => ⟨S1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S1x16x257, .f32⟩
  | .hbm, ⟨20, _⟩ => ⟨S1024, .f32⟩
  | .hbm, ⟨21, _⟩ => ⟨S256, .f32⟩
  | .hbm, ⟨22, _⟩ => ⟨S1x768, .f32⟩
  | .hbm, ⟨23, _⟩ => ⟨S1024, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S1x16x257, .f32⟩
  | .hbm, ⟨28, _⟩ => ⟨S1024, .f32⟩
  | .hbm, ⟨29, _⟩ => ⟨S256, .f32⟩
  | .hbm, ⟨30, _⟩ => ⟨S1x768, .f32⟩
  | .hbm, ⟨31, _⟩ => ⟨S1024, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S4112, .f32⟩
  | .hbm, ⟨36, _⟩ => ⟨S768, .f32⟩
  | .hbm, ⟨37, _⟩ => ⟨S13328, .f32⟩
  | .hbm, ⟨38, _⟩ => ⟨S_, .i32⟩
  | .hbm, ⟨39, _⟩ => ⟨S_, .f32⟩
  | .hbm, ⟨40, _⟩ => ⟨S14336, .f32⟩
  | .hbm, ⟨41, _⟩ => ⟨S112x128, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S4112, .f32⟩
  | .hbm, ⟨46, _⟩ => ⟨S768, .f32⟩
  | .hbm, ⟨47, _⟩ => ⟨S13328, .f32⟩
  | .hbm, ⟨48, _⟩ => ⟨S_, .i32⟩
  | .hbm, ⟨49, _⟩ => ⟨S_, .f32⟩
  | .hbm, ⟨50, _⟩ => ⟨S14336, .f32⟩
  | .hbm, ⟨51, _⟩ => ⟨S112x128, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S4112, .f32⟩
  | .hbm, ⟨56, _⟩ => ⟨S768, .f32⟩
  | .hbm, ⟨57, _⟩ => ⟨S13328, .f32⟩
  | .hbm, ⟨58, _⟩ => ⟨S_, .i32⟩
  | .hbm, ⟨59, _⟩ => ⟨S_, .f32⟩
  | .hbm, ⟨60, _⟩ => ⟨S14336, .f32⟩
  | .hbm, ⟨61, _⟩ => ⟨S112x128, .f32⟩
  | .hbm, ⟨62, _⟩ => ⟨S2048, .f32⟩
  | .hbm, ⟨63, _⟩ => ⟨S2048, .f32⟩
  | .hbm, ⟨64, _⟩ => ⟨S2048, .f32⟩
  | .hbm, ⟨65, _⟩ => ⟨S4112, .f32⟩
  | .hbm, ⟨66, _⟩ => ⟨S768, .f32⟩
  | .hbm, ⟨67, _⟩ => ⟨S13328, .f32⟩
  | .hbm, ⟨68, _⟩ => ⟨S_, .i32⟩
  | .hbm, ⟨69, _⟩ => ⟨S_, .f32⟩
  | .hbm, ⟨70, _⟩ => ⟨S14336, .f32⟩
  | .hbm, ⟨71, _⟩ => ⟨S112x128, .f32⟩
  | .hbm, ⟨72, _⟩ => ⟨S112x128, .f32⟩
  | .hbm, ⟨73, _⟩ => ⟨S112x128, .f32⟩
  | .hbm, ⟨74, _⟩ => ⟨S112x128, .f32⟩
  | .hbm, ⟨75, _⟩ => ⟨S14336, .f32⟩
  | .hbm, ⟨76, _⟩ => ⟨S2048, .f32⟩
  | .hbm, ⟨77, _⟩ => ⟨S2x1024, .f32⟩
  | .hbm, ⟨78, _⟩ => ⟨S2048, .f32⟩
  | .hbm, ⟨79, _⟩ => ⟨S2x1024, .f32⟩
  | .hbm, ⟨80, _⟩ => ⟨S2048, .f32⟩
  | .hbm, ⟨81, _⟩ => ⟨S2x1024, .f32⟩
  | .hbm, ⟨82, _⟩ => ⟨S4112, .f32⟩
  | .hbm, ⟨83, _⟩ => ⟨S1x16x257, .f32⟩
  | .hbm, ⟨84, _⟩ => ⟨S1024, .f32⟩
  | .hbm, ⟨85, _⟩ => ⟨S256, .f32⟩
  | .hbm, ⟨86, _⟩ => ⟨S768, .f32⟩
  | .hbm, ⟨87, _⟩ => ⟨S1x768, .f32⟩
  | .hbm, ⟨88, _⟩ => ⟨S1024, .f32⟩
  | .hbm, ⟨89, _⟩ => ⟨S14336, .f32⟩
  | .hbm, ⟨90, _⟩ => ⟨S2048, .f32⟩
  | .hbm, ⟨91, _⟩ => ⟨S2x1024, .f32⟩
  | .hbm, ⟨92, _⟩ => ⟨S2048, .f32⟩
  | .hbm, ⟨93, _⟩ => ⟨S2x1024, .f32⟩
  | .hbm, ⟨94, _⟩ => ⟨S2048, .f32⟩
  | .hbm, ⟨95, _⟩ => ⟨S2x1024, .f32⟩
  | .hbm, ⟨96, _⟩ => ⟨S4112, .f32⟩
  | .hbm, ⟨97, _⟩ => ⟨S1x16x257, .f32⟩
  | .hbm, ⟨98, _⟩ => ⟨S1024, .f32⟩
  | .hbm, ⟨99, _⟩ => ⟨S256, .f32⟩
  | .hbm, ⟨100, _⟩ => ⟨S768, .f32⟩
  | .hbm, ⟨101, _⟩ => ⟨S1x768, .f32⟩
  | .hbm, ⟨102, _⟩ => ⟨S1024, .f32⟩
  | .hbm, ⟨103, _⟩ => ⟨S14336, .f32⟩
  | .hbm, ⟨104, _⟩ => ⟨S2048, .f32⟩
  | .hbm, ⟨105, _⟩ => ⟨S2x1024, .f32⟩
  | .hbm, ⟨106, _⟩ => ⟨S2048, .f32⟩
  | .hbm, ⟨107, _⟩ => ⟨S2x1024, .f32⟩
  | .hbm, ⟨108, _⟩ => ⟨S2048, .f32⟩
  | .hbm, ⟨109, _⟩ => ⟨S2x1024, .f32⟩
  | .hbm, ⟨110, _⟩ => ⟨S4112, .f32⟩
  | .hbm, ⟨111, _⟩ => ⟨S1x16x257, .f32⟩
  | .hbm, ⟨112, _⟩ => ⟨S1024, .f32⟩
  | .hbm, ⟨113, _⟩ => ⟨S256, .f32⟩
  | .hbm, ⟨114, _⟩ => ⟨S768, .f32⟩
  | .hbm, ⟨115, _⟩ => ⟨S1x768, .f32⟩
  | .hbm, ⟨116, _⟩ => ⟨S1024, .f32⟩
  | .local _ .vmem, ⟨0, _⟩ => ⟨S112x128, .f32⟩
  | .local _ .vmem, ⟨1, _⟩ => ⟨S112x128, .f32⟩
  | .local _ .vmem, ⟨2, _⟩ => ⟨S112x128, .f32⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S112x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_c : Ref sig .tc := ⟨.hbm, 38, rfl⟩
abbrev main_call0_v0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_0 : Ref sig .tc := ⟨.hbm, 48, rfl⟩
abbrev main_call1_v0 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_1 : Ref sig .tc := ⟨.hbm, 58, rfl⟩
abbrev main_call2_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_2 : Ref sig .tc := ⟨.hbm, 68, rfl⟩
abbrev main_call3_v0 : Ref sig .tc := ⟨.hbm, 69, rfl⟩
abbrev main_v30 : Ref sig .tc := ⟨.hbm, 70, rfl⟩
abbrev main_v31 : Ref sig .tc := ⟨.hbm, 71, rfl⟩
abbrev main_v32_0 : Ref sig .tc := ⟨.hbm, 72, rfl⟩
abbrev main_v32_1 : Ref sig .tc := ⟨.hbm, 73, rfl⟩
abbrev main_v32_2 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S2x1024 : Shape := ⟨2, ![2, 1024]⟩
abbrev S1x16x257 : Shape := ⟨3, ![1, 16, 257]⟩
abbrev S1024 : Shape := ⟨1, ![1024]⟩
abbrev S256 : Shape := ⟨1, ![256]⟩
abbrev S1x768 : Shape := ⟨2, ![1, 768]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S2x1024, .f32⟩
  | 1 => ⟨S2x1024, .f32⟩
  | 2 => ⟨S2x1024, .f32⟩
  | 3 => ⟨S1x16x257, .f32⟩
  | 4 => ⟨S1024, .f32⟩
  | 5 => ⟨S256, .f32⟩
  | 6 => ⟨S1x768, .f32⟩
  | 7 => ⟨S1024, .f32⟩
  | 8 => ⟨S2x1024, .f32⟩
  | 9 => ⟨S2x1024, .f32⟩
  | 10 => ⟨S2x1024, .f32⟩
  | 11 => ⟨S1x16x257, .f32⟩
  | 12 => ⟨S1024, .f32⟩
  | 13 => ⟨S256, .f32⟩
  | 14 => ⟨S1x768, .f32⟩
  | 15 => ⟨S1024, .f32⟩
  | 16 => ⟨S2x1024, .f32⟩
  | 17 => ⟨S2x1024, .f32⟩
  | 18 => ⟨S2x1024, .f32⟩
  | 19 => ⟨S1x16x257, .f32⟩
  | 20 => ⟨S1024, .f32⟩
  | 21 => ⟨S256, .f32⟩
  | 22 => ⟨S1x768, .f32⟩
  | 23 => ⟨S1024, .f32⟩
  | 24 => ⟨S2x1024, .f32⟩
  | 25 => ⟨S2x1024, .f32⟩
  | 26 => ⟨S2x1024, .f32⟩
  | 27 => ⟨S1x16x257, .f32⟩
  | 28 => ⟨S1024, .f32⟩
  | 29 => ⟨S256, .f32⟩
  | 30 => ⟨S1x768, .f32⟩
  | 31 => ⟨S1024, .f32⟩
  | 32 => ⟨S_, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S_, .f32⟩
  | 66 => ⟨S2x1024, .f32⟩
  | 67 => ⟨S2x1024, .f32⟩
  | 68 => ⟨S_, .f32⟩
  | 69 => ⟨S2x1024, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S_, .f32⟩
  | 84 => ⟨S2x1024, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S_, .f32⟩
  | 99 => ⟨S2x1024, .f32⟩
  | 100 => ⟨S2x1024, .f32⟩
  | 101 => ⟨S_, .f32⟩
  | 102 => ⟨S2x1024, .f32⟩
  | 103 => ⟨S2x1024, .f32⟩
  | 104 => ⟨S2x1024, .f32⟩
  | 105 => ⟨S_, .f32⟩
  | 106 => ⟨S2x1024, .f32⟩
  | 107 => ⟨S2x1024, .f32⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S_, .f32⟩
  | 117 => ⟨S2x1024, .f32⟩
  | 118 => ⟨S2x1024, .f32⟩
  | 119 => ⟨S2x1024, .f32⟩
  | 120 => ⟨S_, .f32⟩
  | 121 => ⟨S2x1024, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S2x1024, .f32⟩
  | _ => ⟨S2x1024, .f32⟩

abbrev hbmTy0_1 (i : Nat) : BufTy := match i % 128 with
  | 0 => ⟨S_, .f32⟩
  | 1 => ⟨S2x1024, .f32⟩
  | 2 => ⟨S2x1024, .f32⟩
  | 3 => ⟨S_, .f32⟩
  | 4 => ⟨S1x16x257, .f32⟩
  | 5 => ⟨S1x16x257, .f32⟩
  | 6 => ⟨S_, .f32⟩
  | 7 => ⟨S1x16x257, .f32⟩
  | 8 => ⟨S1x16x257, .f32⟩
  | 9 => ⟨S1x16x257, .f32⟩
  | 10 => ⟨S_, .f32⟩
  | 11 => ⟨S1x16x257, .f32⟩
  | 12 => ⟨S1x16x257, .f32⟩
  | 13 => ⟨S1x16x257, .f32⟩
  | 14 => ⟨S_, .f32⟩
  | 15 => ⟨S1x16x257, .f32⟩
  | 16 => ⟨S1x16x257, .f32⟩
  | 17 => ⟨S1x16x257, .f32⟩
  | 18 => ⟨S_, .f32⟩
  | 19 => ⟨S1x16x257, .f32⟩
  | 20 => ⟨S1x16x257, .f32⟩
  | 21 => ⟨S_, .f32⟩
  | 22 => ⟨S1x16x257, .f32⟩
  | 23 => ⟨S1x16x257, .f32⟩
  | 24 => ⟨S1x16x257, .f32⟩
  | 25 => ⟨S_, .f32⟩
  | 26 => ⟨S1x16x257, .f32⟩
  | 27 => ⟨S1x16x257, .f32⟩
  | 28 => ⟨S1x16x257, .f32⟩
  | 29 => ⟨S_, .f32⟩
  | 30 => ⟨S1x16x257, .f32⟩
  | 31 => ⟨S1x16x257, .f32⟩
  | 32 => ⟨S1x16x257, .f32⟩
  | 33 => ⟨S_, .f32⟩
  | 34 => ⟨S1x16x257, .f32⟩
  | 35 => ⟨S1x16x257, .f32⟩
  | 36 => ⟨S_, .f32⟩
  | 37 => ⟨S1024, .f32⟩
  | 38 => ⟨S1024, .f32⟩
  | 39 => ⟨S_, .f32⟩
  | 40 => ⟨S1024, .f32⟩
  | 41 => ⟨S1024, .f32⟩
  | 42 => ⟨S1024, .f32⟩
  | 43 => ⟨S_, .f32⟩
  | 44 => ⟨S1024, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S_, .f32⟩
  | 55 => ⟨S1024, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S_, .f32⟩
  | 70 => ⟨S256, .f32⟩
  | 71 => ⟨S256, .f32⟩
  | 72 => ⟨S_, .f32⟩
  | 73 => ⟨S256, .f32⟩
  | 74 => ⟨S256, .f32⟩
  | 75 => ⟨S256, .f32⟩
  | 76 => ⟨S_, .f32⟩
  | 77 => ⟨S256, .f32⟩
  | 78 => ⟨S256, .f32⟩
  | 79 => ⟨S256, .f32⟩
  | 80 => ⟨S_, .f32⟩
  | 81 => ⟨S256, .f32⟩
  | 82 => ⟨S256, .f32⟩
  | 83 => ⟨S256, .f32⟩
  | 84 => ⟨S_, .f32⟩
  | 85 => ⟨S256, .f32⟩
  | 86 => ⟨S256, .f32⟩
  | 87 => ⟨S_, .f32⟩
  | 88 => ⟨S256, .f32⟩
  | 89 => ⟨S256, .f32⟩
  | 90 => ⟨S256, .f32⟩
  | 91 => ⟨S_, .f32⟩
  | 92 => ⟨S256, .f32⟩
  | 93 => ⟨S256, .f32⟩
  | 94 => ⟨S256, .f32⟩
  | 95 => ⟨S_, .f32⟩
  | 96 => ⟨S256, .f32⟩
  | 97 => ⟨S256, .f32⟩
  | 98 => ⟨S256, .f32⟩
  | 99 => ⟨S_, .f32⟩
  | 100 => ⟨S256, .f32⟩
  | 101 => ⟨S256, .f32⟩
  | 102 => ⟨S_, .f32⟩
  | 103 => ⟨S1x768, .f32⟩
  | 104 => ⟨S1x768, .f32⟩
  | 105 => ⟨S_, .f32⟩
  | 106 => ⟨S1x768, .f32⟩
  | 107 => ⟨S1x768, .f32⟩
  | 108 => ⟨S1x768, .f32⟩
  | 109 => ⟨S_, .f32⟩
  | 110 => ⟨S1x768, .f32⟩
  | 111 => ⟨S1x768, .f32⟩
  | 112 => ⟨S1x768, .f32⟩
  | 113 => ⟨S_, .f32⟩
  | 114 => ⟨S1x768, .f32⟩
  | 115 => ⟨S1x768, .f32⟩
  | 116 => ⟨S1x768, .f32⟩
  | 117 => ⟨S_, .f32⟩
  | 118 => ⟨S1x768, .f32⟩
  | 119 => ⟨S1x768, .f32⟩
  | 120 => ⟨S_, .f32⟩
  | 121 => ⟨S1x768, .f32⟩
  | 122 => ⟨S1x768, .f32⟩
  | 123 => ⟨S1x768, .f32⟩
  | 124 => ⟨S_, .f32⟩
  | 125 => ⟨S1x768, .f32⟩
  | 126 => ⟨S1x768, .f32⟩
  | 127 => ⟨S1x768, .f32⟩
  | _ => ⟨S2x1024, .f32⟩

abbrev hbmTy0_2 (i : Nat) : BufTy := match i % 128 with
  | 0 => ⟨S_, .f32⟩
  | 1 => ⟨S1x768, .f32⟩
  | 2 => ⟨S1x768, .f32⟩
  | 3 => ⟨S1x768, .f32⟩
  | 4 => ⟨S_, .f32⟩
  | 5 => ⟨S1x768, .f32⟩
  | 6 => ⟨S1x768, .f32⟩
  | 7 => ⟨S_, .f32⟩
  | 8 => ⟨S1024, .f32⟩
  | 9 => ⟨S1024, .f32⟩
  | 10 => ⟨S_, .f32⟩
  | 11 => ⟨S1024, .f32⟩
  | 12 => ⟨S1024, .f32⟩
  | 13 => ⟨S1024, .f32⟩
  | 14 => ⟨S_, .f32⟩
  | 15 => ⟨S1024, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S1024, .f32⟩
  | 29 => ⟨S_, .f32⟩
  | 30 => ⟨S1024, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Kernel22Ideal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference22Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S4096x1024 : Shape := ⟨2, ![4096, 1024]⟩
abbrev S1024x768 : Shape := ⟨2, ![1024, 768]⟩
abbrev S4096x768 : Shape := ⟨2, ![4096, 768]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x768, .f32⟩
  | .hbm, ⟨2, _⟩ => ⟨S4096x1024, .bf16⟩
  | .hbm, ⟨3, _⟩ => ⟨S1024x768, .bf16⟩
  | .hbm, ⟨4, _⟩ => ⟨S4096x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x1024 : Shape := ⟨2, ![4096, 1024]⟩
abbrev S1024x768 : Shape := ⟨2, ![1024, 768]⟩
abbrev S4096x768 : Shape := ⟨2, ![4096, 768]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x768, .f32⟩
  | .hbm, ⟨2, _⟩ => ⟨S4096x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S4096x1024 : Shape := ⟨2, ![4096, 1024]⟩
abbrev S4096x768 : Shape := ⟨2, ![4096, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S4096x1024, .bf16⟩
  | .hbm, ⟨3, _⟩ => ⟨S1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .f32⟩
  | .local _ .vmem, ⟨3, _⟩ => ⟨S2048x768, .f32⟩
  | .local _ .vmem, ⟨4, _⟩ => ⟨S1024x768, .bf16⟩
  | .local _ .vmem, ⟨5, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference24Ideal.lean ====
abbrev S4096x1024 : Shape := ⟨2, ![4096, 1024]⟩
abbrev S4096x768 : Shape := ⟨2, ![4096, 768]⟩
abbrev S_ : Shape := ⟨0, ![]⟩
abbrev S1024x768 : Shape := ⟨2, ![1024, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S_, .f32⟩
  | .hbm, ⟨3, _⟩ => ⟨S1024x768, .f32⟩
  | .hbm, ⟨4, _⟩ => ⟨S4096x768, .f32⟩
  | .hbm, ⟨5, _⟩ => ⟨S768x1024, .f32⟩
  | .hbm, ⟨6, _⟩ => ⟨S1024x768, .f32⟩
  | .hbm, ⟨7, _⟩ => ⟨S1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x768 : Shape := ⟨2, ![4096, 768]⟩
abbrev S1024x768 : Shape := ⟨2, ![1024, 768]⟩
abbrev S4096x1024 : Shape := ⟨2, ![4096, 1024]⟩
abbrev S512x768 : Shape := ⟨2, ![512, 768]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S1024x768, .f32⟩
  | .hbm, ⟨2, _⟩ => ⟨S1024x768, .bf16⟩
  | .hbm, ⟨3, _⟩ => ⟨S4096x1024, .f32⟩
  | .local _ .vmem, ⟨0, _⟩ => ⟨S512x768, .f32⟩
  | .local _ .vmem, ⟨1, _⟩ => ⟨S512x768, .f32⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S4096x768 : Shape := ⟨2, ![4096, 768]⟩
abbrev S1024x768 : Shape := ⟨2, ![1024, 768]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1024x768, .f32⟩
  | .hbm, ⟨2, _⟩ => ⟨S_, .f32⟩
  | .hbm, ⟨3, _⟩ => ⟨S4096x1024, .f32⟩
  | .hbm, ⟨4, _⟩ => ⟨S4096x768, .f32⟩
  | .hbm, ⟨5, _⟩ => ⟨S4096x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel26.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel27.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32_21 : BitVec 32 := 0#32
  let v59 : BitVec 1 := Scalar.cmpi .sgt arg0 c0_i32_21
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.Layout.lean ====
/- The two host layouts of the feed-forward block, read at an index: the two halves of the hidden layer interleaved by
   pairs of chips, and a weight cut into one block of columns per chip. -/
module

public import Idealize.ShloMosaic.Lib.Pipeline.Value
public import Idealize.ShloMosaic.Lib.ValueIdx
public import Idealize.ShloMosaic.Lib.KernelVsHost
public import Mathlib.Tactic.Ring

@[expose] public section

set_option maxRecDepth 16384

noncomputable section

namespace Cert.Proof.Layout

open Idealize.ShloMosaic Idealize.ShloMosaic.ValueIdx

/-- The column of the plain layout (gate half, then linear half) that stands at column `j` of the paired layout: in pair
    `p` the chip's 1408 gate columns come first and then its 1408 linear columns. -/
def src (j : Fin 5632) : Fin 5632 :=
  ⟨j.val / 1408 % 2 * 2816 + j.val / 2816 * 1408 + j.val % 1408, by have := j.isLt; omega⟩

/-- The hidden feature that column `j` of the paired layout belongs to. -/
def feat (j : Fin 5632) : Fin 2816 := ⟨j.val / 2816 * 1408 + j.val % 1408, by have := j.isLt; omega⟩

/-- The gate column of a hidden feature, and its linear column. -/
def gateCol (f : Fin 2816) : Fin 5632 := ⟨f.val, by have := f.isLt; omega⟩
def linCol (f : Fin 2816) : Fin 5632 := ⟨2816 + f.val, by have := f.isLt; omega⟩

theorem src_gate (j : Fin 5632) (h : j.val % 2816 < 1408) : src j = gateCol (feat j) := by
  have := j.isLt
  apply Fin.ext; show j.val / 1408 % 2 * 2816 + j.val / 2816 * 1408 + j.val % 1408 = j.val / 2816 * 1408 + j.val % 1408
  omega

theorem src_lin (j : Fin 5632) (h : ¬j.val % 2816 < 1408) : src j = linCol (feat j) := by
  have := j.isLt
  apply Fin.ext
  show j.val / 1408 % 2 * 2816 + j.val / 2816 * 1408 + j.val % 1408 = 2816 + (j.val / 2816 * 1408 + j.val % 1408)
  omega

section
variable {α : Type}

/-- An array in the paired layout, read at an index. -/
theorem pairs_apply (x : (⟨2, ![4096, 5632]⟩ : Shape).Idx → α)
    (h1 : (⟨2, ![4096, 5632]⟩ : Shape).ShapeCasts ⟨4, ![4096, 2, 2, 1408]⟩)
    (h2 : (⟨4, ![4096, 2, 2, 1408]⟩ : Shape).Transposes [0, 2, 1, 3] ⟨4, ![4096, 2, 2, 1408]⟩)
    (h3 : (⟨4, ![4096, 2, 2, 1408]⟩ : Shape).ShapeCasts ⟨2, ![4096, 5632]⟩) (i : (⟨2, ![4096, 5632]⟩ : Shape).Idx) :
    shapeCast ⟨2, ![4096, 5632]⟩
      (transpose ⟨4, ![4096, 2, 2, 1408]⟩ [0, 2, 1, 3] (shapeCast ⟨4, ![4096, 2, 2, 1408]⟩ x h1) h2) h3 i
      = x (ix2 (i 0) (src (i 1))) := by
  have b0 : (i 0).val < 4096 := (i 0).isLt
  have b1 : (i 1).val < 5632 := (i 1).isLt
  refine (shapeCast_apply _ h3 i (ix4 (i 0) (⟨(i 1).val / 2816, by omega⟩ : Fin 2) (⟨(i 1).val / 1408 % 2, by omega⟩ : Fin 2)
      (⟨(i 1).val % 1408, by omega⟩ : Fin 1408)) (by
    rewrite [Shape.rowMajor_val_four, Shape.rowMajor_val_two]
    show (((i 0).val * 2 + (i 1).val / 2816) * 2 + (i 1).val / 1408 % 2) * 1408 + (i 1).val % 1408
      = (i 0).val * 5632 + (i 1).val
    omega)).trans ?_
  refine (transpose_apply [0, 2, 1, 3] _ h2 (ix4 (i 0) (⟨(i 1).val / 2816, by omega⟩ : Fin 2)
      (⟨(i 1).val / 1408 % 2, by omega⟩ : Fin 2) (⟨(i 1).val % 1408, by omega⟩ : Fin 1408)) (ix4 (i 0) (⟨(i 1).val / 1408 % 2, by omega⟩ : Fin 2)
      (⟨(i 1).val / 2816, by omega⟩ : Fin 2) (⟨(i 1).val % 1408, by omega⟩ : Fin 1408)) (fun b => match b with
    | ⟨0, _⟩ => rfl
    | ⟨1, _⟩ => rfl
    | ⟨2, _⟩ => rfl
    | ⟨3, _⟩ => rfl)).trans ?_
  exact shapeCast_apply x h1 _ _ (by
    rewrite [Shape.rowMajor_val_four, Shape.rowMajor_val_two]
    show (i 0).val * 5632 + ((i 1).val / 1408 % 2 * 2816 + (i 1).val / 2816 * 1408 + (i 1).val % 1408)
      = (((i 0).val * 2 + (i 1).val / 1408 % 2) * 2 + (i 1).val / 2816) * 1408 + (i 1).val % 1408
    omega)

/-- A weight cut by chips, read at an index: of four chips with `n` columns each, chip `c`'s column `l` is column `n c + l`. -/
theorem cut_apply {n N : ℕ} (hN : N = 4 * n) (x : (⟨2, ![1024, N]⟩ : Shape).Idx → α)
    (h1 : (⟨2, ![1024, N]⟩ : Shape).ShapeCasts ⟨3, ![1024, 4, n]⟩)
    (h2 : (⟨3, ![1024, 4, n]⟩ : Shape).Transposes [1, 0, 2] ⟨3, ![4, 1024, n]⟩)
    (i : (⟨3, ![4, 1024, n]⟩ : Shape).Idx) (hb : (i 0).val * n + (i 2).val < N) :
    transpose ⟨3, ![4, 1024, n]⟩ [1, 0, 2] (shapeCast ⟨3, ![1024, 4, n]⟩ x h1) h2 i
      = x (ix2 (i 1) (⟨(i 0).val * n + (i 2).val, hb⟩ : Fin N)) := by
  refine (transpose_apply [1, 0, 2] _ h2 i (ix3 (i 1) (i 0) (i 2)) (fun b => match b with
    | ⟨0, _⟩ => rfl
    | ⟨1, _⟩ => rfl
    | ⟨2, _⟩ => rfl)).trans ?_
  exact shapeCast_apply x h1 _ _ (by
    rewrite [Shape.rowMajor_val_three, Shape.rowMajor_val_two]
    show (i 1).val * N + ((i 0).val * n + (i 2).val) = ((i 1).val * 4 + (i 0).val) * n + (i 2).val
    rw [hN]; ring)

theorem chips_apply (x : (⟨2, ![1024, 5632]⟩ : Shape).Idx → α)
    (h1 : (⟨2, ![1024, 5632]⟩ : Shape).ShapeCasts ⟨3, ![1024, 4, 1408]⟩)
    (h2 : (⟨3, ![1024, 4, 1408]⟩ : Shape).Transposes [1, 0, 2] ⟨3, ![4, 1024, 1408]⟩)
    (i : (⟨3, ![4, 1024, 1408]⟩ : Shape).Idx) (hb : (i 0).val * 1408 + (i 2).val < 5632) :
    transpose ⟨3, ![4, 1024, 1408]⟩ [1, 0, 2] (shapeCast ⟨3, ![1024, 4, 1408]⟩ x h1) h2 i
      = x (ix2 (i 1) (⟨(i 0).val * 1408 + (i 2).val, hb⟩ : Fin 5632)) := cut_apply (by decide) x h1 h2 i hb

end

end Cert.Proof.Layout

end
-- ==== Proof.Reals.lean ====
/- Facts about extended reals that the value modules share: when an entry is real, and how a gate's gradient may be regrouped. -/
module

public import Idealize.ShloMosaic.Lib.IdealHost
public import Idealize.ShloMosaic.PureOps.Ideal.Laws

@[expose] public section

noncomputable section

namespace Cert.Proof.Reals

open Idealize.ShloMosaic

/-- An extended real that is neither infinity. -/
def IsReal (x : EReal) : Prop := ∃ a : ℝ, x = (a : EReal)

theorem ofBits_top : Ideal.ofBits .f32 0x7F800000#32 = ⊤ := by simp [Ideal.ofBits, Ideal.ieee]

theorem isReal_of_abs_lt (x : Ideal .f32)
    (h : FloatOps.cmpf (F := Ideal) (φ := .f32) .olt (FloatOps.hostAbsf (F := Ideal) x) (FloatOps.ofBits .f32 0x7F800000#32) = 1#1) : IsReal x := by
  rw [Ideal.cmpf_def, Ideal.hostAbsf_def, Ideal.absf_def, Ideal.ofBits_def, ofBits_top] at h
  induction x using EReal.rec with
  | bot => exact absurd h (by simp [Ideal.cmp])
  | top => exact absurd h (by simp [Ideal.cmp])
  | coe a => exact ⟨a, rfl⟩

theorem half_eq : Ideal.ofBits .f32 0x3F000000#32 = (((1 : ℝ) / 2 : ℝ) : EReal) := by
  simp [Ideal.ofBits, Ideal.ieee]
  rw [← EReal.coe_mul]
  norm_num

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    obtain ⟨p, hp⟩ := h a (Finset.mem_insert_self a s)
    obtain ⟨q, hq⟩ := ih fun i hi => h i (Finset.mem_insert_of_mem hi)
    exact ⟨p + q, by rw [hp, hq, EReal.coe_add]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves into a sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert b s hb ih => rw [Finset.sum_insert hb, Finset.sum_insert hb, ← ih, EReal.left_distrib_of_nonneg_of_ne_top (EReal.coe_nonneg.2 ha) (EReal.coe_ne_top a)]

/-- The gradient of `g · σ(g)`, in the two groupings, at a real cotangent. -/
theorem gate_grad (g c : EReal) (hc : IsReal c) :
    c * Ideal.logistic g + g * c * (Ideal.logistic g * (1 - Ideal.logistic g))
      = c * (Ideal.logistic g * (1 + g * (1 - Ideal.logistic g))) := by
  obtain ⟨c, rfl⟩ := hc
  induction g using EReal.rec with
  | bot => rw [Ideal.logistic_bot]; simp
  | top =>
    rw [Ideal.logistic_top]
    have h : (1 : EReal) - 1 = 0 := by rw [← EReal.coe_one, ← EReal.coe_sub]; simp
    rw [h]; simp
  | coe g =>
    rw [Ideal.logistic_coe]
    generalize ((1 + Real.exp (-g))⁻¹ : ℝ) = s
    norm_cast
    ring

end Cert.Proof.Reals

end
-- ==== Proof.Norm.lean ====
/- The gradient of a root-mean-square normalisation at one row: the form that multiplies by the reciprocal root twice and
   the form that differentiates the reciprocal root agree, whatever the entries are. -/
module

public import proofs.«01_k».proof.Proof.Reals

@[expose] public section

noncomputable section

namespace Cert.Proof.Norm

open Idealize.ShloMosaic Cert.Proof.Reals

/-- The row's length, the guard under the root and the factor −1/2, as the programs spell them. -/
def len : EReal := Ideal.ofBits .f32 0x44800000#32
def guard : EReal := Ideal.ofBits .f32 0x358637BD#32
def minusHalf : EReal := Ideal.ofBits .f32 0xBF000000#32

/-- The guarded mean square of a row, and its reciprocal root. -/
def meanSq (x : Fin 1024 → EReal) : EReal := Ideal.div (∑ k, x k * x k) len + guard
def rinv (x : Fin 1024 → EReal) : EReal := Ideal.rsqrt (meanSq x)

theorem len_eq : len = ((1024 : ℝ) : EReal) := by
  unfold len
  simp [Ideal.ofBits, Ideal.ieee]
  rw [← EReal.coe_mul]
  norm_num

theorem minusHalf_eq : minusHalf = ((-(1 / 2) : ℝ) : EReal) := by
  unfold minusHalf
  simp [Ideal.ofBits, Ideal.ieee]
  norm_cast
  norm_num

theorem guard_pos : ∃ e : ℝ, 0 < e ∧ guard = (e : EReal) := by
  unfold guard
  simp [Ideal.ofBits, Ideal.ieee]
  rw [← EReal.coe_mul]
  exact ⟨_, by positivity, rfl⟩

theorem div_len (y : EReal) : Ideal.div y len = y * ((1 / 1024 : ℝ) : EReal) := by
  rw [len_eq, Ideal.div_coe (by norm_num)]

/-- An infinite entry makes the mean square infinite. -/
theorem meanSq_top (x : Fin 1024 → EReal) (k : Fin 1024) (h : ¬IsReal (x k)) : meanSq x = ⊤ := by
  have hk : x k * x k = ⊤ := by
    induction hx : x k using EReal.rec with
    | bot => rfl
    | top => rfl
    | coe a => exact absurd ⟨a, hx⟩ h
  have hs : ∑ q, x q * x q = ⊤ := by
    rw [← Finset.add_sum_erase _ _ (Finset.mem_univ k), hk]
    refine EReal.top_add_of_ne_bot (ne_of_gt (lt_of_lt_of_le EReal.bot_lt_zero (Finset.sum_nonneg fun q _ => ?_)))
    induction x q using EReal.rec with
    | bot => simp
    | top => simp
    | coe a => rw [← EReal.coe_mul]; exact_mod_cast mul_self_nonneg a
  obtain ⟨e, _, he⟩ := guard_pos
  unfold meanSq
  rw [hs, div_len, he, EReal.top_mul_coe_of_pos (by norm_num)]
  rfl

theorem meanSq_real (x : Fin 1024 → EReal) (h : ∀ k, IsReal (x k)) : ∃ v : ℝ, 0 < v ∧ meanSq x = (v : EReal) := by
  choose y hy using h
  obtain ⟨e, e0, he⟩ := guard_pos
  refine ⟨(∑ k, y k * y k) * (1 / 1024) + e, by
    have : 0 ≤ ∑ k, y k * y k := Finset.sum_nonneg fun k _ => mul_self_nonneg _
    positivity, ?_⟩
  unfold meanSq
  rw [div_len, he]
  have hs : ∑ k, x k * x k = ((∑ k, y k * y k : ℝ) : EReal) := by
    rw [coe_sum]
    exact Finset.sum_congr rfl fun k _ => by rw [hy k, EReal.coe_mul]
  rw [hs, EReal.coe_add, EReal.coe_mul]

theorem add_self (y : EReal) : y + y = ((2 : ℝ) : EReal) * y := by
  induction y using EReal.rec with
  | bot => rw [EReal.coe_mul_bot_of_pos (by norm_num)]; rfl
  | top => rw [EReal.coe_mul_top_of_pos (by norm_num)]; rfl
  | coe a => norm_cast; ring

/-- What the differentiated root contributes to every entry of the row. -/
def slope (x g : Fin 1024 → EReal) : EReal :=
  Ideal.div ((∑ q, x q * g q) * (minusHalf * Ideal.div (rinv x) (meanSq x))) len

theorem grad (x g : Fin 1024 → EReal) (d : EReal) (k : Fin 1024) :
    d + rinv x * (g k - x k * rinv x * Ideal.div (∑ q, g q * (x q * rinv x)) len)
      = d + g k * rinv x + x k * slope x g + slope x g * x k := by
  by_cases h : ∀ q, IsReal (x q)
  · obtain ⟨v, v0, hv⟩ := meanSq_real x h
    obtain ⟨ξ, hξ⟩ := h k
    have hr : rinv x = (((Real.sqrt v)⁻¹ : ℝ) : EReal) := by
      unfold rinv
      rw [hv, Ideal.rsqrt_coe, if_neg (not_lt.2 v0.le), if_neg v0.ne']
    have r0 : 0 < (Real.sqrt v)⁻¹ := inv_pos.2 (Real.sqrt_pos.2 v0)
    have rr : (Real.sqrt v)⁻¹ * (Real.sqrt v)⁻¹ = 1 / v := by
      rw [← mul_inv, Real.mul_self_sqrt v0.le, one_div]
    unfold slope
    rw [hr, hv, hξ, div_len, div_len, minusHalf_eq, Ideal.div_coe v0.ne']
    generalize (Real.sqrt v)⁻¹ = r at r0 rr ⊢
    have hS : ∑ q, g q * (x q * (r : EReal)) = (r : EReal) * ∑ q, x q * g q := by
      rw [coe_mul_sum _ _ r0.le]
      exact Finset.sum_congr rfl fun q _ => by ac_rfl
    rw [hS]
    generalize (∑ q, x q * g q) = S
    have hL : (ξ : EReal) * r * (r * S * ((1 / 1024 : ℝ) : EReal)) = ((ξ * r * r * (1 / 1024) : ℝ) : EReal) * S := by
      simp only [EReal.coe_mul]; ac_rfl
    have hR : S * (((-(1 / 2) : ℝ) : EReal) * (r * ((1 / v : ℝ) : EReal))) * ((1 / 1024 : ℝ) : EReal)
        = ((-(1 / 2) * (r * (1 / v)) * (1 / 1024) : ℝ) : EReal) * S := by
      simp only [EReal.coe_mul]; ac_rfl
    rw [hL, hR, mul_comm _ (ξ : EReal), add_assoc (d + _), add_self, ← mul_assoc, ← mul_assoc, ← EReal.coe_mul, ← EReal.coe_mul,
      sub_eq_add_neg, EReal.left_distrib_of_nonneg_of_ne_top (EReal.coe_nonneg.2 r0.le) (EReal.coe_ne_top r), ← EReal.neg_mul,
      ← mul_assoc, ← EReal.coe_neg, ← EReal.coe_mul, add_assoc d, mul_comm (g k)]
    have e : r * -(ξ * r * r * (1 / 1024)) = 2 * (ξ * (-(1 / 2) * (r * (1 / v)) * (1 / 1024))) := by
      rw [← rr]; ring
    rw [e, ← mul_assoc]
  · push Not at h
    obtain ⟨q, hq⟩ := h
    have hm := meanSq_top x q hq
    have hr : rinv x = 0 := by unfold rinv; rw [hm]; rfl
    have hs : slope x g = 0 := by
      unfold slope
      rw [hr, hm]
      have : Ideal.div 0 ⊤ = 0 := by unfold Ideal.div; rw [if_neg (by simp)]; simp
      rw [this, mul_zero, mul_zero, div_len, zero_mul]
    rw [hr, hs]; simp

end Cert.Proof.Norm

end
-- ==== Proof.Rows.lean ====
/- The gradient of a product that a root-mean-square normalisation feeds, as functions of the arrays: what one block of rows
   contributes, the two result arrays, and the sums a walk over row blocks and chips builds up. -/
module

public import proofs.«01_k».proof.Proof.Gen.KernelIdeal.Skeleton
public import proofs.«01_k».proof.Proof.Norm
public import Idealize.ShloMosaic.Lib.MatmulPlain
public import Idealize.ShloMosaic.Lib.IdealHost
public import Idealize.ShloMosaic.Lib.ValueIdx
public import Idealize.ShloMosaic.Lib.ValueLayout
public import Idealize.ShloMosaic.Lib.Pipeline.ValueKit.Acc

@[expose] public section

set_option maxRecDepth 16384

noncomputable section

namespace Cert.Proof.Rows

open Cert.KernelIdeal Cert.KernelIdeal.Gen Cert.Proof.Norm
open Idealize.ShloMosaic Idealize.ShloMosaic.ValueIdx

/-- Row `r` of an array of rows. -/
def row {n : ℕ} (x : Vec Ideal ⟨2, ![n, 1024]⟩ .f32) (r : Fin n) : Fin 1024 → EReal := fun k => x (ix2 r k)

/-- The gradient carried back through the product: rows of `dy` against rows of the weight. -/
def carried {n : ℕ} (dy : Vec Ideal ⟨2, ![4096, n]⟩ .f32) (w : Vec Ideal ⟨2, ![1024, n]⟩ .f32) (r : Fin 4096) (k : Fin 1024) :
    EReal := ∑ q : Fin n, dy (ix2 r q) * w (ix2 k q)

/-- The gradient of the normalised array's input at one entry: the row `x`, its carried gradient `a`, the gain `g`, what is
    added `d`. -/
def dRow (x a g : Fin 1024 → EReal) (d : EReal) (k : Fin 1024) : EReal :=
  d + rinv x * (a k * g k - x k * rinv x * Ideal.div (∑ q, a q * g q * (x q * rinv x)) len)

/-- The two result arrays. -/
def GDx (h : Vec Ideal ⟨2, ![4096, 1024]⟩ .f32) (g : Vec Ideal ⟨1, ![1024]⟩ .f32) (d : Vec Ideal ⟨2, ![4096, 1024]⟩ .f32)
    (A : Fin 4096 → Fin 1024 → EReal) : Vec Ideal ⟨2, ![4096, 1024]⟩ .f32 := fun i =>
  dRow (row h (i 0)) (A (i 0)) (fun k => g (ix1 k)) (d i) (i 1)

def GDg (h : Vec Ideal ⟨2, ![4096, 1024]⟩ .f32) (A : Fin 4096 → Fin 1024 → EReal) : Vec Ideal ⟨2, ![1, 1024]⟩ .f32 := fun i =>
  ∑ r : Fin 4096, A r (i 1) * (h (ix2 r (i 1)) * rinv (row h r))

/-- The sum of a block's row, and of a block's column. -/
theorem rowSum (v : FVec Ideal S512x1024 .f32) (r : Fin 512) (z : Fin 1) :
    shapeCast S512x1 (multiReduction .add [1] S512 v 0x00000000#32 reduces_S512x1024_S512 (.inl rfl) rfl)
      shapeCasts_S512_S512x1 (ix2 r z) = ∑ q : Fin 1024, v (ix2 r q) := by
  refine (shapeCast_apply _ _ _ (ix1 r) (by
    rw [Shape.rowMajor_val_one, Shape.rowMajor_val_two]
    have := z.isLt
    show r.val = r.val * 1 + z.val
    omega)).trans ((Ideal.multiReduction_add_single v _ _ _ _ _).trans (Finset.sum_congr rfl fun q _ => ?_))
  refine congrArg v (funext fun a => Fin.ext ?_)
  match a with
  | ⟨0, _⟩ => rfl
  | ⟨1, _⟩ => rfl

theorem colSum (v : FVec Ideal S512x1024 .f32) (k : Fin 1024) (z : Fin 1) :
    shapeCast S1x1024 (multiReduction .add [0] S1024 v 0x00000000#32 reduces_S512x1024_S1024 (.inl rfl) rfl)
      shapeCasts_S1024_S1x1024 (ix2 z k) = ∑ r : Fin 512, v (ix2 r k) := by
  refine (shapeCast_apply _ _ _ (ix1 k) (by
    rw [Shape.rowMajor_val_one, Shape.rowMajor_val_two]
    have := z.isLt
    show k.val = z.val * 1024 + k.val
    omega)).trans ((Ideal.multiReduction_add_single v _ _ _ _ _).trans (Finset.sum_congr rfl fun r _ => ?_))
  refine congrArg v (funext fun a => Fin.ext ?_)
  match a with
  | ⟨0, _⟩ => rfl
  | ⟨1, _⟩ => rfl

theorem pay5_apply (x : Vec Ideal S512x1024 .f32) (r : Fin 512) (z : Fin 1) : k0_pay5 (F := Ideal) x (ix2 r z) = rinv (row x r) :=
  congrArg (fun s : EReal => Ideal.rsqrt (Ideal.div s len + Norm.guard)) (rowSum (mulf x x) r z)

theorem col_apply (v : Vec Ideal S512x1 .f32) (j : S512x1024.Idx) :
    broadcastTo S512x1024 v broadcasts_S512x1_S512x1024 j = v (ix2 (j 0) (0 : Fin 1)) :=
  broadcastTo_apply v _ j _ fun a => by
    match a with
    | ⟨0, _⟩ => rfl
    | ⟨1, _⟩ => rfl

theorem pay6_apply (x : Vec Ideal S512x1024 .f32) (r : Fin 512) (k : Fin 1024) :
    k0_pay6 (F := Ideal) x (ix2 r k) = x (ix2 r k) * rinv (row x r) :=
  congrArg (fun s : EReal => x (ix2 r k) * s) ((col_apply (k0_pay5 x) (ix2 r k)).trans (pay5_apply x r 0))

/-- What a block of rows adds to the gain's gradient. -/
theorem pay7_apply (x a : Vec Ideal S512x1024 .f32) (j : S1x1024.Idx) :
    k0_pay7 (F := Ideal) x a j = ∑ r : Fin 512, a (ix2 r (j 1)) * (x (ix2 r (j 1)) * rinv (row x r)) := by
  obtain ⟨z, k, rfl⟩ : ∃ (z : Fin 1) (k : Fin 1024), j = ix2 z k := ⟨j 0, j 1, eq_ix2 j⟩
  refine (colSum (mulf a (k0_pay6 x)) k z).trans (Finset.sum_congr rfl fun r _ => ?_)
  exact congrArg (fun s : EReal => a (ix2 r k) * s) (pay6_apply x r k)

/-- The block of the input's gradient. -/
theorem pay8_apply (x a d : Vec Ideal S512x1024 .f32) (g : Vec Ideal S1x1024 .f32) (j : S512x1024.Idx) :
    k0_pay8 (F := Ideal) x g a d j
      = dRow (row x (j 0)) (row a (j 0)) (fun k => g (ix2 (0 : Fin 1) k)) (d j) (j 1) := by
  obtain ⟨r, k, rfl⟩ : ∃ (r : Fin 512) (k : Fin 1024), j = ix2 r k := ⟨j 0, j 1, eq_ix2 j⟩
  have hg : ∀ q : Fin 1024, broadcastTo S512x1024 (shapeCast S1x1024 g shapeCasts_S1x1024_S1x1024) broadcasts_S1x1024_S512x1024 (ix2 r q)
      = g (ix2 (0 : Fin 1) q) := fun q => by
    rw [shapeCast_self]; exact broadcastTo_1b_ab_apply g _ r q
  have hs := (rowSum (mulf (mulf a (broadcastTo S512x1024 (shapeCast S1x1024 g shapeCasts_S1x1024_S1x1024)
    broadcasts_S1x1024_S512x1024)) (k0_pay6 x)) r 0).trans (Finset.sum_congr rfl fun q _ =>
      congrArg₂ (fun s t : EReal => a (ix2 r q) * s * t) (hg q) (pay6_apply x r q))
  have hm := (col_apply (divf (shapeCast S512x1 (multiReduction .add [1] S512 (mulf (mulf a (broadcastTo S512x1024
    (shapeCast S1x1024 g shapeCasts_S1x1024_S1x1024) broadcasts_S1x1024_S512x1024)) (k0_pay6 x)) 0x00000000#32
    reduces_S512x1024_S512 (.inl rfl) rfl) shapeCasts_S512_S512x1) (broadcast S512x1 (Scalar.ofBits .f32 0x44800000#32)))
    (ix2 r k)).trans (congrArg (fun s : EReal => Ideal.div s len) hs)
  have hr := (col_apply (k0_pay5 x) (ix2 r k)).trans (pay5_apply x r 0)
  exact congrArg₂ (fun s t : EReal => d (ix2 r k) + s * t) hr
    (congrArg₂ (fun s t : EReal => s - t) (congrArg (fun s : EReal => a (ix2 r k) * s) (hg k))
      (congrArg₂ (fun s t : EReal => s * t) (pay6_apply x r k) hm))

/-- A block of rows of the first result: its payload over rows of the arrays. -/
theorem grad_block (h : Vec Ideal ⟨2, ![4096, 1024]⟩ .f32) (gain : Vec Ideal ⟨1, ![1024]⟩ .f32) (D : Vec Ideal ⟨2, ![4096, 1024]⟩ .f32)
    (A : Fin 4096 → Fin 1024 → EReal) (x a d : Vec Ideal S512x1024 .f32) (g : Vec Ideal S1x1024 .f32) (R : Fin 512 → Fin 4096)
    (hx : ∀ r k, x (ix2 r k) = h (ix2 (R r) k)) (ha : ∀ r k, a (ix2 r k) = A (R r) k) (hd : ∀ r k, d (ix2 r k) = D (ix2 (R r) k))
    (hg : ∀ k, g (ix2 (0 : Fin 1) k) = gain (ix1 k)) (j : S512x1024.Idx) :
    k0_pay8 (F := Ideal) x g a d j = GDx h gain D A (ix2 (R (j 0)) (j 1)) := by
  obtain ⟨r, k, rfl⟩ : ∃ (r : Fin 512) (k : Fin 1024), j = ix2 r k := ⟨j 0, j 1, eq_ix2 j⟩
  refine (pay8_apply x a d g (ix2 r k)).trans ?_
  have ex : row x r = row h (R r) := funext (hx r)
  have ea : row a r = A (R r) := funext (ha r)
  have eg : (fun k => g (ix2 (0 : Fin 1) k)) = fun k => gain (ix1 k) := funext hg
  show dRow (row x r) (row a r) (fun k => g (ix2 (0 : Fin 1) k)) (d (ix2 r k)) k = _
  rw [ex, ea, eg, hd]
  rfl

/-- What row block `b` adds to the gain's gradient. -/
def gainPart (h : Vec Ideal ⟨2, ![4096, 1024]⟩ .f32) (A : Fin 4096 → Fin 1024 → EReal) (b : ℕ) (j : S1x1024.Idx) : EReal :=
  if hb : b < 8 then ∑ r : Fin 512, (fun r : Fin 4096 => A r (j 1) * (h (ix2 r (j 1)) * rinv (row h r)))
    ⟨b * 512 + r.val, by have := r.isLt; omega⟩ else 0

theorem gain_block (h : Vec Ideal ⟨2, ![4096, 1024]⟩ .f32) (A : Fin 4096 → Fin 1024 → EReal) (x a : Vec Ideal S512x1024 .f32)
    (b : ℕ) (hb : b < 8) (R : Fin 512 → Fin 4096) (hR : ∀ r, (R r).val = b * 512 + r.val)
    (hx : ∀ r k, x (ix2 r k) = h (ix2 (R r) k)) (ha : ∀ r k, a (ix2 r k) = A (R r) k) (j : S1x1024.Idx) :
    k0_pay7 (F := Ideal) x a j = gainPart h A b j := by
  refine (pay7_apply x a j).trans ?_
  unfold gainPart
  rw [dif_pos hb]
  refine Finset.sum_congr rfl fun r _ => ?_
  have ex : row x r = row h (R r) := funext (hx r)
  have eR : (⟨b * 512 + r.val, by have := r.isLt; omega⟩ : Fin 4096) = R r := Fin.ext (hR r).symm
  rw [eR]
  exact congrArg₂ (fun s t : EReal => s * t) (ha r (j 1)) (congrArg₂ (fun s t : EReal => s * t) (hx r (j 1)) (congrArg rinv ex))

theorem pay4_apply (a b : Vec Ideal S1x1024 .f32) : k0_pay4 (F := Ideal) a b = fun j => b j + a j := by
  funext j
  unfold k0_pay4
  rw [shapeCast_self]
  rfl

/-- A sum kept between row blocks: reset at the first block's last chip, added to at the later blocks' last chips and
    carried elsewhere, it holds at a block's last chip what all blocks so far have given. -/
theorem kept_sum {α : Type} (D : (n : ℕ) → n < 32 → α → EReal) (p : ℕ → α → EReal)
    (hC : ∀ t : Fin 32, t.val % 4 = 3 → t.val < 4 → ∀ j, D t.val t.isLt j = p (t.val / 4) j)
    (hD : ∀ t : Fin 32, t.val % 4 = 3 → 4 ≤ t.val → ∀ j, D t.val t.isLt j = D (t.val - 1) (by omega) j + p (t.val / 4) j)
    (hK : ∀ t : Fin 32, ¬t.val % 4 = 3 → t.val ≠ 0 → ∀ j, D t.val t.isLt j = D (t.val - 1) (by omega) j) (j : α)
    (n : ℕ) (hn : n = 31) (hlt : n < 32) : D n hlt j = ∑ b : Fin 8, p b.val j := by
  subst hn
  have step : ∀ (b : ℕ) (hb : b < 7) , D (4 * (b + 1) + 3) (by omega) j = D (4 * b + 3) (by omega) j + p (b + 1) j := fun b hb => by
    have e3 := hD ⟨4 * (b + 1) + 3, by omega⟩ (by dsimp only; omega) (by dsimp only; omega) j
    have e2 := hK ⟨4 * (b + 1) + 2, by omega⟩ (by dsimp only; omega) (by dsimp only; omega) j
    have e1 := hK ⟨4 * (b + 1) + 1, by omega⟩ (by dsimp only; omega) (by dsimp only; omega) j
    have e0 := hK ⟨4 * (b + 1), by omega⟩ (by dsimp only; omega) (by dsimp only; omega) j
    dsimp only at e0 e1 e2 e3
    rw [e3]
    congr 1
    · exact e2.trans (e1.trans e0)
    · congr 1; omega
  have all : ∀ (b : ℕ) (hb : b < 8), D (4 * b + 3) (by omega) j = ∑ s ∈ Finset.range (b + 1), p s j := by
    intro b
    induction b with
    | zero => intro _; rw [Finset.sum_range_one]; exact hC ⟨3, by omega⟩ rfl (by dsimp only; omega) j
    | succ b ih => intro hb; rw [step b (by omega), ih (by omega), Finset.sum_range_succ _ (b + 1)]
  rw [← Finset.sum_range fun s => p s j]
  exact all 7 (by omega)

/-- Eight blocks of 512 rows are all rows. -/
theorem sum_blocks (f : Fin 4096 → EReal) :
    ∑ b : Fin 8, ∑ r : Fin 512, f ⟨b.val * 512 + r.val, by have := r.isLt; omega⟩ = ∑ r, f r :=
  Fin.sum_mul_add_fin 8 512 f

theorem gainSum (h : Vec Ideal ⟨2, ![4096, 1024]⟩ .f32) (A : Fin 4096 → Fin 1024 → EReal) (j : S1x1024.Idx) :
    ∑ b : Fin 8, gainPart h A b.val j = GDg h A j :=
  (Finset.sum_congr rfl fun b _ => dif_pos b.isLt).trans
    (sum_blocks fun r : Fin 4096 => A r (j 1) * (h (ix2 r (j 1)) * rinv (row h r)))

/-- The chips' columns added up in any order of the chips are all columns. -/
theorem chip_sum (n : ℕ) (f : ℕ → EReal) (c : Fin 4 → Fin 4) (hc : Function.Bijective c) :
    ∑ s : Fin 4, ∑ l : Fin n, f ((c s).val * n + l.val) = ∑ q : Fin (4 * n), f q.val := by
  refine ((Equiv.ofBijective c hc).sum_comp fun s : Fin 4 => ∑ l : Fin n, f (s.val * n + l.val)).trans ?_
  exact Fin.sum_mul_add_fin 4 n (fun q : Fin (4 * n) => f q.val)

/-- So what the chips contribute one after the other is the carried gradient. -/
theorem carried_by_chips {n N : ℕ} (hN : N = 4 * n) (dy : Vec Ideal ⟨2, ![4096, N]⟩ .f32) (w : Vec Ideal ⟨2, ![1024, N]⟩ .f32)
    (r : Fin 4096) (k : Fin 1024) (c : Fin 4 → Fin 4) (hc : Function.Bijective c) (p : Fin 4 → EReal)
    (hp : ∀ (s : Fin 4) (hb : ∀ l : Fin n, (c s).val * n + l.val < N),
      p s = ∑ l : Fin n, dy (ix2 r ⟨(c s).val * n + l.val, hb l⟩) * w (ix2 k ⟨(c s).val * n + l.val, hb l⟩)) :
    ∑ s : Fin 4, p s = carried dy w r k := by
  subst hN
  have hb : ∀ (s : Fin 4) (l : Fin n), (c s).val * n + l.val < 4 * n := fun s l => by
    have h1 := (c s).isLt; have h2 := l.isLt
    have : (c s).val * n ≤ 3 * n := Nat.mul_le_mul_right _ (by omega)
    omega
  let f : ℕ → EReal := fun q => if hq : q < 4 * n then dy (ix2 r ⟨q, hq⟩) * w (ix2 k ⟨q, hq⟩) else 0
  refine (Finset.sum_congr rfl fun s _ => (hp s (hb s)).trans (Finset.sum_congr rfl fun l _ => ?_)).trans
    ((chip_sum n f c hc).trans (Finset.sum_congr rfl fun q _ => dif_pos q.isLt))
  show _ = if hq : (c s).val * n + l.val < 4 * n then dy (ix2 r ⟨(c s).val * n + l.val, hq⟩) * w (ix2 k ⟨(c s).val * n + l.val, hq⟩) else 0
  rw [dif_pos (hb s l)]

end Cert.Proof.Rows

end
-- ==== Proof.Dxn.lean ====
/- What the input gradient's call of a feed-forward block leaves in its two result arrays, as functions of the argument
   arrays (`finalDx`, `finalDg`). -/
module

public import proofs.«01_k».proof.Proof.Gen.KernelIdeal.Value
public import proofs.«01_k».proof.Proof.Layout
public import proofs.«01_k».proof.Proof.Rows
public import Idealize.ShloMosaic.Lib.Pipeline.ValueKit.Geometry
public import Idealize.ShloMosaic.Lib.Pipeline.ReadBack

@[expose] public section

set_option maxRecDepth 16384

noncomputable section

namespace Cert.Proof.Dxn

open Cert.KernelIdeal Cert.KernelIdeal.Gen Cert.KernelIdeal.Value Cert.Proof.Layout Cert.Proof.Rows
open Idealize.ShloMosaic Idealize.ShloMosaic.TcCoe Idealize.ShloMosaic.ValueIdx Idealize.SL.Sem

/-- The product of a block of rows with one chip's columns of the weight, at an index. -/
theorem pay1_apply (x0 : Vec Ideal S512x1408 .bf16) (x1 : Vec Ideal S1x1024x1408 .bf16) (j : S512x1024.Idx) :
    k0_pay1 (F := Ideal) x0 x1 j = ∑ l : Fin 1408, x0 (ix2 (j 0) l) * x1 (ix3 (0 : Fin 1) (j 1) l) := by
  obtain ⟨r, k, rfl⟩ : ∃ (r : Fin 512) (k : Fin 1024), j = ix2 r k := ⟨j 0, j 1, eq_ix2 j⟩
  unfold k0_pay1
  show FloatOps.matmul (F := Ideal) (φ₁ := .bf16) (φ₂ := .bf16) (DotDims.transposedRhs 512 1408 1024) none
    (shapeCast S512x1408 x0 shapeCasts_S512x1408_S512x1408)
    (shapeCast S1024x1408 x1 shapeCasts_S1x1024x1408_S1024x1408) (constant S512x1024 .f32 0x00000000#32) (ix2 r k) = _
  rw [Ideal.matmul_transposedRhs_apply, shapeCast_self]
  show Ideal.ofBits .f32 0x00000000#32 + _ = _
  rw [Ideal.ofBits_zero_f32, zero_add]
  exact Finset.sum_congr rfl fun l _ => congrArg (fun s : EReal => x0 (ix2 r l) * s)
    (shapeCast_1ab_ab_apply x1 shapeCasts_S1x1024x1408_S1024x1408 k l)

variable (m : (ℓ : Loc nD τ sig) → Buf (Elt Ideal) ℓ)

/-- What the region finds: the paired gradient, the weight by chips, the gain as a row. -/
theorem V_dy (c : Dev nD) (i : S4096x5632.Idx) :
    V m c main_v3 i = m ((c : Thread nD τ).loc main_arg4) (ix2 (i 0) (src (i 1))) := by
  dsimp only [V, hostOps0]
  after_results
  show shapeCast ⟨2, ![4096, 5632]⟩ (transpose ⟨4, ![4096, 2, 2, 1408]⟩ [0, 2, 1, 3] (shapeCast ⟨4, ![4096, 2, 2, 1408]⟩
    (m ((c : Thread nD τ).loc main_arg4)) shapeCasts_S4096x5632_S4096x2x2x1408)
    transposes_S4096x2x2x1408_S4096x2x2x1408_0_2_1_3) shapeCasts_S4096x2x2x1408_S4096x5632 i = _
  exact pairs_apply _ _ _ _ i

theorem V_w (c : Dev nD) (i : S4x1024x1408.Idx) (hb : (i 0).val * 1408 + (i 2).val < 5632) :
    V m c main_v6 i = m ((c : Thread nD τ).loc main_arg2) (ix2 (i 1) (⟨(i 0).val * 1408 + (i 2).val, hb⟩ : Fin 5632)) := by
  dsimp only [V, hostOps0]
  after_results
  show transpose ⟨3, ![4, 1024, 1408]⟩ [1, 0, 2] (shapeCast ⟨3, ![1024, 4, 1408]⟩
    (m ((c : Thread nD τ).loc main_arg2)) shapeCasts_S1024x5632_S1024x4x1408) transposes_S1024x4x1408_S4x1024x1408_1_0_2 i = _
  exact chips_apply _ _ _ i hb

theorem V_g (c : Dev nD) (k : Fin 1024) :
    V m c main_v7 (ix2 (0 : Fin 1) k) = m ((c : Thread nD τ).loc main_arg1) (ix1 k) := by
  dsimp only [V, hostOps0]
  after_results
  show shapeCast ⟨2, ![1, 1024]⟩ (m ((c : Thread nD τ).loc main_arg1)) shapeCasts_S1024_S1x1024 (ix2 (0 : Fin 1) k) = _
  exact shapeCast_a_1a_apply _ _ _ _

theorem e0 : ∀ t : Fin cfg0.N, win0_0.index t = ![t.val / 4, t.val % 4] := (by decide +kernel : ∀ t : Fin grid0.N, _)
theorem e1 : ∀ t : Fin cfg0.N, win0_1.index t = ![t.val % 4 % 2 * 2 + t.val % 4 / 2, 0, 0] := (by decide +kernel : ∀ t : Fin grid0.N, _)
theorem e2 : ∀ t : Fin cfg0.N, win0_2.index t = ![t.val / 4, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 4, 0] := (by decide +kernel : ∀ t : Fin grid0.N, _)
theorem e5 : ∀ t : Fin cfg0.N, win0_5.index t = ![t.val / 4, 0] := (by decide +kernel : ∀ t : Fin grid0.N, _)
theorem e6 : ∀ t : Fin cfg0.N, win0_6.index t = ![0, 0] := (by decide +kernel : ∀ t : Fin grid0.N, _)

theorem lt_N (t : Fin cfg0.N) : t.val < 32 := lt_of_lt_of_eq t.isLt (show cfg0.N = 32 from N_0)

/-- The row of the arrays that row `r` of the point's block is. -/
def at_ (t : Fin cfg0.N) (r : Fin 512) : Fin 4096 := ⟨t.val / 4 * 512 + r.val, by have := lt_N t; have := r.isLt; omega⟩

/-- The blocks a point reads, at an index. -/
theorem blk_dy (c : Dev nD) (t : Fin cfg0.N) (r : Fin 512) (l : Fin 1408) : iblk m c 0 t (ix2 r l)
    = m ((c : Thread nD τ).loc main_arg4)
      (ix2 (at_ t r) (⟨(t.val % 4 % 2 * 2 + t.val % 4 / 2) * 1408 + l.val, by have := l.isLt; omega⟩ : Fin 5632)) := by
  have hl := l.isLt
  have hp : t.val % 4 * 1408 + l.val < 5632 := by omega
  have ha : (win0_0.blk t).view.emb (ix2 r l) = (ix2 (at_ t r) (⟨t.val % 4 * 1408 + l.val, hp⟩ : Fin 5632) : S4096x5632.Idx) := by
    funext a; apply Fin.ext
    match a with
    | ⟨0, _⟩ => blk_simp [e0]; rfl
    | ⟨1, _⟩ => blk_simp [e0]
  show V m c main_v3 ((win0_0.blk t).view.emb (ix2 r l)) = _
  rw [ha, V_dy]
  refine congrArg (fun q : Fin 5632 => m ((c : Thread nD τ).loc main_arg4) (ix2 (at_ t r) q)) (Fin.ext ?_)
  show (t.val % 4 * 1408 + l.val) / 1408 % 2 * 2816 + (t.val % 4 * 1408 + l.val) / 2816 * 1408 + (t.val % 4 * 1408 + l.val) % 1408
    = (t.val % 4 % 2 * 2 + t.val % 4 / 2) * 1408 + l.val
  omega

theorem blk_w (c : Dev nD) (t : Fin cfg0.N) (k : Fin 1024) (l : Fin 1408) : iblk m c 1 t (ix3 (0 : Fin 1) k l)
    = m ((c : Thread nD τ).loc main_arg2)
      (ix2 k (⟨(t.val % 4 % 2 * 2 + t.val % 4 / 2) * 1408 + l.val, by have := l.isLt; omega⟩ : Fin 5632)) := by
  have hl := l.isLt
  have ha : (win0_1.blk t).view.emb (ix3 (0 : Fin 1) k l)
      = (ix3 (⟨t.val % 4 % 2 * 2 + t.val % 4 / 2, by omega⟩ : Fin 4) k l : S4x1024x1408.Idx) := by
    funext a; apply Fin.ext
    match a with
    | ⟨0, _⟩ => blk_simp [e1]
    | ⟨1, _⟩ => blk_simp [e1]
    | ⟨2, _⟩ => blk_simp [e1]
  show V m c main_v6 ((win0_1.blk t).view.emb (ix3 (0 : Fin 1) k l)) = _
  rw [ha]
  exact V_w m c _ _

theorem blk_x (c : Dev nD) (t : Fin cfg0.N) (r : Fin 512) (k : Fin 1024) :
    iblk m c 2 t (ix2 r k) = m ((c : Thread nD τ).loc main_arg0) (ix2 (at_ t r) k) := by
  have ha : (win0_2.blk t).view.emb (ix2 r k) = (ix2 (at_ t r) k : S4096x1024.Idx) := by
    funext a; apply Fin.ext
    match a with
    | ⟨0, _⟩ => blk_simp [e2]; rfl
    | ⟨1, _⟩ => blk_simp [e2]
  show V m c main_arg0 ((win0_2.blk t).view.emb (ix2 r k)) = _
  rw [ha, V_main_arg0]

theorem blk_g (c : Dev nD) (t : Fin cfg0.N) (k : Fin 1024) :
    iblk m c 3 t (ix2 (0 : Fin 1) k) = m ((c : Thread nD τ).loc main_arg1) (ix1 k) := by
  have ha : (win0_3.blk t).view.emb (ix2 (0 : Fin 1) k) = (ix2 (0 : Fin 1) k : S1x1024.Idx) := by
    funext a; apply Fin.ext
    match a with
    | ⟨0, _⟩ => blk_simp [e3]
    | ⟨1, _⟩ => blk_simp [e3]
  show V m c main_v7 ((win0_3.blk t).view.emb (ix2 (0 : Fin 1) k)) = _
  rw [ha, V_g]

theorem blk_d (c : Dev nD) (t : Fin cfg0.N) (r : Fin 512) (k : Fin 1024) :
    iblk m c 4 t (ix2 r k) = m ((c : Thread nD τ).loc main_arg3) (ix2 (at_ t r) k) := by
  have ha : (win0_4.blk t).view.emb (ix2 r k) = (ix2 (at_ t r) k : S4096x1024.Idx) := by
    funext a; apply Fin.ext
    match a with
    | ⟨0, _⟩ => blk_simp [e4]; rfl
    | ⟨1, _⟩ => blk_simp [e4]
  show V m c main_arg3 ((win0_4.blk t).view.emb (ix2 r k)) = _
  rw [ha, V_main_arg3]

/-- What the point adds to the running product. -/
def part (c : Dev nD) (t : Fin cfg0.N) (j : S512x1024.Idx) : EReal := k0_pay1 (F := Ideal) (iblk m c 0 t) (iblk m c 1 t) j

theorem acc_first (c : Dev nD) (t : Fin cfg0.N) (h : t.val % 4 = 0) (j : S512x1024.Idx) :
    (outsAt0 m c t.val t.isLt).2.2 j = 0 + part m c t j := by
  rw [outsAt0_A m c t h (by omega) (by omega)]
  frame_out
  unfold k0_pay2
  rw [shapeCast_self, zero_add]
  rfl

theorem pay3_apply (x0 : Vec Ideal S512x1408 .bf16) (x1 : Vec Ideal S1x1024x1408 .bf16) (a : Vec Ideal S512x1024 .f32) (j : S512x1024.Idx) :
    k0_pay3 (F := Ideal) x0 x1 a j = a j + k0_pay1 (F := Ideal) x0 x1 j := by
  unfold k0_pay3
  rw [shapeCast_self]
  rfl

theorem acc_next (c : Dev nD) (t : Fin cfg0.N) (h : ¬t.val % 4 = 0) (j : S512x1024.Idx) :
    (outsAt0 m c t.val t.isLt).2.2 j
      = (outsAt0 m c (t.val - 1) (Nat.lt_of_le_of_lt (Nat.sub_le _ _) t.isLt)).2.2 j + part m c t j := by
  by_cases h2 : t.val % 4 = 3
  · by_cases h3 : t.val < 4
    · rw [outsAt0_C m c t h (by omega) h2 h3 (by omega)]
      frame_out
      rw [read_unread_whole]
      exact pay3_apply _ _ _ j
    · rw [outsAt0_D m c t h (by omega) h2 h3 (by omega)]
      frame_out
      rw [read_unread_whole]
      exact pay3_apply _ _ _ j
  · rw [outsAt0_B m c t h (by omega) h2]
    frame_out
    rw [read_unread_whole]
    exact pay3_apply _ _ _ j

/-- The chip whose columns a point's place in its run takes. -/
def pairChip (s : Fin 4) : Fin 4 := ⟨s.val % 2 * 2 + s.val / 2, by have := s.isLt; omega⟩
theorem pairChip_bij : Function.Bijective pairChip := by decide

/-- After the last chip's point the scratch holds the carried gradient of the block's rows. -/
theorem acc_last (c : Dev nD) (t : Fin cfg0.N) (h : t.val % 4 = 3) (r : Fin 512) (k : Fin 1024) :
    (outsAt0 m c t.val t.isLt).2.2 (ix2 r k)
      = carried (m ((c : Thread nD τ).loc main_arg4)) (m ((c : Thread nD τ).loc main_arg2)) (at_ t r) k := by
  rw [Pipeline.eq_sum_fin_of_reset_step_apply_of_flush (fun n h => (outsAt0 m c n h).2.2) 4 (fun _ => 0) (part m c)
    (acc_first m c) (acc_next m c) t h (ix2 r k), zero_add]
  have hN := lt_N t
  refine carried_by_chips (n := 1408) (by decide) (m ((c : Thread nD τ).loc main_arg4)) (m ((c : Thread nD τ).loc main_arg2)) (at_ t r) k
    pairChip pairChip_bij _ fun s hb => ?_
  have hs := s.isLt
  have hu : 4 * (t.val / 4) + s.val < cfg0.N := lt_of_lt_of_eq (by omega : _ < 32) (show (32 : ℕ) = cfg0.N from N_0.symm)
  refine (pay1_apply (iblk m c 0 ⟨4 * (t.val / 4) + s.val, hu⟩) (iblk m c 1 ⟨4 * (t.val / 4) + s.val, hu⟩) (ix2 r k)).trans
    (Finset.sum_congr rfl fun l _ => ?_)
  have hm : (4 * (t.val / 4) + s.val) % 4 = s.val := by omega
  have hr : at_ ⟨4 * (t.val / 4) + s.val, hu⟩ r = at_ t r := Fin.ext (by
    show (4 * (t.val / 4) + s.val) / 4 * 512 + r.val = t.val / 4 * 512 + r.val
    omega)
  refine congrArg₂ (fun a b : EReal => a * b) ((blk_dy m c _ r l).trans ?_) ((blk_w m c _ k l).trans ?_)
  · rw [hr]
    refine congrArg (fun q : Fin 5632 => m ((c : Thread nD τ).loc main_arg4) (ix2 (at_ t r) q)) (Fin.ext ?_)
    show ((4 * (t.val / 4) + s.val) % 4 % 2 * 2 + (4 * (t.val / 4) + s.val) % 4 / 2) * 1408 + l.val
      = (s.val % 2 * 2 + s.val / 2) * 1408 + l.val
    rw [hm]
  · refine congrArg (fun q : Fin 5632 => m ((c : Thread nD τ).loc main_arg2) (ix2 k q)) (Fin.ext ?_)
    show ((4 * (t.val / 4) + s.val) % 4 % 2 * 2 + (4 * (t.val / 4) + s.val) % 4 / 2) * 1408 + l.val
      = (s.val % 2 * 2 + s.val / 2) * 1408 + l.val
    rw [hm]

/-- What the last chip's point writes to the first result, over what its scratch then holds. -/
theorem out_last (c : Dev nD) (t : Fin cfg0.N) (h : t.val % 4 = 3) : (outsAt0 m c t.val t.isLt).1
    = k0_pay8 (F := Ideal) (iblk m c 2 t) (iblk m c 3 t) (outsAt0 m c t.val t.isLt).2.2 (iblk m c 4 t) := by
  by_cases h3 : t.val < 4
  · rw [outsAt0_C m c t (by omega) (by omega) h h3 (by omega)]
    frame_out
  · rw [outsAt0_D m c t (by omega) (by omega) h h3 (by omega)]
    frame_out

theorem kept_first (c : Dev nD) (t : Fin cfg0.N) (h : t.val % 4 = 3) (h3 : t.val < 4) : (outsAt0 m c t.val t.isLt).2.1
    = k0_pay7 (F := Ideal) (iblk m c 2 t) (outsAt0 m c t.val t.isLt).2.2 := by
  rw [outsAt0_C m c t (by omega) (by omega) h h3 (by omega)]
  frame_out

theorem kept_next (c : Dev nD) (t : Fin cfg0.N) (h : t.val % 4 = 3) (h3 : 4 ≤ t.val) : (outsAt0 m c t.val t.isLt).2.1
    = k0_pay4 (F := Ideal) (k0_pay7 (iblk m c 2 t) (outsAt0 m c t.val t.isLt).2.2)
      (outsAt0 m c (t.val - 1) (Nat.lt_of_le_of_lt (Nat.sub_le _ _) t.isLt)).2.1 := by
  rw [outsAt0_D m c t (by omega) (by omega) h (by omega) h3]
  frame_out

theorem kept_else (c : Dev nD) (t : Fin cfg0.N) (h : ¬t.val % 4 = 3) : (outsAt0 m c t.val t.isLt).2.1
    = (outsAt0 m c (t.val - 1) (Nat.lt_of_le_of_lt (Nat.sub_le _ _) t.isLt)).2.1 := by
  by_cases h0 : t.val % 4 = 0
  · rw [outsAt0_A m c t h0 (by omega) h]
    rfl
  · rw [outsAt0_B m c t h0 (by omega) h]
    rfl

/-- The first result array after the run. -/
theorem finalDx (c : Dev nD) : (dats m 0 c).arrAt 5 cfg0.N
    = GDx (m ((c : Thread nD τ).loc main_arg0)) (m ((c : Thread nD τ).loc main_arg1)) (m ((c : Thread nD τ).loc main_arg3))
      (carried (m ((c : Thread nD τ).loc main_arg4)) (m ((c : Thread nD τ).loc main_arg2))) := by
  refine (dats m 0 c).arrAt_eq_of_covers 5 _ (by decide +kernel) fun t hf y => ?_
  have h3 : t.val % 4 = 3 := (flush0_5 t).mp hf
  blk_simp
  rw [after0_5, out_last m c t h3]
  have hi : (win0_5.blk t).view.emb y = (ix2 (at_ t (y 0)) (y 1) : S4096x1024.Idx) := by
    funext a; apply Fin.ext
    match a with
    | ⟨0, _⟩ => blk_simp [e5]; rfl
    | ⟨1, _⟩ => blk_simp [e5]; rfl
  generalize (win0_5.blk t).view.emb y = i at hi ⊢
  subst hi
  exact grad_block _ _ _ _ (iblk m c 2 t) (outsAt0 m c t.val t.isLt).2.2 (iblk m c 4 t) (iblk m c 3 t) (at_ t) (blk_x m c t)
    (acc_last m c t h3) (blk_d m c t) (blk_g m c t) y

theorem gain_eq (c : Dev nD) (t : Fin cfg0.N) (h : t.val % 4 = 3) (j : S1x1024.Idx) :
    k0_pay7 (F := Ideal) (iblk m c 2 t) (outsAt0 m c t.val t.isLt).2.2 j
      = gainPart (m ((c : Thread nD τ).loc main_arg0))
        (carried (m ((c : Thread nD τ).loc main_arg4)) (m ((c : Thread nD τ).loc main_arg2))) (t.val / 4) j :=
  gain_block _ _ _ _ _ (by have := lt_N t; omega) (at_ t) (fun _ => rfl) (blk_x m c t) (acc_last m c t h) j

theorem N_eq : (32 : ℕ) = cfg0.N := N_0.symm

/-- After the last point the second result holds the sum over all row blocks. -/
theorem kept_end (c : Dev nD) (t : Fin cfg0.N) (h : t.val = 31) (j : S1x1024.Idx) : (outsAt0 m c t.val t.isLt).2.1 j
    = GDg (m ((c : Thread nD τ).loc main_arg0))
      (carried (m ((c : Thread nD τ).loc main_arg4)) (m ((c : Thread nD τ).loc main_arg2))) j :=
  (kept_sum (fun n (h : n < 32) => (outsAt0 m c n (lt_of_lt_of_eq h N_eq)).2.1)
    (gainPart (m ((c : Thread nD τ).loc main_arg0)) (carried (m ((c : Thread nD τ).loc main_arg4)) (m ((c : Thread nD τ).loc main_arg2))))
    (fun t h h4 j => (congrFun (kept_first m c ⟨t.val, lt_of_lt_of_eq t.isLt N_eq⟩ h h4) j).trans
      (gain_eq m c ⟨t.val, lt_of_lt_of_eq t.isLt N_eq⟩ h j))
    (fun t h h4 j => (congrFun ((kept_next m c ⟨t.val, lt_of_lt_of_eq t.isLt N_eq⟩ h h4).trans (pay4_apply _ _)) j).trans
      (congrArg (fun s : EReal => _ + s) (gain_eq m c ⟨t.val, lt_of_lt_of_eq t.isLt N_eq⟩ h j)))
    (fun t h _ j => congrFun (kept_else m c ⟨t.val, lt_of_lt_of_eq t.isLt N_eq⟩ h) j) j t.val h (lt_N t)).trans (gainSum _ _ j)

/-- The second result array after the run. -/
theorem finalDg (c : Dev nD) : (dats m 0 c).arrAt 6 cfg0.N
    = GDg (m ((c : Thread nD τ).loc main_arg0))
      (carried (m ((c : Thread nD τ).loc main_arg4)) (m ((c : Thread nD τ).loc main_arg2))) := by
  generalize hG : GDg (m ((c : Thread nD τ).loc main_arg0))
      (carried (m ((c : Thread nD τ).loc main_arg4)) (m ((c : Thread nD τ).loc main_arg2))) = G'
  refine (dats m 0 c).arrAt_eq_of_covers 6 _ (by decide +kernel) fun t hf y => ?_
  have hN := lt_N t
  have h3 : t.val = 31 := by have := (flush0_6 t).mp hf; omega
  blk_simp
  rw [after0_6]
  have h0 : ((win0_6.blk t).view.emb y 0).val = (y 0).val := by blk_simp [e6]
  have h1 : ((win0_6.blk t).view.emb y 1).val = (y 1).val := by blk_simp [e6]
  have hi : (win0_6.blk t).view.emb y = y := by
    funext a; apply Fin.ext
    match a with
    | ⟨0, _⟩ => exact h0
    | ⟨1, _⟩ => exact h1
  refine (kept_end m c t h3 y).trans ((congrFun hG y).trans ?_)
  exact congrArg G' hi.symm

end Cert.Proof.Dxn

end
-- ==== Proof.DxnRef.lean ====
/- The gradient of the normalised product's input as the reference computes it: its two result arrays are `Rows.GDx` and
   `Rows.GDg`. The reference differentiates the reciprocal root, the kernel writes the row's projection out; `Norm.grad` says
   that they agree. -/
module

public import proofs.«01_k».proof.Proof.Rows
public import proofs.«01_k».proof.Proof.Gen.ReferenceIdeal.Run
public import proofs.«01_k».proof.Proof.Gen.ReferenceIdeal.Read
public import Idealize.ShloMosaic.Lib.KernelVsHost

@[expose] public section

set_option maxRecDepth 16384

noncomputable section

namespace Cert.Proof.DxnRef

open Cert.ReferenceIdeal Cert.ReferenceIdeal.Gen Cert.ReferenceIdeal.Read Cert.Proof.Rows
open Idealize.ShloMosaic Idealize.ShloMosaic.TcCoe Idealize.ShloMosaic.ValueIdx Idealize.SL.Sem

variable (h : Vec Ideal S4096x1024 .f32) (g : Vec Ideal S1024 .f32) (w : Vec Ideal S1024x5632 .f32) (d : Vec Ideal S4096x1024 .f32)
  (dy : Vec Ideal S4096x5632 .f32)

theorem zero_add_sum {n : ℕ} (f : Fin n → EReal) : Ideal.ofBits .f32 0x00000000#32 + ∑ k, f k = ∑ k, f k := by
  rw [Ideal.ofBits_zero_f32]; exact zero_add _

theorem meanSq_apply (r : Fin 4096) (z : Fin 1) : val_main_v6 (F := Ideal) h (ix2 r z) = Norm.meanSq (row h r) := by
  rw [val_main_v6_apply, val_main_v4_apply, val_main_v2_apply, val_main_v1_apply, val_main_v3_apply, val_main_v5_apply,
    val_main_cst_apply, val_main_cst_0_apply, val_main_cst_1_apply]
  refine congrArg (fun s : EReal => Ideal.div s Norm.len + Norm.guard) ((zero_add_sum _).trans (Finset.sum_congr rfl fun k _ => ?_))
  rw [val_main_v0_apply]
  have e : idx_main_v1 (idx_main_v2 (ix2 r z)) k = ix2 r k := funext fun a => by fin_cases a <;> rfl
  rw [e]
  rfl

theorem rinv_apply (r : Fin 4096) (z : Fin 1) : val_main_v7 (F := Ideal) h (ix2 r z) = Norm.rinv (row h r) := by
  rw [val_main_v7_apply, meanSq_apply]
  rfl

theorem carried_apply (r : Fin 4096) (k : Fin 1024) : val_main_v17 (F := Ideal) w dy (ix2 r k) = carried dy w r k := by
  rw [val_main_v17_apply]
  refine Finset.sum_congr rfl fun q _ => ?_
  have e1 : lidx_main_v17 (ix2 r k) q = ix2 r q := funext fun a => by fin_cases a <;> rfl
  have e2 : ridx_main_v17 (ix2 r k) q = ix2 k q := funext fun a => by fin_cases a <;> rfl
  rw [e1, e2]

theorem gained_apply (r : Fin 4096) (k : Fin 1024) :
    val_main_v22 (F := Ideal) g w dy (ix2 r k) = carried dy w r k * g (ix1 k) := by
  rw [val_main_v22_apply, carried_apply, val_main_v21_apply, val_main_v13_apply]
  have e : idx_main_v13 (idx_main_v21 (ix2 r k)) = ix1 k := funext fun a => by fin_cases a; rfl
  rw [e]
  rfl

theorem slope_apply (r : Fin 4096) (k : Fin 1024) : val_main_v34 (F := Ideal) h g w dy (ix2 r k)
    = Norm.slope (row h r) (fun q => carried dy w r q * g (ix1 q)) := by
  rw [val_main_v34_apply, val_main_v33_apply, val_main_cst_7_apply]
  refine (zero_add_sum _).trans (Fin.sum_univ_one _ |>.trans ?_)
  have e : idx_main_v33 (idx_main_v34 (ix2 r k)) 0 = ix2 r (0 : Fin 1) := funext fun a => by fin_cases a <;> rfl
  rw [e, val_main_v32_apply, val_main_v30_apply, val_main_v26_apply, val_main_v25_apply, val_main_v31_apply, val_main_v10_apply,
    val_main_v9_apply, val_main_v8_apply, meanSq_apply, rinv_apply, val_main_cst_5_apply, val_main_cst_6_apply, val_main_cst_2_apply]
  refine congrArg (fun s : EReal => Ideal.div (s * (Norm.minusHalf * Ideal.div (Norm.rinv (row h r)) (Norm.meanSq (row h r)))) Norm.len)
    ((zero_add_sum _).trans (Finset.sum_congr rfl fun q _ => ?_))
  have e : idx_main_v25 (idx_main_v26 (ix2 r (0 : Fin 1))) q = ix2 r q := funext fun a => by
    fin_cases a
    · exact Fin.ext (by show r.val * 1 + 0 = r.val; omega)
    · rfl
  rw [e, val_main_v24_apply, gained_apply]
  rfl

/-- The reference's first result array. -/
theorem value : val_main_v38 (F := Ideal) h g w d dy = GDx h g d (carried dy w) := by
  funext i
  obtain ⟨r, k, rfl⟩ : ∃ (r : Fin 4096) (k : Fin 1024), i = ix2 r k := ⟨i 0, i 1, eq_ix2 i⟩
  rw [val_main_v38_apply, val_main_v36_apply, val_main_v29_apply, val_main_v28_apply, val_main_v35_apply, val_main_v37_apply,
    slope_apply, gained_apply, val_main_v27_apply]
  have e : idx_main_v27 (ix2 r k) = ix2 r (0 : Fin 1) := funext fun a => by fin_cases a <;> rfl
  rw [e, rinv_apply]
  exact (Norm.grad (row h r) (fun q => carried dy w r q * g (ix1 q)) (d (ix2 r k)) k).symm

/-- The reference's second result array. -/
theorem valueGain : val_main_v39 (F := Ideal) h w dy = GDg h (carried dy w) := by
  funext i
  obtain ⟨z, k, rfl⟩ : ∃ (z : Fin 1) (k : Fin 1024), i = ix2 z k := ⟨i 0, i 1, eq_ix2 i⟩
  rw [val_main_v39_apply, val_main_v23_apply, val_main_cst_4_apply]
  refine (zero_add_sum _).trans (Fin.sum_univ_one _ |>.trans ?_)
  rw [val_main_v20_apply, val_main_v19_apply, val_main_cst_3_apply]
  refine (zero_add_sum _).trans (Finset.sum_congr rfl fun r _ => ?_)
  have e : idx_main_v19 (idx_main_v20 (idx_main_v23 (idx_main_v39 (ix2 z k)) 0)) r = ix2 r k := funext fun a => by
    have hz := z.isLt
    fin_cases a
    · rfl
    · exact Fin.ext (by show _ = k.val; simp [idx_main_v19, idx_main_v20, idx_main_v23, idx_main_v39])
  rw [e, val_main_v18_apply, val_main_v12_apply, carried_apply, val_main_v11_apply]
  have e : idx_main_v11 (ix2 r k) = ix2 r (0 : Fin 1) := funext fun a => by fin_cases a <;> rfl
  rw [e, rinv_apply]
  exact mul_comm (G := EReal) _ _

end Cert.Proof.DxnRef

end
-- ==== Proof.ClaimDxn.lean ====
/- The input gradient's call of a feed-forward block and the reference compute the same two arrays. -/
module

public import proofs.«01_k».proof.Defs
public import proofs.«01_k».proof.Proof.Dxn
public import proofs.«01_k».proof.Proof.DxnRef

@[expose] public section

noncomputable section

namespace Cert.Proof.Claims

open Idealize.ShloMosaic Idealize.ShloMosaic.TcCoe Idealize.SL.Sem Cert.Proof.Rows

theorem dxn : Cert.algebraic_KernelIdeal_ReferenceIdeal := by
  intro m g m' g' _ hm
  refine ⟨fun c => GDx (m (c.tc.loc Cert.KernelIdeal.main_arg0)) (m (c.tc.loc Cert.KernelIdeal.main_arg1))
      (m (c.tc.loc Cert.KernelIdeal.main_arg3)) (carried (m (c.tc.loc Cert.KernelIdeal.main_arg4)) (m (c.tc.loc Cert.KernelIdeal.main_arg2))),
    fun c => GDg (m (c.tc.loc Cert.KernelIdeal.main_arg0))
      (carried (m (c.tc.loc Cert.KernelIdeal.main_arg4)) (m (c.tc.loc Cert.KernelIdeal.main_arg2))), ?_, ?_⟩
  · exact (θ_run _ _ _).mono (fun r h c => ⟨(h c).1.trans (Dxn.finalDx m c), (h c).2.1.trans (Dxn.finalDg m c), (h c).2.2⟩)
      (Cert.KernelIdeal.Value.run_blocks m g)
  · refine (θ_run _ _ _).mono (fun r h c => ⟨(h c).1.trans ?_, (h c).2.1.trans ?_, (h c).2.2⟩) (Cert.ReferenceIdeal.Value.run m' g')
    · obtain ⟨h0, h1, h2, h3, h4⟩ := hm c
      rw [Cert.ReferenceIdeal.Read.val_main_v38_eq, h0, h1, h2, h3, h4]
      exact DxnRef.value _ _ _ _ _
    · obtain ⟨h0, h1, h2, h3, h4⟩ := hm c
      refine (Cert.ReferenceIdeal.Read.val_main_v39_eq _ _ _).trans ?_
      rw [h0, h2, h4]
      exact DxnRef.valueGain _ _ _

end Cert.Proof.Claims

end
-- ==== Proof.Dact.lean ====
/- What the gate's backward call leaves in its result array, as one function of the argument arrays (`G`, `final`, `run`). -/
module

public import proofs.«01_k».proof.Proof.Gen.Kernel2Ideal.Value
public import proofs.«01_k».proof.Proof.Layout
public import Idealize.ShloMosaic.Lib.MatmulPlain
public import Idealize.ShloMosaic.Lib.IdealHost
public import Idealize.ShloMosaic.Lib.Pipeline.ValueKit.Geometry

@[expose] public section

set_option maxRecDepth 16384

noncomputable section

namespace Cert.Proof.Dact

open Cert.Kernel2Ideal Cert.Kernel2Ideal.Gen Cert.Kernel2Ideal.Value Cert.Proof.Layout
open Idealize.ShloMosaic Idealize.ShloMosaic.TcCoe Idealize.ShloMosaic.ValueIdx Idealize.SL.Sem

/-- Half of the gradient carried back through the output weight, at row `r` and hidden feature `f`. -/
def back (w : Vec Ideal S2816x1024 .f32) (dh : Vec Ideal S4096x1024 .f32) (r : Fin 4096) (f : Fin 2816) : EReal :=
  Ideal.ofBits .f32 0x3F000000#32 * ∑ k : Fin 1024, dh (ix2 r k) * w (ix2 f k)

/-- The gradient of the two halves at one hidden feature: the gate's `g`, the linear half's `p`, the carried `b`. -/
def dGate (g p b : EReal) : EReal := b * p * (Ideal.logistic g * (1 + g * (1 - Ideal.logistic g)))
def dLin (g b : EReal) : EReal := b * (g * Ideal.logistic g)

/-- The result array: the gradient of the gate's input in the paired layout. -/
def G (u : Vec Ideal S4096x5632 .f32) (w : Vec Ideal S2816x1024 .f32) (dh : Vec Ideal S4096x1024 .f32) :
    Vec Ideal S4096x5632 .bf16 := fun i =>
  if (i 1).val % 2816 < 1408 then
    dGate (u (ix2 (i 0) (gateCol (feat (i 1))))) (u (ix2 (i 0) (linCol (feat (i 1))))) (back w dh (i 0) (feat (i 1)))
  else dLin (u (ix2 (i 0) (gateCol (feat (i 1))))) (back w dh (i 0) (feat (i 1)))

/-- The half product of a block, at an index. -/
theorem pay1_apply (x0 : Vec Ideal S512x1024 .f32) (x1 : Vec Ideal S1408x1024 .bf16) (j : S512x1408.Idx) :
    k0_pay1 (F := Ideal) x0 x1 j
      = Ideal.ofBits .f32 0x3F000000#32 * ∑ k : Fin 1024, x0 (ix2 (j 0) k) * x1 (ix2 (j 1) k) := by
  obtain ⟨r, c, rfl⟩ : ∃ (r : Fin 512) (c : Fin 1408), j = ix2 r c := ⟨j 0, j 1, (eq_ix2 j)⟩
  unfold k0_pay1
  show Ideal.ofBits .f32 0x3F000000#32 * FloatOps.matmul (DotDims.transposedRhs 512 1024 1408) none
    (truncf .bf16 x0 bitsLt_bf16_f32) (shapeCast S1408x1024 x1 shapeCasts_S1408x1024_S1408x1024)
    (constant S512x1408 .f32 0x00000000#32) (ix2 r c) = _
  rw [Ideal.matmul_transposedRhs_apply, shapeCast_self]
  congr 1
  show Ideal.ofBits .f32 0x00000000#32 + _ = _
  rw [Ideal.ofBits_zero_f32, zero_add]
  rfl

theorem pay4_apply (x0 : Vec Ideal S512x1024 .f32) (x1 : Vec Ideal S1408x1024 .bf16) (a b : Vec Ideal S512x1408 .bf16)
    (j : S512x1408.Idx) :
    k0_pay4 (F := Ideal) x0 x1 a b j = dGate (a j) (b j) (k0_pay1 (F := Ideal) x0 x1 j) := by
  unfold k0_pay4 k0_pay3 k0_pay2 dGate
  simp only [shapeCast_self]
  show _ * _ * (_ * (Ideal.ofBits .f32 0x3F800000#32 + _ * (Ideal.ofBits .f32 0x3F800000#32 - _))) = _
  rw [Ideal.ofBits_one_f32]
  rfl

theorem pay5_apply (x0 : Vec Ideal S512x1024 .f32) (x1 : Vec Ideal S1408x1024 .bf16) (a : Vec Ideal S512x1408 .bf16)
    (j : S512x1408.Idx) :
    k0_pay5 (F := Ideal) x0 x1 a j = dLin (a j) (k0_pay1 (F := Ideal) x0 x1 j) := by
  unfold k0_pay5 k0_pay3 k0_pay2 dLin
  simp only [shapeCast_self]
  rfl

/-- The block a grid point leaves, as one function of the input blocks. -/
def blkG (x0 : Vec Ideal S512x1024 .f32) (x1 : Vec Ideal S1408x1024 .bf16) (x2 : Vec Ideal S512x2816 .bf16) :
    Vec Ideal S512x2816 .bf16 := fun y =>
  if (y 1).val < 1408 then
    dGate (x2 (ix2 (y 0) (⟨(y 1).val % 1408, by omega⟩ : Fin 2816)))
      (x2 (ix2 (y 0) (⟨1408 + (y 1).val % 1408, by omega⟩ : Fin 2816)))
      (k0_pay1 (F := Ideal) x0 x1 (ix2 (y 0) (⟨(y 1).val % 1408, by omega⟩ : Fin 1408)))
  else
    dLin (x2 (ix2 (y 0) (⟨(y 1).val % 1408, by omega⟩ : Fin 2816)))
      (k0_pay1 (F := Ideal) x0 x1 (ix2 (y 0) (⟨(y 1).val % 1408, by omega⟩ : Fin 1408)))

theorem out_eq (x0 : Vec Ideal S512x1024 .f32) (x1 : Vec Ideal S1408x1024 .bf16) (x2 : Vec Ideal S512x2816 .bf16) :
    out0_3 (F := Ideal) x0 x1 x2 = blkG x0 x1 x2 := by
  funext y
  unfold out0_3
  refine View.canon_apply_of_pieces (blkG x0 x1 x2) _ ?_ y (cover0_3 _ _ y)
  have hz : (![0, 0] : Fin 2 → Nat) = fun _ => 0 := funext fun a => by fin_cases a <;> rfl
  intro p hp x
  simp only [List.mem_cons, List.not_mem_nil, or_false] at hp
  have e0 : View.ld x0 r0_0 = x0 := View.ld_unit_zero hz _ _
  have e1 : View.ld x1 r0_1 = x1 := View.ld_unit_zero hz _ _
  rcases hp with rfl | rfl
  · have b0 : (x 0).val < 512 := (x 0).isLt
    have b1 : (x 1).val < 1408 := (x 1).isLt
    have v0 : (r0_3.emb x 0).val = (x 0).val := by show 0 + 1 * (x 0).val = _; omega
    have v1 : (r0_3.emb x 1).val = 1408 + (x 1).val := by show 1408 + 1 * (x 1).val = _; omega
    have hx : (ix2 (r0_3.emb x 0) (⟨(r0_3.emb x 1).val % 1408, by omega⟩ : Fin 1408) : S512x1408.Idx) = x := by
      funext a; apply Fin.ext
      match a with
      | ⟨0, _⟩ => exact v0
      | ⟨1, _⟩ => show (r0_3.emb x 1).val % 1408 = (x 1).val; omega
    show k0_pay5 (F := Ideal) (View.ld x0 r0_0) (View.ld x1 r0_1) (View.ld x2 r0_2) x = blkG x0 x1 x2 (r0_3.emb x)
    rw [e0, e1, pay5_apply]
    unfold blkG
    rw [if_neg (by omega), hx]
    congr 1
    refine congrArg x2 (funext fun a => Fin.ext ?_)
    match a with
    | ⟨0, _⟩ => show 0 + 1 * (x 0).val = _; exact (by omega : 0 + 1 * (x 0).val = (x 0).val).trans v0.symm
    | ⟨1, _⟩ => show 0 + 1 * (x 1).val = (r0_3.emb x 1).val % 1408; omega
  · have b0 : (x 0).val < 512 := (x 0).isLt
    have b1 : (x 1).val < 1408 := (x 1).isLt
    have v0 : (r0_2.emb x 0).val = (x 0).val := by show 0 + 1 * (x 0).val = _; omega
    have v1 : (r0_2.emb x 1).val = (x 1).val := by show 0 + 1 * (x 1).val = _; omega
    have hx : (ix2 (r0_2.emb x 0) (⟨(r0_2.emb x 1).val % 1408, by omega⟩ : Fin 1408) : S512x1408.Idx) = x := by
      funext a; apply Fin.ext
      match a with
      | ⟨0, _⟩ => exact v0
      | ⟨1, _⟩ => show (r0_2.emb x 1).val % 1408 = (x 1).val; omega
    show k0_pay4 (F := Ideal) (View.ld x0 r0_0) (View.ld x1 r0_1) (View.ld x2 r0_2) (View.ld x2 r0_3) x = blkG x0 x1 x2 (r0_2.emb x)
    rw [e0, e1, pay4_apply]
    unfold blkG
    rw [if_pos (by omega), hx]
    congr 1
    · refine congrArg x2 (funext fun a => Fin.ext ?_)
      match a with
      | ⟨0, _⟩ => rfl
      | ⟨1, _⟩ => show 0 + 1 * (x 1).val = (r0_2.emb x 1).val % 1408; omega
    · refine congrArg x2 (funext fun a => Fin.ext ?_)
      match a with
      | ⟨0, _⟩ => rfl
      | ⟨1, _⟩ => show 1408 + 1 * (x 1).val = 1408 + (r0_2.emb x 1).val % 1408; omega

variable (m : (ℓ : Loc nD τ sig) → Buf (Elt Ideal) ℓ) (ρ : Dev nD → PrngReg)

/-- The weight and the gate's input as the region finds them. -/
theorem V_w (c : Dev nD) (i : S2816x1024.Idx) : V m c main_v0 i = m ((c : Thread nD τ).loc main_arg1) i := by
  dsimp only [V, hostOps0]
  after_results
  rfl

theorem V_u (c : Dev nD) (i : S4096x5632.Idx) :
    V m c main_v4 i = m ((c : Thread nD τ).loc main_arg0) (ix2 (i 0) (src (i 1))) := by
  dsimp only [V, hostOps0]
  after_results
  show shapeCast ⟨2, ![4096, 5632]⟩ (transpose ⟨4, ![4096, 2, 2, 1408]⟩ [0, 2, 1, 3] (shapeCast ⟨4, ![4096, 2, 2, 1408]⟩
    (m ((c : Thread nD τ).loc main_arg0)) shapeCasts_S4096x5632_S4096x2x2x1408)
    transposes_S4096x2x2x1408_S4096x2x2x1408_0_2_1_3) shapeCasts_S4096x2x2x1408_S4096x5632 i = _
  exact pairs_apply _ _ _ _ i

theorem e0 : ∀ t : Fin cfg0.N, win0_0.index t = ![t.val % 8, 0] := (by decide +kernel : ∀ t : Fin grid0.N, _)
theorem e1 : ∀ t : Fin cfg0.N, win0_1.index t = ![t.val / 8, 0] := (by decide +kernel : ∀ t : Fin grid0.N, _)
theorem e2 : ∀ t : Fin cfg0.N, win0_2.index t = ![t.val % 8, t.val / 8] := (by decide +kernel : ∀ t : Fin grid0.N, _)
theorem e3 : ∀ t : Fin cfg0.N, win0_3.index t = ![t.val % 8, t.val / 8] := (by decide +kernel : ∀ t : Fin grid0.N, _)

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  have hy0 : (y 0).val < 512 := (y 0).isLt
  have hy1 : (y 1).val < 2816 := (y 1).isLt
  have ht : t.val < 16 := lt_of_lt_of_eq t.isLt (show cfg0.N = 16 from N_0)
  have h0 : ((win0_3.blk t).view.emb y 0).val = t.val % 8 * 512 + (y 0).val := by blk_simp [e3]
  have h1 : ((win0_3.blk t).view.emb y 1).val = t.val / 8 * 2816 + (y 1).val := by blk_simp [e3]
  generalize (win0_3.blk t).view.emb y = i at h0 h1 ⊢
  have hi1 : (i 1).val < 5632 := (i 1).isLt
  have hu : ∀ q : Fin 2816, iblk m c 2 t (ix2 (y 0) q) = m ((c : Thread nD τ).loc main_arg0)
      (ix2 (i 0) (src (⟨t.val / 8 * 2816 + q.val, by have := q.isLt; omega⟩ : Fin 5632))) := fun q => by
    have ha : (win0_2.blk t).view.emb (ix2 (y 0) q) = (ix2 (i 0) (⟨t.val / 8 * 2816 + q.val, by have := q.isLt; omega⟩ : Fin 5632) : S4096x5632.Idx) := by
      funext a; apply Fin.ext
      match a with
      | ⟨0, _⟩ => blk_simp [e2, h0]
      | ⟨1, _⟩ => blk_simp [e2]
    show V m c main_v4 ((win0_2.blk t).view.emb (ix2 (y 0) q)) = _
    rw [ha, V_u]
  have hb : k0_pay1 (F := Ideal) (iblk m c 0 t) (iblk m c 1 t) (ix2 (y 0) (⟨(y 1).val % 1408, by omega⟩ : Fin 1408))
      = back (m ((c : Thread nD τ).loc main_arg1)) (m ((c : Thread nD τ).loc main_arg2)) (i 0) (feat (i 1)) := by
    rw [pay1_apply]
    unfold back
    congr 1
    refine Finset.sum_congr rfl fun k _ => ?_
    have ha : (win0_0.blk t).view.emb (ix2 (y 0) k) = (ix2 (i 0) k : S4096x1024.Idx) := by
      funext a; apply Fin.ext
      match a with
      | ⟨0, _⟩ => blk_simp [e0, h0]
      | ⟨1, _⟩ => blk_simp [e0]
    have hb : (win0_1.blk t).view.emb (ix2 (⟨(y 1).val % 1408, by omega⟩ : Fin 1408) k) = (ix2 (feat (i 1)) k : S2816x1024.Idx) := by
      funext a; apply Fin.ext
      match a with
      | ⟨0, _⟩ => blk_simp [e1]; unfold feat; dsimp only; omega
      | ⟨1, _⟩ => blk_simp [e1]
    have la : iblk m c 0 t (ix2 (y 0) k) = m ((c : Thread nD τ).loc main_arg2) (ix2 (i 0) k) := by
      show V m c main_arg2 ((win0_0.blk t).view.emb (ix2 (y 0) k)) = _
      rw [ha, V_main_arg2]
    have lb : iblk m c 1 t (ix2 (⟨(y 1).val % 1408, by omega⟩ : Fin 1408) k) = m ((c : Thread nD τ).loc main_arg1) (ix2 (feat (i 1)) k) := by
      show V m c main_v0 ((win0_1.blk t).view.emb (ix2 (⟨(y 1).val % 1408, by omega⟩ : Fin 1408) k)) = _
      rw [hb, V_w]
    exact congrArg₂ (fun a b : EReal => a * b) la lb
  unfold blkG G
  rw [hb, hu, hu]
  have hd : (i 1).val % 2816 = (y 1).val := by omega
  by_cases hc : (y 1).val < 1408
  · rw [if_pos hc, if_pos (by omega)]
    congr 3
    · rw [src_gate _ (by dsimp only; omega)]
      congr 1; apply Fin.ext; unfold feat; dsimp only; omega
    · rw [src_lin _ (by dsimp only; omega)]
      congr 1; apply Fin.ext; unfold feat; dsimp only; omega
  · rw [if_neg hc, if_neg (by omega)]
    congr 3
    rw [src_gate _ (by dsimp only; omega)]
    congr 1; apply Fin.ext; unfold feat; dsimp only; omega

end Cert.Proof.Dact

end
-- ==== Proof.DactRef.lean ====
/- The gradient of the gate as the reference computes it: its result array, read at an index, is `Dact.G` when the
   cotangent, the output weight and the linear half are real. -/
module

public import proofs.«01_k».proof.Proof.Dact
public import proofs.«01_k».proof.Proof.Reals
public import proofs.«01_k».proof.Proof.Gen.Reference2Ideal.Run
public import proofs.«01_k».proof.Proof.Gen.Reference2Ideal.Read
public import Idealize.ShloMosaic.Lib.KernelVsHost

@[expose] public section

set_option maxRecDepth 16384

noncomputable section

namespace Cert.Proof.DactRef

open Cert.Reference2Ideal Cert.Reference2Ideal.Gen Cert.Reference2Ideal.Read Cert.Proof.Layout Cert.Proof.Reals Cert.Proof.Dact
open Idealize.ShloMosaic Idealize.ShloMosaic.TcCoe Idealize.ShloMosaic.ValueIdx Idealize.SL.Sem

variable (u : Vec Ideal S4096x5632 .f32) (w : Vec Ideal S2816x1024 .f32) (dh : Vec Ideal S4096x1024 .f32)

theorem sig_apply (r : Fin 4096) (f : Fin 2816) :
    val_main_v1_2 (F := Ideal) u (ix2 r f) = Ideal.logistic (u (ix2 r (gateCol f))) := by
  rw [val_main_v1_2_apply, val_main_call0_v3_apply, val_main_call0_v4_apply, val_main_call0_v2_apply, val_main_call0_v1_apply,
    val_main_call0_v0_apply, val_main_v0_apply, val_main_call0_cst_apply, val_main_call0_cst_0_apply]
  have e : idx_main_v0 (ix2 r f) = ix2 r (gateCol f) := funext fun a => by fin_cases a <;> rfl
  rw [e]
  simp only [Ideal.ofBits_def, Ideal.ofBits_one_f32]
  unfold Ideal.logistic
  rfl

theorem back_apply (r : Fin 4096) (f : Fin 2816) : val_main_v9 (F := Ideal) w dh (ix2 r f) = back w dh r f := by
  rw [val_main_v9_apply]
  unfold back
  rw [half_eq, coe_mul_sum _ _ (by norm_num)]
  refine Finset.sum_congr rfl fun k _ => ?_
  rw [val_main_v8_apply, val_main_v7_apply, val_main_cst_0_apply]
  show (Ideal.ofBits .f32 0x3F000000#32 * dh (lidx_main_v9 (ix2 r f) k)) * w (ridx_main_v9 (ix2 r f) k) = _
  rw [half_eq, mul_assoc]
  have e1 : lidx_main_v9 (ix2 r f) k = ix2 r k := funext fun a => by fin_cases a <;> rfl
  have e2 : ridx_main_v9 (ix2 r f) k = ix2 f k := funext fun a => by fin_cases a <;> rfl
  rw [e1, e2]

theorem lin_apply (r : Fin 4096) (f : Fin 2816) : val_main_v10 (F := Ideal) u w dh (ix2 r f)
    = dLin (u (ix2 r (gateCol f))) (back w dh r f) := by
  rw [val_main_v10_apply, val_main_v1_0_apply, sig_apply, back_apply, val_main_v0_apply]
  have e : idx_main_v0 (ix2 r f) = ix2 r (gateCol f) := funext fun a => by fin_cases a <;> rfl
  rw [e]
  unfold dLin
  exact mul_comm (G := EReal) _ _

theorem gate_apply (r : Fin 4096) (f : Fin 2816) (h : IsReal (back w dh r f * u (ix2 r (linCol f)))) :
    val_main_v13 (F := Ideal) u w dh (ix2 r f)
      = dGate (u (ix2 r (gateCol f))) (u (ix2 r (linCol f))) (back w dh r f) := by
  have hp : val_main_v2 (F := Ideal) u (ix2 r f) = u (ix2 r (linCol f)) := by
    rw [val_main_v2_apply]
    exact congrArg u (funext fun a => by fin_cases a <;> rfl)
  have hg : val_main_v0 (F := Ideal) u (ix2 r f) = u (ix2 r (gateCol f)) := by
    rw [val_main_v0_apply]
    exact congrArg u (funext fun a => by fin_cases a <;> rfl)
  rw [val_main_v13_apply, val_main_call1_v1_apply, val_main_call1_v2_apply, val_main_call1_v0_apply, val_main_v11_apply,
    val_main_v1_1_apply, val_main_call0_v7_apply, val_main_call0_v6_apply, val_main_call0_cst_1_apply, sig_apply, back_apply, hp, hg]
  simp only [Ideal.ofBits_def, Ideal.ofBits_one_f32]
  exact gate_grad _ _ h

theorem sum_lo (r : Fin 4096) (f : Fin 2816) :
    val_main_v15 (F := Ideal) u w dh (ix2 r (gateCol f)) = val_main_v13 (F := Ideal) u w dh (ix2 r f) := by
  have hf := f.isLt
  rw [val_main_v15_apply]
  unfold val_main_v12 val_main_v14
  rw [pad_apply_of_not_inside _ _ _ _ _ _ _ _ (1 : Fin 2) (by
      rintro ⟨h, -⟩
      exact absurd h (by show ¬2816 ≤ f.val; omega)),
    pad_apply_of_inside _ _ _ _ _ _ _ _ (ix2 r f) (by
      intro a
      fin_cases a
      · show r.val = 0 + r.val * (0 + 1); omega
      · show f.val = 0 + f.val * (0 + 1); omega), val_main_cst_1_apply, Ideal.ofBits_def, Ideal.ofBits_zero_f32]
  exact zero_add _

theorem sum_hi (r : Fin 4096) (f : Fin 2816) :
    val_main_v15 (F := Ideal) u w dh (ix2 r (linCol f)) = val_main_v10 (F := Ideal) u w dh (ix2 r f) := by
  have hf := f.isLt
  rw [val_main_v15_apply]
  unfold val_main_v12 val_main_v14
  rw [pad_apply_of_inside _ _ _ _ _ _ _ _ (ix2 r f) (by
      intro a
      fin_cases a
      · show r.val = 0 + r.val * (0 + 1); omega
      · show 2816 + f.val = 2816 + f.val * (0 + 1); omega),
    pad_apply_of_not_inside _ _ _ _ _ _ _ _ (1 : Fin 2) (by
      rintro ⟨-, -, h⟩
      exact absurd h (by show ¬((2816 + f.val) - 0) / (0 + 1) < 2816; omega)), val_main_cst_2_apply, Ideal.ofBits_def, Ideal.ofBits_zero_f32]
  exact add_zero _

/-- The reference's result array. -/
theorem value (hu : ∀ r f, IsReal (u (ix2 r (linCol f)))) (hw : ∀ f k, IsReal (w (ix2 f k))) (hd : ∀ r k, IsReal (dh (ix2 r k))) :
    val_main_v19 (F := Ideal) u w dh = G u w dh := by
  have hb : ∀ r f, IsReal (back w dh r f * u (ix2 r (linCol f))) := fun r f =>
    ((show IsReal (Ideal.ofBits .f32 0x3F000000#32) from ⟨_, half_eq⟩).mul
      (isReal_sum _ _ fun k _ => (hd r k).mul (hw f k))).mul (hu r f)
  funext i
  have h : val_main_v19 (F := Ideal) u w dh i = val_main_v15 (F := Ideal) u w dh (ix2 (i 0) (src (i 1))) := by
    unfold val_main_v19 val_main_v18 val_main_v17 val_main_v16
    generalize val_main_v15 (F := Ideal) u w dh = x
    exact pairs_apply x _ _ _ i
  rw [h]
  unfold G
  by_cases hc : (i 1).val % 2816 < 1408
  · rw [if_pos hc, src_gate (i 1) hc]
    exact (sum_lo u w dh (i 0) _).trans (gate_apply u w dh (i 0) _ (hb (i 0) _))
  · rw [if_neg hc, src_lin (i 1) hc]
    exact (sum_hi u w dh (i 0) _).trans (lin_apply u w dh (i 0) _)

end Cert.Proof.DactRef

end
-- ==== Proof.ClaimDact.lean ====
/- The gate's backward call and the reference compute the same array, when the cotangent, the output weight and the linear
   half are real. -/
module

public import proofs.«01_k».proof.Defs
public import proofs.«01_k».proof.Proof.Gen.Pre_finite
public import proofs.«01_k».proof.Proof.Dact
public import proofs.«01_k».proof.Proof.DactRef

@[expose] public section

noncomputable section

namespace Cert.Proof.Claims

open Idealize.ShloMosaic Idealize.ShloMosaic.TcCoe Idealize.ShloMosaic.ValueIdx Idealize.SL.Sem Cert.Proof.Reals Cert.Proof.Layout

/-- What the precondition says of the three arrays. -/
theorem finite_reals (u : Vec Ideal Cert.Pre_finite.S4096x5632 .f32) (w : Vec Ideal Cert.Pre_finite.S2816x1024 .f32)
    (dh : Vec Ideal Cert.Pre_finite.S4096x1024 .f32)
    (h : (Cert.Pre_finite.fn (F := Ideal) u w dh).1 = (fun _ => 1#1) ∧ (Cert.Pre_finite.fn (F := Ideal) u w dh).2.1 = (fun _ => 1#1)
      ∧ (Cert.Pre_finite.fn (F := Ideal) u w dh).2.2 = (fun _ => 1#1)) :
    (∀ r f, IsReal (u (ix2 r (linCol f)))) ∧ (∀ f k, IsReal (w (ix2 f k))) ∧ (∀ r k, IsReal (dh (ix2 r k))) := by
  obtain ⟨hu, hw, hd⟩ := h
  refine ⟨fun r f => ?_, fun f k => ?_, fun r k => ?_⟩
  · have e : extractStridedSlice Cert.Pre_finite.S4096x2816 ![0, 2816] u Cert.Pre_finite.Facts.slices_S4096x5632_S4096x2816_0_2816 (ix2 r f)
        = u (ix2 r (linCol f)) := congrArg u (funext fun a => Fin.ext (by
      match a with
      | ⟨0, _⟩ => show 0 + r.val = r.val; omega
      | ⟨1, _⟩ => rfl))
    rw [← e]
    exact isReal_of_abs_lt _ (congrFun hu (ix2 r f))
  · exact isReal_of_abs_lt _ (congrFun hw (ix2 f k))
  · exact isReal_of_abs_lt _ (congrFun hd (ix2 r k))

theorem dact : Cert.algebraic_Kernel2Ideal_Reference2Ideal_pre_finite := by
  intro m g m' g' hp hm
  refine ⟨fun c => Dact.G (m (c.tc.loc Cert.Kernel2Ideal.main_arg0)) (m (c.tc.loc Cert.Kernel2Ideal.main_arg1))
      (m (c.tc.loc Cert.Kernel2Ideal.main_arg2)), ?_, ?_⟩
  · exact (θ_run _ _ _).mono (fun r h c => ⟨(h c).1.trans (Dact.final m c), (h c).2⟩) (Cert.Kernel2Ideal.Value.run_blocks m g)
  · refine (θ_run _ _ _).mono (fun r h c => ⟨(h c).1.trans ?_, (h c).2⟩) (Cert.Reference2Ideal.Value.run m' g')
    obtain ⟨h0, h1, h2⟩ := hm c
    obtain ⟨hu, hw, hd⟩ := finite_reals _ _ _ (hp c)
    refine (Cert.Reference2Ideal.Read.val_main_v19_eq _ _ _).trans ?_
    rw [h0, h1, h2]
    exact DactRef.value _ _ _ hu hw hd

end Cert.Proof.Claims

end
-- ==== Proof.Dhn.lean ====
/- What the input gradient's call of an attention block leaves in its two result arrays, as functions of the argument
   arrays (`finalDx`, `finalDg`). -/
module

public import proofs.«01_k».proof.Proof.Gen.Kernel8Ideal.Value
public import proofs.«01_k».proof.Proof.Layout
public import proofs.«01_k».proof.Proof.Rows
public import Idealize.ShloMosaic.Lib.Pipeline.ValueKit.Geometry
public import Idealize.ShloMosaic.Lib.Pipeline.ReadBack

@[expose] public section

set_option maxRecDepth 16384

noncomputable section

namespace Cert.Proof.Dhn

open Cert.Kernel8Ideal Cert.Kernel8Ideal.Gen Cert.Kernel8Ideal.Value Cert.Proof.Layout Cert.Proof.Rows
open Idealize.ShloMosaic Idealize.ShloMosaic.TcCoe Idealize.ShloMosaic.ValueIdx Idealize.SL.Sem

/-- The product of a block of rows with one chip's columns of the weight, at an index. -/
theorem pay1_apply (x0 : Vec Ideal S512x768 .bf16) (x1 : Vec Ideal S1x1024x768 .bf16) (j : S512x1024.Idx) :
    k0_pay1 (F := Ideal) x0 x1 j = ∑ l : Fin 768, x0 (ix2 (j 0) l) * x1 (ix3 (0 : Fin 1) (j 1) l) := by
  obtain ⟨r, k, rfl⟩ : ∃ (r : Fin 512) (k : Fin 1024), j = ix2 r k := ⟨j 0, j 1, eq_ix2 j⟩
  unfold k0_pay1
  show FloatOps.matmul (F := Ideal) (φ₁ := .bf16) (φ₂ := .bf16) (DotDims.transposedRhs 512 768 1024) none
    (shapeCast S512x768 x0 shapeCasts_S512x768_S512x768)
    (shapeCast S1024x768 x1 shapeCasts_S1x1024x768_S1024x768) (constant S512x1024 .f32 0x00000000#32) (ix2 r k) = _
  rw [Ideal.matmul_transposedRhs_apply, shapeCast_self]
  show Ideal.ofBits .f32 0x00000000#32 + _ = _
  rw [Ideal.ofBits_zero_f32, zero_add]
  exact Finset.sum_congr rfl fun l _ => congrArg (fun s : EReal => x0 (ix2 r l) * s)
    (shapeCast_1ab_ab_apply x1 shapeCasts_S1x1024x768_S1024x768 k l)

variable (m : (ℓ : Loc nD τ sig) → Buf (Elt Ideal) ℓ)

/-- What the region finds: the gradient, the weight by chips, the gain as a row. -/
theorem V_dy (c : Dev nD) (i : S4096x3072.Idx) : V m c main_v0 i = m ((c : Thread nD τ).loc main_arg4) i := by
  dsimp only [V, hostOps0]
  after_results
  rfl

theorem V_w (c : Dev nD) (i : S4x1024x768.Idx) (hb : (i 0).val * 768 + (i 2).val < 3072) :
    V m c main_v3 i = m ((c : Thread nD τ).loc main_arg2) (ix2 (i 1) (⟨(i 0).val * 768 + (i 2).val, hb⟩ : Fin 3072)) := by
  dsimp only [V, hostOps0]
  after_results
  show transpose ⟨3, ![4, 1024, 768]⟩ [1, 0, 2] (shapeCast ⟨3, ![1024, 4, 768]⟩
    (m ((c : Thread nD τ).loc main_arg2)) shapeCasts_S1024x3072_S1024x4x768) transposes_S1024x4x768_S4x1024x768_1_0_2 i = _
  exact cut_apply (n := 768) rfl _ _ _ i hb

theorem V_g (c : Dev nD) (k : Fin 1024) :
    V m c main_v4 (ix2 (0 : Fin 1) k) = m ((c : Thread nD τ).loc main_arg1) (ix1 k) := by
  dsimp only [V, hostOps0]
  after_results
  show shapeCast ⟨2, ![1, 1024]⟩ (m ((c : Thread nD τ).loc main_arg1)) shapeCasts_S1024_S1x1024 (ix2 (0 : Fin 1) k) = _
  exact shapeCast_a_1a_apply _ _ _ _

theorem e0 : ∀ t : Fin cfg0.N, win0_0.index t = ![t.val / 4, t.val % 4] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![t.val / 4, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 4, 0] := (by decide +kernel : ∀ t : Fin grid0.N, _)
theorem e5 : ∀ t : Fin cfg0.N, win0_5.index t = ![t.val / 4, 0] := (by decide +kernel : ∀ t : Fin grid0.N, _)
theorem e6 : ∀ t : Fin cfg0.N, win0_6.index t = ![0, 0] := (by decide +kernel : ∀ t : Fin grid0.N, _)

theorem lt_N (t : Fin cfg0.N) : t.val < 32 := lt_of_lt_of_eq t.isLt (show cfg0.N = 32 from N_0)

/-- The row of the arrays that row `r` of the point's block is. -/
def at_ (t : Fin cfg0.N) (r : Fin 512) : Fin 4096 := ⟨t.val / 4 * 512 + r.val, by have := lt_N t; have := r.isLt; omega⟩

/-- The blocks a point reads, at an index. -/
theorem blk_dy (c : Dev nD) (t : Fin cfg0.N) (r : Fin 512) (l : Fin 768) (hb : t.val % 4 * 768 + l.val < 3072) : iblk m c 0 t (ix2 r l)
    = m ((c : Thread nD τ).loc main_arg4) (ix2 (at_ t r) (⟨t.val % 4 * 768 + l.val, hb⟩ : Fin 3072)) := by
  have ha : (win0_0.blk t).view.emb (ix2 r l) = (ix2 (at_ t r) (⟨t.val % 4 * 768 + l.val, hb⟩ : Fin 3072) : S4096x3072.Idx) := by
    funext a; apply Fin.ext
    match a with
    | ⟨0, _⟩ => blk_simp [e0]; rfl
    | ⟨1, _⟩ => blk_simp [e0]
  show V m c main_v0 ((win0_0.blk t).view.emb (ix2 r l)) = _
  rw [ha, V_dy]

theorem blk_w (c : Dev nD) (t : Fin cfg0.N) (k : Fin 1024) (l : Fin 768) (hb : t.val % 4 * 768 + l.val < 3072) :
    iblk m c 1 t (ix3 (0 : Fin 1) k l)
      = m ((c : Thread nD τ).loc main_arg2) (ix2 k (⟨t.val % 4 * 768 + l.val, hb⟩ : Fin 3072)) := by
  have ha : (win0_1.blk t).view.emb (ix3 (0 : Fin 1) k l) = (ix3 (⟨t.val % 4, by omega⟩ : Fin 4) k l : S4x1024x768.Idx) := by
    funext a; apply Fin.ext
    match a with
    | ⟨0, _⟩ => blk_simp [e1]
    | ⟨1, _⟩ => blk_simp [e1]
    | ⟨2, _⟩ => blk_simp [e1]
  show V m c main_v3 ((win0_1.blk t).view.emb (ix3 (0 : Fin 1) k l)) = _
  rw [ha]
  exact V_w m c (ix3 (⟨t.val % 4, by omega⟩ : Fin 4) k l) hb

theorem blk_x (c : Dev nD) (t : Fin cfg0.N) (r : Fin 512) (k : Fin 1024) :
    iblk m c 2 t (ix2 r k) = m ((c : Thread nD τ).loc main_arg0) (ix2 (at_ t r) k) := by
  have ha : (win0_2.blk t).view.emb (ix2 r k) = (ix2 (at_ t r) k : S4096x1024.Idx) := by
    funext a; apply Fin.ext
    match a with
    | ⟨0, _⟩ => blk_simp [e2]; rfl
    | ⟨1, _⟩ => blk_simp [e2]
  show V m c main_arg0 ((win0_2.blk t).view.emb (ix2 r k)) = _
  rw [ha, V_main_arg0]

theorem blk_g (c : Dev nD) (t : Fin cfg0.N) (k : Fin 1024) :
    iblk m c 3 t (ix2 (0 : Fin 1) k) = m ((c : Thread nD τ).loc main_arg1) (ix1 k) := by
  have ha : (win0_3.blk t).view.emb (ix2 (0 : Fin 1) k) = (ix2 (0 : Fin 1) k : S1x1024.Idx) := by
    funext a; apply Fin.ext
    match a with
    | ⟨0, _⟩ => blk_simp [e3]
    | ⟨1, _⟩ => blk_simp [e3]
  show V m c main_v4 ((win0_3.blk t).view.emb (ix2 (0 : Fin 1) k)) = _
  rw [ha, V_g]

theorem blk_d (c : Dev nD) (t : Fin cfg0.N) (r : Fin 512) (k : Fin 1024) :
    iblk m c 4 t (ix2 r k) = m ((c : Thread nD τ).loc main_arg3) (ix2 (at_ t r) k) := by
  have ha : (win0_4.blk t).view.emb (ix2 r k) = (ix2 (at_ t r) k : S4096x1024.Idx) := by
    funext a; apply Fin.ext
    match a with
    | ⟨0, _⟩ => blk_simp [e4]; rfl
    | ⟨1, _⟩ => blk_simp [e4]
  show V m c main_arg3 ((win0_4.blk t).view.emb (ix2 r k)) = _
  rw [ha, V_main_arg3]

/-- What the point adds to the running product. -/
def part (c : Dev nD) (t : Fin cfg0.N) (j : S512x1024.Idx) : EReal := k0_pay1 (F := Ideal) (iblk m c 0 t) (iblk m c 1 t) j

theorem acc_first (c : Dev nD) (t : Fin cfg0.N) (h : t.val % 4 = 0) (j : S512x1024.Idx) :
    (outsAt0 m c t.val t.isLt).2.2 j = 0 + part m c t j := by
  rw [outsAt0_A m c t h (by omega) (by omega)]
  frame_out
  unfold k0_pay2
  rw [shapeCast_self, zero_add]
  rfl

theorem pay3_apply (x0 : Vec Ideal S512x768 .bf16) (x1 : Vec Ideal S1x1024x768 .bf16) (a : Vec Ideal S512x1024 .f32) (j : S512x1024.Idx) :
    k0_pay3 (F := Ideal) x0 x1 a j = a j + k0_pay1 (F := Ideal) x0 x1 j := by
  unfold k0_pay3
  rw [shapeCast_self]
  rfl

theorem acc_next (c : Dev nD) (t : Fin cfg0.N) (h : ¬t.val % 4 = 0) (j : S512x1024.Idx) :
    (outsAt0 m c t.val t.isLt).2.2 j
      = (outsAt0 m c (t.val - 1) (Nat.lt_of_le_of_lt (Nat.sub_le _ _) t.isLt)).2.2 j + part m c t j := by
  by_cases h2 : t.val % 4 = 3
  · by_cases h3 : t.val < 4
    · rw [outsAt0_C m c t h (by omega) h2 h3 (by omega)]
      frame_out
      rw [read_unread_whole]
      exact pay3_apply _ _ _ j
    · rw [outsAt0_D m c t h (by omega) h2 h3 (by omega)]
      frame_out
      rw [read_unread_whole]
      exact pay3_apply _ _ _ j
  · rw [outsAt0_B m c t h (by omega) h2]
    frame_out
    rw [read_unread_whole]
    exact pay3_apply _ _ _ j

/-- A point's place in its run is its chip. -/
def inOrder (s : Fin 4) : Fin 4 := s
theorem inOrder_bij : Function.Bijective inOrder := by decide

/-- After the last chip's point the scratch holds the carried gradient of the block's rows. -/
theorem acc_last (c : Dev nD) (t : Fin cfg0.N) (h : t.val % 4 = 3) (r : Fin 512) (k : Fin 1024) :
    (outsAt0 m c t.val t.isLt).2.2 (ix2 r k)
      = carried (m ((c : Thread nD τ).loc main_arg4)) (m ((c : Thread nD τ).loc main_arg2)) (at_ t r) k := by
  rw [Pipeline.eq_sum_fin_of_reset_step_apply_of_flush (fun n h => (outsAt0 m c n h).2.2) 4 (fun _ => 0) (part m c)
    (acc_first m c) (acc_next m c) t h (ix2 r k), zero_add]
  have hN := lt_N t
  refine carried_by_chips (n := 768) (by decide) (m ((c : Thread nD τ).loc main_arg4)) (m ((c : Thread nD τ).loc main_arg2)) (at_ t r) k
    inOrder inOrder_bij _ fun s hb => ?_
  have hs := s.isLt
  have hu : 4 * (t.val / 4) + s.val < cfg0.N := lt_of_lt_of_eq (by omega : _ < 32) (show (32 : ℕ) = cfg0.N from N_0.symm)
  refine (pay1_apply (iblk m c 0 ⟨4 * (t.val / 4) + s.val, hu⟩) (iblk m c 1 ⟨4 * (t.val / 4) + s.val, hu⟩) (ix2 r k)).trans
    (Finset.sum_congr rfl fun l _ => ?_)
  have hm : (4 * (t.val / 4) + s.val) % 4 = s.val := by omega
  have hl := l.isLt
  have hq : (4 * (t.val / 4) + s.val) % 4 * 768 + l.val < 3072 := by omega
  have hr : at_ ⟨4 * (t.val / 4) + s.val, hu⟩ r = at_ t r := Fin.ext (by
    show (4 * (t.val / 4) + s.val) / 4 * 512 + r.val = t.val / 4 * 512 + r.val
    omega)
  have hc : (⟨(4 * (t.val / 4) + s.val) % 4 * 768 + l.val, hq⟩ : Fin 3072) = ⟨(inOrder s).val * 768 + l.val, hb l⟩ :=
    Fin.ext (by show (4 * (t.val / 4) + s.val) % 4 * 768 + l.val = s.val * 768 + l.val; rw [hm])
  refine congrArg₂ (fun a b : EReal => a * b) ((blk_dy m c ⟨4 * (t.val / 4) + s.val, hu⟩ r l hq).trans ?_) ((blk_w m c ⟨4 * (t.val / 4) + s.val, hu⟩ k l hq).trans ?_)
  · exact congrArg₂ (fun (a : Fin 4096) (q : Fin 3072) => m ((c : Thread nD τ).loc main_arg4) (ix2 a q)) hr hc
  · exact congrArg (fun q : Fin 3072 => m ((c : Thread nD τ).loc main_arg2) (ix2 k q)) hc

/-- What the last chip's point writes to the first result, over what its scratch then holds. -/
theorem out_last (c : Dev nD) (t : Fin cfg0.N) (h : t.val % 4 = 3) : (outsAt0 m c t.val t.isLt).1
    = k0_pay8 (F := Ideal) (iblk m c 2 t) (iblk m c 3 t) (outsAt0 m c t.val t.isLt).2.2 (iblk m c 4 t) := by
  by_cases h3 : t.val < 4
  · rw [outsAt0_C m c t (by omega) (by omega) h h3 (by omega)]
    frame_out
  · rw [outsAt0_D m c t (by omega) (by omega) h h3 (by omega)]
    frame_out

theorem kept_first (c : Dev nD) (t : Fin cfg0.N) (h : t.val % 4 = 3) (h3 : t.val < 4) : (outsAt0 m c t.val t.isLt).2.1
    = k0_pay7 (F := Ideal) (iblk m c 2 t) (outsAt0 m c t.val t.isLt).2.2 := by
  rw [outsAt0_C m c t (by omega) (by omega) h h3 (by omega)]
  frame_out

theorem kept_next (c : Dev nD) (t : Fin cfg0.N) (h : t.val % 4 = 3) (h3 : 4 ≤ t.val) : (outsAt0 m c t.val t.isLt).2.1
    = k0_pay4 (F := Ideal) (k0_pay7 (iblk m c 2 t) (outsAt0 m c t.val t.isLt).2.2)
      (outsAt0 m c (t.val - 1) (Nat.lt_of_le_of_lt (Nat.sub_le _ _) t.isLt)).2.1 := by
  rw [outsAt0_D m c t (by omega) (by omega) h (by omega) h3]
  frame_out

theorem kept_else (c : Dev nD) (t : Fin cfg0.N) (h : ¬t.val % 4 = 3) : (outsAt0 m c t.val t.isLt).2.1
    = (outsAt0 m c (t.val - 1) (Nat.lt_of_le_of_lt (Nat.sub_le _ _) t.isLt)).2.1 := by
  by_cases h0 : t.val % 4 = 0
  · rw [outsAt0_A m c t h0 (by omega) h]
    rfl
  · rw [outsAt0_B m c t h0 (by omega) h]
    rfl

/-- The first result array after the run. -/
theorem finalDx (c : Dev nD) : (dats m 0 c).arrAt 5 cfg0.N
    = GDx (m ((c : Thread nD τ).loc main_arg0)) (m ((c : Thread nD τ).loc main_arg1)) (m ((c : Thread nD τ).loc main_arg3))
      (carried (m ((c : Thread nD τ).loc main_arg4)) (m ((c : Thread nD τ).loc main_arg2))) := by
  refine (dats m 0 c).arrAt_eq_of_covers 5 _ (by decide +kernel) fun t hf y => ?_
  have h3 : t.val % 4 = 3 := (flush0_5 t).mp hf
  blk_simp
  rw [after0_5, out_last m c t h3]
  have hi : (win0_5.blk t).view.emb y = (ix2 (at_ t (y 0)) (y 1) : S4096x1024.Idx) := by
    funext a; apply Fin.ext
    match a with
    | ⟨0, _⟩ => blk_simp [e5]; rfl
    | ⟨1, _⟩ => blk_simp [e5]; rfl
  generalize (win0_5.blk t).view.emb y = i at hi ⊢
  subst hi
  exact grad_block _ _ _ _ (iblk m c 2 t) (outsAt0 m c t.val t.isLt).2.2 (iblk m c 4 t) (iblk m c 3 t) (at_ t) (blk_x m c t)
    (acc_last m c t h3) (blk_d m c t) (blk_g m c t) y

theorem gain_eq (c : Dev nD) (t : Fin cfg0.N) (h : t.val % 4 = 3) (j : S1x1024.Idx) :
    k0_pay7 (F := Ideal) (iblk m c 2 t) (outsAt0 m c t.val t.isLt).2.2 j
      = gainPart (m ((c : Thread nD τ).loc main_arg0))
        (carried (m ((c : Thread nD τ).loc main_arg4)) (m ((c : Thread nD τ).loc main_arg2))) (t.val / 4) j :=
  gain_block _ _ _ _ _ (by have := lt_N t; omega) (at_ t) (fun _ => rfl) (blk_x m c t) (acc_last m c t h) j

theorem N_eq : (32 : ℕ) = cfg0.N := N_0.symm

/-- After the last point the second result holds the sum over all row blocks. -/
theorem kept_end (c : Dev nD) (t : Fin cfg0.N) (h : t.val = 31) (j : S1x1024.Idx) : (outsAt0 m c t.val t.isLt).2.1 j
    = GDg (m ((c : Thread nD τ).loc main_arg0))
      (carried (m ((c : Thread nD τ).loc main_arg4)) (m ((c : Thread nD τ).loc main_arg2))) j :=
  (kept_sum (fun n (h : n < 32) => (outsAt0 m c n (lt_of_lt_of_eq h N_eq)).2.1)
    (gainPart (m ((c : Thread nD τ).loc main_arg0)) (carried (m ((c : Thread nD τ).loc main_arg4)) (m ((c : Thread nD τ).loc main_arg2))))
    (fun t h h4 j => (congrFun (kept_first m c ⟨t.val, lt_of_lt_of_eq t.isLt N_eq⟩ h h4) j).trans
      (gain_eq m c ⟨t.val, lt_of_lt_of_eq t.isLt N_eq⟩ h j))
    (fun t h h4 j => (congrFun ((kept_next m c ⟨t.val, lt_of_lt_of_eq t.isLt N_eq⟩ h h4).trans (pay4_apply _ _)) j).trans
      (congrArg (fun s : EReal => _ + s) (gain_eq m c ⟨t.val, lt_of_lt_of_eq t.isLt N_eq⟩ h j)))
    (fun t h _ j => congrFun (kept_else m c ⟨t.val, lt_of_lt_of_eq t.isLt N_eq⟩ h) j) j t.val h (lt_N t)).trans (gainSum _ _ j)

/-- The second result array after the run. -/
theorem finalDg (c : Dev nD) : (dats m 0 c).arrAt 6 cfg0.N
    = GDg (m ((c : Thread nD τ).loc main_arg0))
      (carried (m ((c : Thread nD τ).loc main_arg4)) (m ((c : Thread nD τ).loc main_arg2))) := by
  generalize hG : GDg (m ((c : Thread nD τ).loc main_arg0))
      (carried (m ((c : Thread nD τ).loc main_arg4)) (m ((c : Thread nD τ).loc main_arg2))) = G'
  refine (dats m 0 c).arrAt_eq_of_covers 6 _ (by decide +kernel) fun t hf y => ?_
  have hN := lt_N t
  have h3 : t.val = 31 := by have := (flush0_6 t).mp hf; omega
  blk_simp
  rw [after0_6]
  have h0 : ((win0_6.blk t).view.emb y 0).val = (y 0).val := by blk_simp [e6]
  have h1 : ((win0_6.blk t).view.emb y 1).val = (y 1).val := by blk_simp [e6]
  have hi : (win0_6.blk t).view.emb y = y := by
    funext a; apply Fin.ext
    match a with
    | ⟨0, _⟩ => exact h0
    | ⟨1, _⟩ => exact h1
  refine (kept_end m c t h3 y).trans ((congrFun hG y).trans ?_)
  exact congrArg G' hi.symm

end Cert.Proof.Dhn

end
-- ==== Proof.DhnRef.lean ====
/- The same gradient over the attention block's three products' columns: the reference's two result arrays. Columns of zeros
   added to the weight and to the gradient change no sum, so it is the gradient over the wider weight. -/
module

public import proofs.«01_k».proof.Proof.DxnRef
public import proofs.«01_k».proof.Proof.Gen.Reference8Ideal.Run
public import proofs.«01_k».proof.Proof.Gen.Reference8Ideal.Read

@[expose] public section

set_option maxRecDepth 16384

noncomputable section

namespace Cert.Proof.DhnRef

open Cert.Reference8Ideal Cert.Reference8Ideal.Gen Cert.Reference8Ideal.Read Cert.Proof.Rows
open Idealize.ShloMosaic Idealize.ShloMosaic.TcCoe Idealize.ShloMosaic.ValueIdx Idealize.SL.Sem

/-- An array with columns of zeros added. -/
def wide {n : ℕ} (x : Vec Ideal ⟨2, ![n, 3072]⟩ .f32) : Vec Ideal ⟨2, ![n, 5632]⟩ .f32 := fun i =>
  if h : (i 1).val < 3072 then x (ix2 (i 0) (⟨(i 1).val, h⟩ : Fin 3072)) else 0

theorem carried_wide (dy : Vec Ideal ⟨2, ![4096, 3072]⟩ .f32) (w : Vec Ideal ⟨2, ![1024, 3072]⟩ .f32) :
    carried (wide dy) (wide w) = carried dy w := by
  funext r k
  show ∑ q : Fin (3072 + 2560), wide dy (ix2 r q) * wide w (ix2 k q) = ∑ q : Fin 3072, dy (ix2 r q) * w (ix2 k q)
  rw [Fin.sum_univ_add]
  have h2 : ∑ q : Fin 2560, wide dy (ix2 r (Fin.natAdd 3072 q)) * wide w (ix2 k (Fin.natAdd 3072 q)) = 0 :=
    Finset.sum_eq_zero fun q _ => by
      have e : wide dy (ix2 r (Fin.natAdd 3072 q)) = 0 := dif_neg (by show ¬3072 + q.val < 3072; omega)
      rw [e, zero_mul]
  rw [h2, add_zero]
  refine Finset.sum_congr rfl fun q _ => congrArg₂ (fun a b : EReal => a * b) (dif_pos q.isLt) (dif_pos q.isLt)

variable (h : Vec Ideal S4096x1024 .f32) (g : Vec Ideal S1024 .f32) (w : Vec Ideal S1024x3072 .f32) (d : Vec Ideal S4096x1024 .f32)
  (dy : Vec Ideal S4096x3072 .f32)

theorem carried_eq : val_main_v17 (F := Ideal) w dy = Cert.ReferenceIdeal.Read.val_main_v17 (F := Ideal) (wide w) (wide dy) := by
  funext i
  obtain ⟨r, k, rfl⟩ : ∃ (r : Fin 4096) (k : Fin 1024), i = ix2 r k := ⟨i 0, i 1, eq_ix2 i⟩
  refine Eq.trans ?_ (DxnRef.carried_apply (wide w) (wide dy) r k).symm
  rw [carried_wide, val_main_v17_apply]
  refine Finset.sum_congr rfl fun q _ => ?_
  have e1 : lidx_main_v17 (ix2 r k) q = ix2 r q := funext fun a => by fin_cases a <;> rfl
  have e2 : ridx_main_v17 (ix2 r k) q = ix2 k q := funext fun a => by fin_cases a <;> rfl
  rw [e1, e2]

/-- The stages after the carried gradient. -/
theorem gained_eq : val_main_v22 (F := Ideal) g w dy = Cert.ReferenceIdeal.Read.val_main_v22 (F := Ideal) g (wide w) (wide dy) := by
  unfold val_main_v22 Cert.ReferenceIdeal.Read.val_main_v22
  rw [carried_eq]
  rfl

theorem slope_eq : val_main_v34 (F := Ideal) h g w dy = Cert.ReferenceIdeal.Read.val_main_v34 (F := Ideal) h g (wide w) (wide dy) := by
  unfold val_main_v34 val_main_v33 val_main_v32 val_main_v30 val_main_v26 val_main_v25 val_main_v24
  rw [gained_eq]
  rfl

/-- The reference's result arrays. -/
theorem value : val_main_v38 (F := Ideal) h g w d dy = GDx h g d (carried dy w) := by
  refine Eq.trans ?_ ((DxnRef.value h g (wide w) d (wide dy)).trans (by rw [carried_wide]))
  unfold val_main_v38 val_main_v36 val_main_v29 val_main_v28 val_main_v35 val_main_v37
  rw [slope_eq, gained_eq]
  rfl

theorem valueGain : val_main_v39 (F := Ideal) h w dy = GDg h (carried dy w) := by
  refine Eq.trans ?_ ((DxnRef.valueGain h (wide w) (wide dy)).trans (by rw [carried_wide]))
  unfold val_main_v39 val_main_v23 val_main_v20 val_main_v19 val_main_v18
  rw [carried_eq]
  rfl

end Cert.Proof.DhnRef

end
-- ==== Proof.ClaimDhn.lean ====
/- The input gradient's call of an attention block and the reference compute the same two arrays. -/
module

public import proofs.«01_k».proof.Defs
public import proofs.«01_k».proof.Proof.Dhn
public import proofs.«01_k».proof.Proof.DhnRef

@[expose] public section

noncomputable section

namespace Cert.Proof.Claims

open Idealize.ShloMosaic Idealize.ShloMosaic.TcCoe Idealize.SL.Sem Cert.Proof.Rows

theorem dhn : Cert.algebraic_Kernel8Ideal_Reference8Ideal := by
  intro m g m' g' _ hm
  refine ⟨fun c => GDx (m (c.tc.loc Cert.Kernel8Ideal.main_arg0)) (m (c.tc.loc Cert.Kernel8Ideal.main_arg1))
      (m (c.tc.loc Cert.Kernel8Ideal.main_arg3)) (carried (m (c.tc.loc Cert.Kernel8Ideal.main_arg4)) (m (c.tc.loc Cert.Kernel8Ideal.main_arg2))),
    fun c => GDg (m (c.tc.loc Cert.Kernel8Ideal.main_arg0))
      (carried (m (c.tc.loc Cert.Kernel8Ideal.main_arg4)) (m (c.tc.loc Cert.Kernel8Ideal.main_arg2))), ?_, ?_⟩
  · exact (θ_run _ _ _).mono (fun r h c => ⟨(h c).1.trans (Dhn.finalDx m c), (h c).2.1.trans (Dhn.finalDg m c), (h c).2.2⟩)
      (Cert.Kernel8Ideal.Value.run_blocks m g)
  · refine (θ_run _ _ _).mono (fun r h c => ⟨(h c).1.trans ?_, (h c).2.1.trans ?_, (h c).2.2⟩) (Cert.Reference8Ideal.Value.run m' g')
    · obtain ⟨h0, h1, h2, h3, h4⟩ := hm c
      rw [Cert.Reference8Ideal.Read.val_main_v38_eq, h0, h1, h2, h3, h4]
      exact DhnRef.value _ _ _ _ _
    · obtain ⟨h0, h1, h2, h3, h4⟩ := hm c
      refine (Cert.Reference8Ideal.Read.val_main_v39_eq _ _ _).trans ?_
      rw [h0, h2, h4]
      exact DhnRef.valueGain _ _ _

end Cert.Proof.Claims

end
-- ==== Proof.Weight.lean ====
/- The gradient of a weight from the rows that entered the product and the gradient of the rows that left it: the product
   of the one's transpose with the other, built from two halves of the rows. -/
module

public import Idealize.ShloMosaic.Lib.MatmulPlain
public import Idealize.ShloMosaic.Lib.IdealHost
public import Idealize.ShloMosaic.Lib.ValueIdx
public import Mathlib.Tactic.Linarith
public import Idealize.ShloMosaic.Lib.Pipeline.ValueKit.Acc

@[expose] public section

noncomputable section

namespace Cert.Proof.Weight

open Idealize.ShloMosaic Idealize.ShloMosaic.ValueIdx

/-- The gradient of a weight at one entry. -/
def grads {K N : ℕ} (x : Vec Ideal ⟨2, ![4096, K]⟩ .f32) (dy : Vec Ideal ⟨2, ![4096, N]⟩ .f32) (k : Fin K) (q : Fin N) : EReal :=
  ∑ t : Fin 4096, x (ix2 t k) * dy (ix2 t q)

/-- The product that contracts the rows of both operands. -/
def tn (T M N : ℕ) (w : DotDims.WF ⟨2, ![T, M]⟩ ⟨2, ![T, N]⟩ ⟨2, ![M, N]⟩ [0] [0] [1] [1] [] []) :
    DotDims ⟨2, ![T, M]⟩ ⟨2, ![T, N]⟩ ⟨2, ![M, N]⟩ where
  lhsContracting := [0]
  rhsContracting := [0]
  lhsNonContracting := [1]
  rhsNonContracting := [1]
  lhsBatch := []
  rhsBatch := []
  wf := w

theorem tn_rank (T M N : ℕ) (w) : (tn T M N w).contr.rank = 1 := rfl
theorem tn_size (T M N : ℕ) (w) : (tn T M N w).contr.size ⟨0, by rw [tn_rank]; exact Nat.one_pos⟩ = T := rfl

theorem tn_apply {T M N : ℕ} (w) (a : FVec Ideal ⟨2, ![T, M]⟩ .bf16) (b : FVec Ideal ⟨2, ![T, N]⟩ .bf16) (i : Fin M) (j : Fin N) :
    FloatOps.matmul (F := Ideal) (tn T M N w) none a b (constant (F := Ideal) ⟨2, ![M, N]⟩ .f32 0x00000000#32) (ix2 i j)
      = ∑ t : Fin T, a (ix2 t i) * b (ix2 t j) := by
  rw [Ideal.matmul_apply, ← Equiv.sum_comp (contrEquiv1 _ T (tn_rank T M N w) (tn_size T M N w)).symm]
  have hz : constant (F := Ideal) ⟨2, ![M, N]⟩ .f32 0x00000000#32 (ix2 i j) = 0 := Ideal.ofBits_zero_f32
  rw [hz]
  refine (zero_add _).trans (Finset.sum_congr rfl fun k _ => ?_)
  have hk := contrEquiv1_symm_val _ T (tn_rank T M N w) (tn_size T M N w) k
  have el : (tn T M N w).lhsIdx (ix2 i j) ((contrEquiv1 _ T (tn_rank T M N w) (tn_size T M N w)).symm k) = ix2 k i := by
    funext a; apply Fin.ext
    match a with
    | ⟨0, _⟩ => exact hk
    | ⟨1, _⟩ => rfl
  have er : (tn T M N w).rhsIdx (ix2 i j) ((contrEquiv1 _ T (tn_rank T M N w) (tn_size T M N w)).symm k) = ix2 k j := by
    funext a; apply Fin.ext
    match a with
    | ⟨0, _⟩ => exact hk
    | ⟨1, _⟩ => rfl
  rw [el, er]

/-- The two halves of the rows are all rows. -/
theorem halves (f : Fin 4096 → EReal) (a b : Fin 2048 → Fin 4096) (ha : ∀ r, (a r).val = r.val) (hb : ∀ r, (b r).val = 2048 + r.val) :
    ∑ r, f (a r) + ∑ r, f (b r) = ∑ t, f t := by
  refine Eq.trans ?_ (Fin.sum_mul_add_fin 2 2048 f)
  rw [Fin.sum_univ_two]
  refine congrArg₂ (fun s t : EReal => s + t) (Finset.sum_congr rfl fun r _ => congrArg f (Fin.ext ?_))
    (Finset.sum_congr rfl fun r _ => congrArg f (Fin.ext ?_))
  · rw [ha]; show r.val = 0 * 2048 + r.val; omega
  · rw [hb]; show 2048 + r.val = 1 * 2048 + r.val; omega

/-- The product of two halves of the rows, one half after the other, is the gradient. -/
theorem grads_two {K N : ℕ} (x : Vec Ideal ⟨2, ![4096, K]⟩ .f32) (dy : Vec Ideal ⟨2, ![4096, N]⟩ .f32) (k : Fin K) (q : Fin N)
    (a b : Fin 2048 → Fin 4096) (ha : ∀ r, (a r).val = r.val) (hb : ∀ r, (b r).val = 2048 + r.val)
    (p₀ q₀ p₁ q₁ : Fin 2048 → EReal) (h₀ : ∀ r, p₀ r = x (ix2 (a r) k)) (g₀ : ∀ r, q₀ r = dy (ix2 (a r) q))
    (h₁ : ∀ r, p₁ r = x (ix2 (b r) k)) (g₁ : ∀ r, q₁ r = dy (ix2 (b r) q)) :
    ∑ r, p₀ r * q₀ r + ∑ r, p₁ r * q₁ r = grads x dy k q := by
  refine Eq.trans ?_ (halves (fun t => x (ix2 t k) * dy (ix2 t q)) a b ha hb)
  exact congrArg₂ (fun s t : EReal => s + t)
    (Finset.sum_congr rfl fun r _ => congrArg₂ (fun s t : EReal => s * t) (h₀ r) (g₀ r))
    (Finset.sum_congr rfl fun r _ => congrArg₂ (fun s t : EReal => s * t) (h₁ r) (g₁ r))

/-- The gradient with each chip's columns in a block of their own: chip `c`'s column `l` is column `n c + l`. -/
def gradsCut {n N : ℕ} (hN : N = 4 * n) (x : Vec Ideal ⟨2, ![4096, 1024]⟩ .f32) (dy : Vec Ideal ⟨2, ![4096, N]⟩ .f32) :
    Vec Ideal ⟨3, ![4, 1024, n]⟩ .bf16 := fun i =>
  grads x dy (i 1) (⟨(i 0).val * n + (i 2).val, by
    have h0 : (i 0).val < 4 := (i 0).isLt
    have h2 : (i 2).val < n := (i 2).isLt
    rw [hN]; nlinarith⟩ : Fin N)

end Cert.Proof.Weight

end
-- ==== Proof.Dwin.lean ====
/- What the call that makes a feed-forward block's input weight's gradient leaves in its result array (`final`), and the same array as the reference
   computes it (`value`). -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Layout
public import proofs.«01_k».proof.Proof.Weight
public import Idealize.ShloMosaic.Lib.Pipeline.ValueKit.Geometry
public import Idealize.ShloMosaic.Lib.Pipeline.ReadBack
public import Idealize.ShloMosaic.Lib.ValueLayout

@[expose] public section

set_option maxRecDepth 16384

noncomputable section

namespace Cert.Proof.Dwin

open Cert.Kernel3Ideal Cert.Kernel3Ideal.Gen Cert.Proof.Layout Cert.Proof.Weight
open Idealize.ShloMosaic Idealize.ShloMosaic.TcCoe Idealize.ShloMosaic.ValueIdx Idealize.SL.Sem

/-- A half's product, at an index. -/
theorem pay1_apply (x : Vec Ideal S2048x1024 .bf16) (dy : Vec Ideal S2048x1408 .bf16) (k : Fin 1024) (l : Fin 1408) :
    k0_pay1 (F := Ideal) x dy (ix2 k l) = ∑ r : Fin 2048, x (ix2 r k) * dy (ix2 r l) := by
  unfold k0_pay1
  rw [shapeCast_self, shapeCast_self]
  exact tn_apply dot_S2048x1024_S2048x1408_S1024x1408_0_0_1_1_n_n.wf x dy k l

/-- The second half's product added to the first's. -/
theorem pay3_apply (x : Vec Ideal S2048x1024 .bf16) (dy : Vec Ideal S2048x1408 .bf16) (a : Vec Ideal S1024x1408 .f32) (j : S1024x1408.Idx) :
    k0_pay3 (F := Ideal) x dy a j = a j + k0_pay1 (F := Ideal) x dy j := by
  unfold k0_pay3
  rw [shapeCast_self]
  rfl

variable (m : (ℓ : Loc nD τ sig) → Buf (Elt Ideal) ℓ)

/-- What the region finds. -/
theorem V_x (c : Dev nD) (i : S4096x1024.Idx) : V m c main_v0 i = m ((c : Thread nD τ).loc main_arg0) i := by
  dsimp only [V, hostOps0]
  after_results
  rfl

theorem V_dy (c : Dev nD) (i : S4096x5632.Idx) :
    V m c main_v4 i = m ((c : Thread nD τ).loc main_arg1) (ix2 (i 0) (src (i 1))) := by
  dsimp only [V, hostOps0]
  after_results
  show shapeCast ⟨2, ![4096, 5632]⟩ (transpose ⟨4, ![4096, 2, 2, 1408]⟩ [0, 2, 1, 3] (shapeCast ⟨4, ![4096, 2, 2, 1408]⟩
    (m ((c : Thread nD τ).loc main_arg1)) shapeCasts_S4096x5632_S4096x2x2x1408)
    transposes_S4096x2x2x1408_S4096x2x2x1408_0_2_1_3) shapeCasts_S4096x2x2x1408_S4096x5632 i = _
  exact pairs_apply _ _ _ _ i

theorem e0 : ∀ t : Fin cfg0.N, win0_0.index t = ![t.val % 2, 0] := (by decide +kernel : ∀ t : Fin grid0.N, _)
theorem e1 : ∀ t : Fin cfg0.N, win0_1.index t = ![t.val % 2, t.val / 2] := (by decide +kernel : ∀ t : Fin grid0.N, _)
theorem e2 : ∀ t : Fin cfg0.N, win0_2.index t = ![t.val / 2 % 2 * 2 + t.val / 2 / 2, 0, 0] := (by decide +kernel : ∀ t : Fin grid0.N, _)

theorem lt_N (t : Fin cfg0.N) : t.val < 8 := lt_of_lt_of_eq t.isLt (show cfg0.N = 8 from N_0)

/-- The row of the arrays, the chip and the column of the gradient that a point's block starts from. -/
def at_ (t : Fin cfg0.N) (r : Fin 2048) : Fin 4096 := ⟨t.val % 2 * 2048 + r.val, by have := r.isLt; omega⟩
def chip (t : Fin cfg0.N) : Fin 4 := ⟨t.val / 2 % 2 * 2 + t.val / 2 / 2, by have := lt_N t; omega⟩
def col (t : Fin cfg0.N) (l : Fin 1408) : Fin 5632 := ⟨(t.val / 2 % 2 * 2 + t.val / 2 / 2) * 1408 + l.val, by have := lt_N t; have := l.isLt; omega⟩

theorem blk_x (c : Dev nD) (t : Fin cfg0.N) (r : Fin 2048) (k : Fin 1024) :
    iblk m c 0 t (ix2 r k) = m ((c : Thread nD τ).loc main_arg0) (ix2 (at_ t r) k) := by
  have ha : (win0_0.blk t).view.emb (ix2 r k) = (ix2 (at_ t r) k : S4096x1024.Idx) := by
    funext a; apply Fin.ext
    match a with
    | ⟨0, _⟩ => blk_simp [e0]; rfl
    | ⟨1, _⟩ => blk_simp [e0]
  show V m c main_v0 ((win0_0.blk t).view.emb (ix2 r k)) = _
  rw [ha, V_x]

theorem blk_dy (c : Dev nD) (t : Fin cfg0.N) (r : Fin 2048) (l : Fin 1408) :
    iblk m c 1 t (ix2 r l) = m ((c : Thread nD τ).loc main_arg1) (ix2 (at_ t r) (col t l)) := by
  have hN := lt_N t
  have hl := l.isLt
  have hp : t.val / 2 * 1408 + l.val < 5632 := by omega
  have ha : (win0_1.blk t).view.emb (ix2 r l) = (ix2 (at_ t r) (⟨t.val / 2 * 1408 + l.val, hp⟩ : Fin 5632) : S4096x5632.Idx) := by
    funext a; apply Fin.ext
    match a with
    | ⟨0, _⟩ => blk_simp [e1]; rfl
    | ⟨1, _⟩ => blk_simp [e1]
  show V m c main_v4 ((win0_1.blk t).view.emb (ix2 r l)) = _
  rw [ha, V_dy]
  refine congrArg (fun q : Fin 5632 => m ((c : Thread nD τ).loc main_arg1) (ix2 (at_ t r) q)) (Fin.ext ?_)
  show (t.val / 2 * 1408 + l.val) / 1408 % 2 * 2816 + (t.val / 2 * 1408 + l.val) / 2816 * 1408 + (t.val / 2 * 1408 + l.val) % 1408
    = (t.val / 2 % 2 * 2 + t.val / 2 / 2) * 1408 + l.val
  omega

theorem scratch_first (c : Dev nD) (t : Fin cfg0.N) (h : t.val % 2 = 0) (k : Fin 1024) (l : Fin 1408) :
    (outsAt0 m c t.val t.isLt).2 (ix2 k l) = k0_pay1 (F := Ideal) (iblk m c 0 t) (iblk m c 1 t) (ix2 k l) := by
  rw [outsAt0_A m c t h (by omega) (by omega)]
  frame_out
  unfold k0_pay2
  rw [shapeCast_self]

theorem out_last (c : Dev nD) (t : Fin cfg0.N) (h : t.val % 2 = 1) (k : Fin 1024) (l : Fin 1408) :
    (outsAt0 m c t.val t.isLt).1 (ix3 (0 : Fin 1) k l)
      = (outsAt0 m c (t.val - 1) (Nat.lt_of_le_of_lt (Nat.sub_le _ _) t.isLt)).2 (ix2 k l)
        + k0_pay1 (F := Ideal) (iblk m c 0 t) (iblk m c 1 t) (ix2 k l) := by
  rw [outsAt0_B m c t (by omega) h h]
  frame_out
  rw [read_unread_whole]
  unfold k0_pay4
  refine (shapeCast_ab_1ab_apply _ shapeCasts_S1024x1408_S1x1024x1408 (0 : Fin 1) k l).trans ?_
  exact pay3_apply _ _ _ _

/-- The result array after the run. -/
theorem final (c : Dev nD) : (dats m 0 c).arrAt 2 cfg0.N
    = gradsCut (n := 1408) (N := 5632) (by decide) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hN := lt_N t
  blk_simp
  rw [after0_2]
  obtain ⟨z, k, l, rfl⟩ : ∃ (z : Fin 1) (k : Fin 1024) (l : Fin 1408), y = ix3 z k l := ⟨y 0, y 1, y 2, eq_ix3 y⟩
  obtain rfl : z = 0 := Fin.ext (by omega)
  have hi : (win0_2.blk t).view.emb (ix3 (0 : Fin 1) k l) = (ix3 (chip t) k l : S4x1024x1408.Idx) := by
    funext a; apply Fin.ext
    match a with
    | ⟨0, _⟩ => blk_simp [e2]; rfl
    | ⟨1, _⟩ => blk_simp [e2]
    | ⟨2, _⟩ => blk_simp [e2]
  generalize (win0_2.blk t).view.emb (ix3 (0 : Fin 1) k l) = i at hi ⊢
  subst hi
  have ht : t.val - 1 < cfg0.N := Nat.lt_of_le_of_lt (Nat.sub_le _ _) t.isLt
  have hc : col ⟨t.val - 1, ht⟩ l = col t l := Fin.ext (by
    show ((t.val - 1) / 2 % 2 * 2 + (t.val - 1) / 2 / 2) * 1408 + l.val = (t.val / 2 % 2 * 2 + t.val / 2 / 2) * 1408 + l.val
    omega)
  refine (out_last m c t h1 k l).trans (Eq.trans (congrArg₂ (fun a b : EReal => a + b)
    ((scratch_first m c ⟨t.val - 1, ht⟩ (by show (t.val - 1) % 2 = 0; omega) k l).trans (pay1_apply _ _ k l)) (pay1_apply _ _ k l)) ?_)
  exact grads_two _ _ k (col t l) (at_ ⟨t.val - 1, ht⟩) (at_ t)
    (fun r => by show (t.val - 1) % 2 * 2048 + r.val = r.val; omega) (fun r => by show t.val % 2 * 2048 + r.val = 2048 + r.val; omega)
    _ _ _ _ (fun r => blk_x m c _ r k) (fun r => (blk_dy m c _ r l).trans (by rw [hc])) (fun r => blk_x m c t r k) (fun r => blk_dy m c t r l)

section
open Cert.Reference3Ideal Cert.Reference3Ideal.Read

/-- The reference's result array. -/
theorem value (x : Vec Ideal Cert.Reference3Ideal.S4096x1024 .f32) (dy : Vec Ideal Cert.Reference3Ideal.S4096x5632 .f32) :
    val_main_v6 (F := Ideal) x dy = gradsCut (n := 1408) (N := 5632) (by decide) x dy := by
  funext i
  have b0 : (i 0).val < 4 := (i 0).isLt
  have b2 : (i 2).val < 1408 := (i 2).isLt
  have hb : (i 0).val * 1408 + (i 2).val < 5632 := by omega
  have h : val_main_v6 (F := Ideal) x dy i = val_main_v3 (F := Ideal) x dy (ix2 (i 1) (⟨(i 0).val * 1408 + (i 2).val, hb⟩ : Fin 5632)) := by
    unfold val_main_v6 val_main_v5 val_main_v4
    generalize val_main_v3 (F := Ideal) x dy = y
    exact cut_apply (by decide) y _ _ i hb
  rw [h, val_main_v3_apply, val_main_v2_apply]
  unfold gradsCut grads
  refine Finset.sum_congr rfl fun t _ => (mul_comm (G := EReal) _ _).trans ?_
  exact congrArg₂ (fun a b : EReal => a * b) (congrArg x (funext fun a => by fin_cases a <;> rfl))
    (congrArg dy (funext fun a => by fin_cases a <;> rfl))
end

/-- The call and the reference compute the same array. -/
theorem claim : Cert.algebraic_Kernel3Ideal_Reference3Ideal := by
  intro m g m' g' _ hm
  refine ⟨fun c => gradsCut (n := 1408) (N := 5632) (by decide) (m (c.tc.loc main_arg0)) (m (c.tc.loc main_arg1)), ?_, ?_⟩
  · exact (θ_run _ _ _).mono (fun r h c => ⟨(h c).1.trans (final m c), (h c).2⟩) (Cert.Kernel3Ideal.Value.run_blocks m g)
  · refine (θ_run _ _ _).mono (fun r h c => ⟨(h c).1.trans ?_, (h c).2⟩) (Cert.Reference3Ideal.Value.run m' g')
    obtain ⟨h0, h1⟩ := hm c
    refine (Cert.Reference3Ideal.Read.val_main_v6_eq _ _).trans ?_
    rw [h0, h1]
    exact value _ _

end Cert.Proof.Dwin

end
-- ==== Proof.Dwout.lean ====
/- What the call that makes a feed-forward block's output weight's gradient leaves in its result array (`final`), and the same
   array as the reference computes it (`value`). The call halves the sum, the reference halves its terms. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Reals
public import proofs.«01_k».proof.Proof.Weight
public import Idealize.ShloMosaic.Lib.Pipeline.ValueKit.Geometry
public import Idealize.ShloMosaic.Lib.Pipeline.ReadBack

@[expose] public section

set_option maxRecDepth 16384

noncomputable section

namespace Cert.Proof.Dwout

open Cert.Kernel4Ideal Cert.Kernel4Ideal.Gen Cert.Proof.Weight Cert.Proof.Reals
open Idealize.ShloMosaic Idealize.ShloMosaic.TcCoe Idealize.ShloMosaic.ValueIdx Idealize.SL.Sem

/-- The result array: half of the gradient. -/
def G (act : Vec Ideal ⟨2, ![4096, 2816]⟩ .f32) (dh : Vec Ideal ⟨2, ![4096, 1024]⟩ .f32) : Vec Ideal ⟨2, ![2816, 1024]⟩ .bf16 :=
  fun i => grads act dh (i 0) (i 1) * Ideal.ofBits .f32 0x3F000000#32

/-- A half's product, at an index. -/
theorem pay1_apply (x : Vec Ideal S2048x1408 .bf16) (dy : Vec Ideal S2048x1024 .f32) (k : Fin 1408) (l : Fin 1024) :
    k0_pay1 (F := Ideal) x dy (ix2 k l) = ∑ r : Fin 2048, x (ix2 r k) * dy (ix2 r l) := by
  unfold k0_pay1
  rw [shapeCast_self]
  exact tn_apply dot_S2048x1408_S2048x1024_S1408x1024_0_0_1_1_n_n.wf x (truncf .bf16 dy bitsLt_bf16_f32) k l

/-- The second half's product added to the first's. -/
theorem pay3_apply (x : Vec Ideal S2048x1408 .bf16) (dy : Vec Ideal S2048x1024 .f32) (a : Vec Ideal S1408x1024 .f32) (j : S1408x1024.Idx) :
    k0_pay3 (F := Ideal) x dy a j = a j + k0_pay1 (F := Ideal) x dy j := by
  unfold k0_pay3
  rw [shapeCast_self]
  rfl

theorem pay4_apply (a : Vec Ideal S1408x1024 .f32) (j : S1408x1024.Idx) :
    k0_pay4 (F := Ideal) a j = a j * Ideal.ofBits .f32 0x3F000000#32 := rfl

variable (m : (ℓ : Loc nD τ sig) → Buf (Elt Ideal) ℓ)

/-- What the region finds. -/
theorem V_x (c : Dev nD) (i : S4096x2816.Idx) : V m c main_v0 i = m ((c : Thread nD τ).loc main_arg0) i := by
  dsimp only [V, hostOps0]
  after_results
  rfl

theorem e0 : ∀ t : Fin cfg0.N, win0_0.index t = ![t.val % 2, t.val / 2] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, 0] := (by decide +kernel : ∀ t : Fin grid0.N, _)

theorem lt_N (t : Fin cfg0.N) : t.val < 4 := lt_of_lt_of_eq t.isLt (show cfg0.N = 4 from N_0)

/-- The row of the arrays and the row of the gradient that a point's block starts from. -/
def at_ (t : Fin cfg0.N) (r : Fin 2048) : Fin 4096 := ⟨t.val % 2 * 2048 + r.val, by have := r.isLt; omega⟩
def feat (t : Fin cfg0.N) (k : Fin 1408) : Fin 2816 := ⟨t.val / 2 * 1408 + k.val, by have := lt_N t; have := k.isLt; omega⟩

theorem blk_x (c : Dev nD) (t : Fin cfg0.N) (r : Fin 2048) (k : Fin 1408) :
    iblk m c 0 t (ix2 r k) = m ((c : Thread nD τ).loc main_arg0) (ix2 (at_ t r) (feat t k)) := by
  have ha : (win0_0.blk t).view.emb (ix2 r k) = (ix2 (at_ t r) (feat t k) : S4096x2816.Idx) := by
    funext a; apply Fin.ext
    match a with
    | ⟨0, _⟩ => blk_simp [e0]; rfl
    | ⟨1, _⟩ => blk_simp [e0]; rfl
  show V m c main_v0 ((win0_0.blk t).view.emb (ix2 r k)) = _
  rw [ha, V_x]

theorem blk_dy (c : Dev nD) (t : Fin cfg0.N) (r : Fin 2048) (l : Fin 1024) :
    iblk m c 1 t (ix2 r l) = m ((c : Thread nD τ).loc main_arg1) (ix2 (at_ t r) l) := by
  have ha : (win0_1.blk t).view.emb (ix2 r l) = (ix2 (at_ t r) l : S4096x1024.Idx) := by
    funext a; apply Fin.ext
    match a with
    | ⟨0, _⟩ => blk_simp [e1]; rfl
    | ⟨1, _⟩ => blk_simp [e1]
  show V m c main_arg1 ((win0_1.blk t).view.emb (ix2 r l)) = _
  rw [ha, V_main_arg1]

theorem scratch_first (c : Dev nD) (t : Fin cfg0.N) (h : t.val % 2 = 0) (k : Fin 1408) (l : Fin 1024) :
    (outsAt0 m c t.val t.isLt).2 (ix2 k l) = k0_pay1 (F := Ideal) (iblk m c 0 t) (iblk m c 1 t) (ix2 k l) := by
  rw [outsAt0_A m c t h (by omega) (by omega)]
  frame_out
  unfold k0_pay2
  rw [shapeCast_self]

theorem out_last (c : Dev nD) (t : Fin cfg0.N) (h : t.val % 2 = 1) (k : Fin 1408) (l : Fin 1024) :
    (outsAt0 m c t.val t.isLt).1 (ix2 k l)
      = ((outsAt0 m c (t.val - 1) (Nat.lt_of_le_of_lt (Nat.sub_le _ _) t.isLt)).2 (ix2 k l)
        + k0_pay1 (F := Ideal) (iblk m c 0 t) (iblk m c 1 t) (ix2 k l)) * Ideal.ofBits .f32 0x3F000000#32 := by
  rw [outsAt0_B m c t (by omega) h h]
  frame_out
  rw [read_unread_whole]
  exact (pay4_apply _ _).trans (congrArg (fun s : EReal => s * Ideal.ofBits .f32 0x3F000000#32) (pay3_apply _ _ _ _))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hN := lt_N t
  blk_simp
  rw [after0_2]
  obtain ⟨k, l, rfl⟩ : ∃ (k : Fin 1408) (l : Fin 1024), y = ix2 k l := ⟨y 0, y 1, eq_ix2 y⟩
  have hi : (win0_2.blk t).view.emb (ix2 k l) = (ix2 (feat t k) l : S2816x1024.Idx) := by
    funext a; apply Fin.ext
    match a with
    | ⟨0, _⟩ => blk_simp [e2]; rfl
    | ⟨1, _⟩ => blk_simp [e2]
  generalize (win0_2.blk t).view.emb (ix2 k l) = i at hi ⊢
  subst hi
  have ht : t.val - 1 < cfg0.N := Nat.lt_of_le_of_lt (Nat.sub_le _ _) t.isLt
  have hc : feat ⟨t.val - 1, ht⟩ k = feat t k := Fin.ext (by
    show (t.val - 1) / 2 * 1408 + k.val = t.val / 2 * 1408 + k.val
    omega)
  refine (out_last m c t h1 k l).trans (congrArg (fun s : EReal => s * Ideal.ofBits .f32 0x3F000000#32) (Eq.trans (congrArg₂ (fun a b : EReal => a + b)
    ((scratch_first m c ⟨t.val - 1, ht⟩ (by show (t.val - 1) % 2 = 0; omega) k l).trans (pay1_apply _ _ k l)) (pay1_apply _ _ k l)) ?_))
  exact grads_two _ _ (feat t k) l (at_ ⟨t.val - 1, ht⟩) (at_ t)
    (fun r => by show (t.val - 1) % 2 * 2048 + r.val = r.val; omega) (fun r => by show t.val % 2 * 2048 + r.val = 2048 + r.val; omega)
    _ _ _ _ (fun r => (blk_x m c _ r k).trans (by rw [hc])) (fun r => blk_dy m c _ r l) (fun r => blk_x m c t r k) (fun r => blk_dy m c t r l)

section
open Cert.Reference4Ideal Cert.Reference4Ideal.Read

/-- The reference's result array. -/
theorem value (act : Vec Ideal Cert.Reference4Ideal.S4096x2816 .f32) (dh : Vec Ideal Cert.Reference4Ideal.S4096x1024 .f32) :
    val_main_v8 (F := Ideal) act dh = G act dh := by
  funext i
  obtain ⟨k, l, rfl⟩ : ∃ (k : Fin 2816) (l : Fin 1024), i = ix2 k l := ⟨i 0, i 1, eq_ix2 i⟩
  have h : val_main_v8 (F := Ideal) act dh (ix2 k l)
      = ∑ t : Fin 4096, ((1 / 2 : ℝ) : EReal) * (act (ix2 t k) * dh (ix2 t l)) := by
    rw [val_main_v8_apply]
    refine (val_main_v7_apply _ _ _).trans ?_
    rw [val_main_v6_apply]
    refine Finset.sum_congr rfl fun t _ => ?_
    have e1 : lidx_main_v6 (idx_main_v7 (ix2 k l)) t = ix2 t l := funext fun a => by fin_cases a <;> rfl
    have e2 : ridx_main_v6 (idx_main_v7 (ix2 k l)) t = ix2 t k := funext fun a => by fin_cases a <;> rfl
    rw [e1, e2, val_main_v5_apply, val_main_v4_apply, val_main_cst_1_apply]
    show Ideal.ofBits .f32 0x3F000000#32 * dh (ix2 t l) * act (ix2 t k) = _
    rw [half_eq, mul_assoc]
    exact congrArg (fun s : EReal => ((1 / 2 : ℝ) : EReal) * s) (mul_comm (G := EReal) _ _)
  rw [h, ← coe_mul_sum _ _ (by norm_num)]
  show _ = (∑ t : Fin 4096, act (ix2 t k) * dh (ix2 t l)) * Ideal.ofBits .f32 0x3F000000#32
  rw [half_eq]
  exact mul_comm (G := EReal) _ _
end

/-- The call and the reference compute the same array. -/
theorem claim : Cert.algebraic_Kernel4Ideal_Reference4Ideal := by
  intro m g m' g' _ hm
  refine ⟨fun c => G (m (c.tc.loc main_arg0)) (m (c.tc.loc main_arg1)), ?_, ?_⟩
  · exact (θ_run _ _ _).mono (fun r h c => ⟨(h c).1.trans (final m c), (h c).2⟩) (Cert.Kernel4Ideal.Value.run_blocks m g)
  · refine (θ_run _ _ _).mono (fun r h c => ⟨(h c).1.trans ?_, (h c).2⟩) (Cert.Reference4Ideal.Value.run m' g')
    obtain ⟨h0, h1⟩ := hm c
    refine (Cert.Reference4Ideal.Read.val_main_v8_eq _ _).trans ?_
    rw [h0, h1]
    exact value _ _

end Cert.Proof.Dwout

end
-- ==== Proof.Dwqkv.lean ====
/- What the call that makes the joint projection weight's gradient leaves in its result array (`final`), and the same array as the reference
   computes it (`value`). -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Layout
public import proofs.«01_k».proof.Proof.Weight
public import Idealize.ShloMosaic.Lib.Pipeline.ValueKit.Geometry
public import Idealize.ShloMosaic.Lib.Pipeline.ReadBack
public import Idealize.ShloMosaic.Lib.ValueLayout

@[expose] public section

set_option maxRecDepth 16384

noncomputable section

namespace Cert.Proof.Dwqkv

open Cert.Kernel9Ideal Cert.Kernel9Ideal.Gen Cert.Proof.Layout Cert.Proof.Weight
open Idealize.ShloMosaic Idealize.ShloMosaic.TcCoe Idealize.ShloMosaic.ValueIdx Idealize.SL.Sem

/-- A half's product, at an index. -/
theorem pay1_apply (x : Vec Ideal S2048x1024 .bf16) (dy : Vec Ideal S2048x768 .bf16) (k : Fin 1024) (l : Fin 768) :
    k0_pay1 (F := Ideal) x dy (ix2 k l) = ∑ r : Fin 2048, x (ix2 r k) * dy (ix2 r l) := by
  unfold k0_pay1
  rw [shapeCast_self, shapeCast_self]
  exact tn_apply dot_S2048x1024_S2048x768_S1024x768_0_0_1_1_n_n.wf x dy k l

/-- The second half's product added to the first's. -/
theorem pay3_apply (x : Vec Ideal S2048x1024 .bf16) (dy : Vec Ideal S2048x768 .bf16) (a : Vec Ideal S1024x768 .f32) (j : S1024x768.Idx) :
    k0_pay3 (F := Ideal) x dy a j = a j + k0_pay1 (F := Ideal) x dy j := by
  unfold k0_pay3
  rw [shapeCast_self]
  rfl

variable (m : (ℓ : Loc nD τ sig) → Buf (Elt Ideal) ℓ)

/-- What the region finds. -/
theorem V_x (c : Dev nD) (i : S4096x1024.Idx) : V m c main_v0 i = m ((c : Thread nD τ).loc main_arg0) i := by
  dsimp only [V, hostOps0]
  after_results
  rfl

theorem V_dy (c : Dev nD) (i : S4096x3072.Idx) : V m c main_v1 i = m ((c : Thread nD τ).loc main_arg1) i := by
  dsimp only [V, hostOps0]
  after_results
  rfl

theorem e0 : ∀ t : Fin cfg0.N, win0_0.index t = ![t.val % 2, 0] := (by decide +kernel : ∀ t : Fin grid0.N, _)
theorem e1 : ∀ t : Fin cfg0.N, win0_1.index t = ![t.val % 2, t.val / 2] := (by decide +kernel : ∀ t : Fin grid0.N, _)
theorem e2 : ∀ t : Fin cfg0.N, win0_2.index t = ![t.val / 2, 0, 0] := (by decide +kernel : ∀ t : Fin grid0.N, _)

theorem lt_N (t : Fin cfg0.N) : t.val < 8 := lt_of_lt_of_eq t.isLt (show cfg0.N = 8 from N_0)

/-- The row of the arrays, the chip and the column of the gradient that a point's block starts from. -/
def at_ (t : Fin cfg0.N) (r : Fin 2048) : Fin 4096 := ⟨t.val % 2 * 2048 + r.val, by have := r.isLt; omega⟩
def chip (t : Fin cfg0.N) : Fin 4 := ⟨t.val / 2, by have := lt_N t; omega⟩
def col (t : Fin cfg0.N) (l : Fin 768) : Fin 3072 := ⟨(t.val / 2) * 768 + l.val, by have := lt_N t; have := l.isLt; omega⟩

theorem blk_x (c : Dev nD) (t : Fin cfg0.N) (r : Fin 2048) (k : Fin 1024) :
    iblk m c 0 t (ix2 r k) = m ((c : Thread nD τ).loc main_arg0) (ix2 (at_ t r) k) := by
  have ha : (win0_0.blk t).view.emb (ix2 r k) = (ix2 (at_ t r) k : S4096x1024.Idx) := by
    funext a; apply Fin.ext
    match a with
    | ⟨0, _⟩ => blk_simp [e0]; rfl
    | ⟨1, _⟩ => blk_simp [e0]
  show V m c main_v0 ((win0_0.blk t).view.emb (ix2 r k)) = _
  rw [ha, V_x]

theorem blk_dy (c : Dev nD) (t : Fin cfg0.N) (r : Fin 2048) (l : Fin 768) :
    iblk m c 1 t (ix2 r l) = m ((c : Thread nD τ).loc main_arg1) (ix2 (at_ t r) (col t l)) := by
  have hN := lt_N t
  have hl := l.isLt
  have hp : t.val / 2 * 768 + l.val < 3072 := by omega
  have ha : (win0_1.blk t).view.emb (ix2 r l) = (ix2 (at_ t r) (⟨t.val / 2 * 768 + l.val, hp⟩ : Fin 3072) : S4096x3072.Idx) := by
    funext a; apply Fin.ext
    match a with
    | ⟨0, _⟩ => blk_simp [e1]; rfl
    | ⟨1, _⟩ => blk_simp [e1]
  show V m c main_v1 ((win0_1.blk t).view.emb (ix2 r l)) = _
  rw [ha, V_dy]
  rfl

theorem scratch_first (c : Dev nD) (t : Fin cfg0.N) (h : t.val % 2 = 0) (k : Fin 1024) (l : Fin 768) :
    (outsAt0 m c t.val t.isLt).2 (ix2 k l) = k0_pay1 (F := Ideal) (iblk m c 0 t) (iblk m c 1 t) (ix2 k l) := by
  rw [outsAt0_A m c t h (by omega) (by omega)]
  frame_out
  unfold k0_pay2
  rw [shapeCast_self]

theorem out_last (c : Dev nD) (t : Fin cfg0.N) (h : t.val % 2 = 1) (k : Fin 1024) (l : Fin 768) :
    (outsAt0 m c t.val t.isLt).1 (ix3 (0 : Fin 1) k l)
      = (outsAt0 m c (t.val - 1) (Nat.lt_of_le_of_lt (Nat.sub_le _ _) t.isLt)).2 (ix2 k l)
        + k0_pay1 (F := Ideal) (iblk m c 0 t) (iblk m c 1 t) (ix2 k l) := by
  rw [outsAt0_B m c t (by omega) h h]
  frame_out
  rw [read_unread_whole]
  unfold k0_pay4
  refine (shapeCast_ab_1ab_apply _ shapeCasts_S1024x768_S1x1024x768 (0 : Fin 1) k l).trans ?_
  exact pay3_apply _ _ _ _

/-- The result array after the run. -/
theorem final (c : Dev nD) : (dats m 0 c).arrAt 2 cfg0.N
    = gradsCut (n := 768) (N := 3072) (by decide) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hN := lt_N t
  blk_simp
  rw [after0_2]
  obtain ⟨z, k, l, rfl⟩ : ∃ (z : Fin 1) (k : Fin 1024) (l : Fin 768), y = ix3 z k l := ⟨y 0, y 1, y 2, eq_ix3 y⟩
  obtain rfl : z = 0 := Fin.ext (by omega)
  have hi : (win0_2.blk t).view.emb (ix3 (0 : Fin 1) k l) = (ix3 (chip t) k l : S4x1024x768.Idx) := by
    funext a; apply Fin.ext
    match a with
    | ⟨0, _⟩ => blk_simp [e2]; rfl
    | ⟨1, _⟩ => blk_simp [e2]
    | ⟨2, _⟩ => blk_simp [e2]
  generalize (win0_2.blk t).view.emb (ix3 (0 : Fin 1) k l) = i at hi ⊢
  subst hi
  have ht : t.val - 1 < cfg0.N := Nat.lt_of_le_of_lt (Nat.sub_le _ _) t.isLt
  have hc : col ⟨t.val - 1, ht⟩ l = col t l := Fin.ext (by
    show ((t.val - 1) / 2) * 768 + l.val = (t.val / 2) * 768 + l.val
    omega)
  refine (out_last m c t h1 k l).trans (Eq.trans (congrArg₂ (fun a b : EReal => a + b)
    ((scratch_first m c ⟨t.val - 1, ht⟩ (by show (t.val - 1) % 2 = 0; omega) k l).trans (pay1_apply _ _ k l)) (pay1_apply _ _ k l)) ?_)
  exact grads_two _ _ k (col t l) (at_ ⟨t.val - 1, ht⟩) (at_ t)
    (fun r => by show (t.val - 1) % 2 * 2048 + r.val = r.val; omega) (fun r => by show t.val % 2 * 2048 + r.val = 2048 + r.val; omega)
    _ _ _ _ (fun r => blk_x m c _ r k) (fun r => (blk_dy m c _ r l).trans (by rw [hc])) (fun r => blk_x m c t r k) (fun r => blk_dy m c t r l)

section
open Cert.Reference9Ideal Cert.Reference9Ideal.Read

/-- The reference's result array. -/
theorem value (x : Vec Ideal Cert.Reference9Ideal.S4096x1024 .f32) (dy : Vec Ideal Cert.Reference9Ideal.S4096x3072 .f32) :
    val_main_v6 (F := Ideal) x dy = gradsCut (n := 768) (N := 3072) (by decide) x dy := by
  funext i
  have b0 : (i 0).val < 4 := (i 0).isLt
  have b2 : (i 2).val < 768 := (i 2).isLt
  have hb : (i 0).val * 768 + (i 2).val < 3072 := by omega
  have h : val_main_v6 (F := Ideal) x dy i = val_main_v3 (F := Ideal) x dy (ix2 (i 1) (⟨(i 0).val * 768 + (i 2).val, hb⟩ : Fin 3072)) := by
    unfold val_main_v6 val_main_v5 val_main_v4
    generalize val_main_v3 (F := Ideal) x dy = y
    exact cut_apply (by decide) y _ _ i hb
  rw [h, val_main_v3_apply, val_main_v2_apply]
  unfold gradsCut grads
  refine Finset.sum_congr rfl fun t _ => (mul_comm (G := EReal) _ _).trans ?_
  exact congrArg₂ (fun a b : EReal => a * b) (congrArg x (funext fun a => by fin_cases a <;> rfl))
    (congrArg dy (funext fun a => by fin_cases a <;> rfl))
end

/-- The call and the reference compute the same array. -/
theorem claim : Cert.algebraic_Kernel9Ideal_Reference9Ideal := by
  intro m g m' g' _ hm
  refine ⟨fun c => gradsCut (n := 768) (N := 3072) (by decide) (m (c.tc.loc main_arg0)) (m (c.tc.loc main_arg1)), ?_, ?_⟩
  · exact (θ_run _ _ _).mono (fun r h c => ⟨(h c).1.trans (final m c), (h c).2⟩) (Cert.Kernel9Ideal.Value.run_blocks m g)
  · refine (θ_run _ _ _).mono (fun r h c => ⟨(h c).1.trans ?_, (h c).2⟩) (Cert.Reference9Ideal.Value.run m' g')
    obtain ⟨h0, h1⟩ := hm c
    refine (Cert.Reference9Ideal.Read.val_main_v6_eq _ _).trans ?_
    rw [h0, h1]
    exact value _ _

end Cert.Proof.Dwqkv

end
-- ==== Proof.InAct.lean ====
/- What a feed-forward block's input call leaves in its two result arrays (`finalU`, `finalA`), and the same arrays as the
   reference computes them (`valueU`, `valueA`). -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Layout
public import Idealize.ShloMosaic.Lib.MatmulPlain
public import Idealize.ShloMosaic.Lib.IdealHost
public import Idealize.ShloMosaic.Lib.Pipeline.ValueKit.Geometry
public import Idealize.ShloMosaic.Lib.ValueLayout

@[expose] public section

set_option maxRecDepth 16384

noncomputable section

namespace Cert.Proof.InAct

open Cert.Kernel5Ideal Cert.Kernel5Ideal.Gen Cert.Proof.Layout
open Idealize.ShloMosaic Idealize.ShloMosaic.TcCoe Idealize.ShloMosaic.ValueIdx Idealize.SL.Sem

/-- The product of the rows with the weight, at an index. -/
def prod (x : Vec Ideal ⟨2, ![4096, 1024]⟩ .f32) (w : Vec Ideal ⟨2, ![1024, 5632]⟩ .f32) (r : Fin 4096) (q : Fin 5632) : EReal :=
  ∑ k : Fin 1024, x (ix2 r k) * w (ix2 k q)

/-- The two result arrays: the product in the paired layout, and the gated hidden layer. -/
def GU (x : Vec Ideal ⟨2, ![4096, 1024]⟩ .f32) (w : Vec Ideal ⟨2, ![1024, 5632]⟩ .f32) : Vec Ideal ⟨2, ![4096, 5632]⟩ .bf16 :=
  fun i => prod x w (i 0) (src (i 1))

def GA (x : Vec Ideal ⟨2, ![4096, 1024]⟩ .f32) (w : Vec Ideal ⟨2, ![1024, 5632]⟩ .f32) : Vec Ideal ⟨2, ![4096, 2816]⟩ .bf16 :=
  fun i => prod x w (i 0) (gateCol (i 1)) * Ideal.logistic (prod x w (i 0) (gateCol (i 1))) * prod x w (i 0) (linCol (i 1))

/-- The product of a block of rows with one chip's columns, at an index. -/
theorem pay2_apply (x : Vec Ideal S1024x1024 .bf16) (w : Vec Ideal S1x1024x1408 .bf16) (r : Fin 1024) (l : Fin 1408) :
    k0_pay2 (F := Ideal) x w (ix2 r l) = ∑ k : Fin 1024, x (ix2 r k) * w (ix3 (0 : Fin 1) k l) := by
  unfold k0_pay2 k0_pay1
  show FloatOps.matmul (F := Ideal) (φ₁ := .bf16) (φ₂ := .bf16) (DotDims.plain 1024 1024 1408) none
    (shapeCast S1024x1024 x shapeCasts_S1024x1024_S1024x1024) (shapeCast S1024x1408 w shapeCasts_S1x1024x1408_S1024x1408)
    (constant S1024x1408 .f32 0x00000000#32) (ix2 r l) = _
  rw [Ideal.matmul_plain_apply, shapeCast_self]
  show Ideal.ofBits .f32 0x00000000#32 + _ = _
  rw [Ideal.ofBits_zero_f32, zero_add]
  exact Finset.sum_congr rfl fun k _ => congrArg (fun s : EReal => x (ix2 r k) * s)
    (shapeCast_1ab_ab_apply w shapeCasts_S1x1024x1408_S1024x1408 k l)

theorem pay4_eq (x : Vec Ideal S1024x1024 .bf16) (w : Vec Ideal S1x1024x1408 .bf16) (j : S1024x1408.Idx) :
    k0_pay4 (F := Ideal) x w j = k0_pay2 (F := Ideal) x w j := rfl

theorem pay5_eq (x : Vec Ideal S1024x1024 .bf16) (w : Vec Ideal S1x1024x1408 .bf16) (j : S1024x1408.Idx) :
    k0_pay5 (F := Ideal) x w j = k0_pay2 (F := Ideal) x w j := rfl

theorem pay6_apply (x : Vec Ideal S1024x1024 .bf16) (w v : Vec Ideal S1x1024x1408 .bf16) (j : S1024x1408.Idx) :
    k0_pay6 (F := Ideal) x w v j
      = k0_pay2 (F := Ideal) x w j * Ideal.logistic (k0_pay2 (F := Ideal) x w j) * k0_pay2 (F := Ideal) x v j := rfl

/-- The block of the paired product a grid point leaves: the gate's columns, then the linear ones. -/
def blkU (x : Vec Ideal S1024x1024 .bf16) (w v : Vec Ideal S1x1024x1408 .bf16) : Vec Ideal S1024x2816 .bf16 := fun y =>
  if (y 1).val < 1408 then k0_pay2 (F := Ideal) x w (ix2 (y 0) (⟨(y 1).val % 1408, by omega⟩ : Fin 1408))
  else k0_pay2 (F := Ideal) x v (ix2 (y 0) (⟨(y 1).val % 1408, by omega⟩ : Fin 1408))

theorem zero2 : (![0, 0] : Fin 2 → Nat) = fun _ => 0 := funext fun a => by fin_cases a <;> rfl
theorem zero3 : (![0, 0, 0] : Fin 3 → Nat) = fun _ => 0 := funext fun a => by fin_cases a <;> rfl

theorem outU_eq (x0 : Vec Ideal S1024x1024 .bf16) (x1 x2 : Vec Ideal S1x1024x1408 .bf16) :
    out0_3 (F := Ideal) x0 x1 x2 = blkU x0 x1 x2 := by
  funext y
  unfold out0_3
  refine View.canon_apply_of_pieces (blkU x0 x1 x2) _ ?_ y (cover0_3 _ _ y)
  intro p hp x
  simp only [List.mem_cons, List.not_mem_nil, or_false] at hp
  have e0 : View.ld x0 r0_0 = x0 := View.ld_unit_zero zero2 _ _
  have e1 : View.ld x1 r0_1 = x1 := View.ld_unit_zero zero3 _ _
  have e2 : View.ld x2 r0_1 = x2 := View.ld_unit_zero zero3 _ _
  rcases hp with rfl | rfl
  · have b1 : (x 1).val < 1408 := (x 1).isLt
    have v0 : (r0_3.emb x 0).val = (x 0).val := by show 0 + 1 * (x 0).val = _; omega
    have v1 : (r0_3.emb x 1).val = 1408 + (x 1).val := by show 1408 + 1 * (x 1).val = _; omega
    have hx : (ix2 (r0_3.emb x 0) (⟨(r0_3.emb x 1).val % 1408, by omega⟩ : Fin 1408) : S1024x1408.Idx) = x := by
      funext a; apply Fin.ext
      match a with
      | ⟨0, _⟩ => exact v0
      | ⟨1, _⟩ => show (r0_3.emb x 1).val % 1408 = (x 1).val; omega
    show k0_pay5 (F := Ideal) (View.ld x0 r0_0) (View.ld x2 r0_1) x = blkU x0 x1 x2 (r0_3.emb x)
    rw [e0, e2, pay5_eq]
    unfold blkU
    rw [if_neg (by omega), hx]
  · have b1 : (x 1).val < 1408 := (x 1).isLt
    have v0 : (r0_2.emb x 0).val = (x 0).val := by show 0 + 1 * (x 0).val = _; omega
    have v1 : (r0_2.emb x 1).val = (x 1).val := by show 0 + 1 * (x 1).val = _; omega
    have hx : (ix2 (r0_2.emb x 0) (⟨(r0_2.emb x 1).val % 1408, by omega⟩ : Fin 1408) : S1024x1408.Idx) = x := by
      funext a; apply Fin.ext
      match a with
      | ⟨0, _⟩ => exact v0
      | ⟨1, _⟩ => show (r0_2.emb x 1).val % 1408 = (x 1).val; omega
    show k0_pay4 (F := Ideal) (View.ld x0 r0_0) (View.ld x1 r0_1) x = blkU x0 x1 x2 (r0_2.emb x)
    rw [e0, e1, pay4_eq]
    unfold blkU
    rw [if_pos (by omega), hx]

theorem outA_eq (x0 : Vec Ideal S1024x1024 .bf16) (x1 x2 : Vec Ideal S1x1024x1408 .bf16) :
    out0_4 (F := Ideal) x0 x1 x2 = k0_pay6 (F := Ideal) x0 x1 x2 := by
  have e0 : View.ld x0 r0_0 = x0 := View.ld_unit_zero zero2 _ _
  have e1 : View.ld x1 r0_1 = x1 := View.ld_unit_zero zero3 _ _
  have e2 : View.ld x2 r0_1 = x2 := View.ld_unit_zero zero3 _ _
  unfold out0_4
  rw [e0, e1, e2]
  exact View.canon_unit_zero zero2 _ _

variable (m : (ℓ : Loc nD τ sig) → Buf (Elt Ideal) ℓ)

/-- What the region finds. -/
theorem V_x (c : Dev nD) (i : S4096x1024.Idx) : V m c main_v0 i = m ((c : Thread nD τ).loc main_arg0) i := by
  dsimp only [V, hostOps0]
  after_results
  rfl

theorem V_w (c : Dev nD) (i : S4x1024x1408.Idx) (hb : (i 0).val * 1408 + (i 2).val < 5632) :
    V m c main_v3 i = m ((c : Thread nD τ).loc main_arg1) (ix2 (i 1) (⟨(i 0).val * 1408 + (i 2).val, hb⟩ : Fin 5632)) := by
  dsimp only [V, hostOps0]
  after_results
  show transpose ⟨3, ![4, 1024, 1408]⟩ [1, 0, 2] (shapeCast ⟨3, ![1024, 4, 1408]⟩
    (m ((c : Thread nD τ).loc main_arg1)) shapeCasts_S1024x5632_S1024x4x1408) transposes_S1024x4x1408_S4x1024x1408_1_0_2 i = _
  exact chips_apply _ _ _ i hb

theorem e0 : ∀ t : Fin cfg0.N, win0_0.index t = ![t.val % 4, 0] := (by decide +kernel : ∀ t : Fin grid0.N, _)
theorem e1 : ∀ t : Fin cfg0.N, win0_1.index t = ![t.val / 4, 0, 0] := (by decide +kernel : ∀ t : Fin grid0.N, _)
theorem e2 : ∀ t : Fin cfg0.N, win0_2.index t = ![t.val / 4 + 2, 0, 0] := (by decide +kernel : ∀ t : Fin grid0.N, _)
theorem e3 : ∀ t : Fin cfg0.N, win0_3.index t = ![t.val % 4, t.val / 4] := (by decide +kernel : ∀ t : Fin grid0.N, _)
theorem e4 : ∀ t : Fin cfg0.N, win0_4.index t = ![t.val % 4, t.val / 4] := (by decide +kernel : ∀ t : Fin grid0.N, _)

theorem lt_N (t : Fin cfg0.N) : t.val < 8 := lt_of_lt_of_eq t.isLt (show cfg0.N = 8 from N_0)

/-- The row of the arrays and the hidden feature that a point's block starts from. -/
def at_ (t : Fin cfg0.N) (r : Fin 1024) : Fin 4096 := ⟨t.val % 4 * 1024 + r.val, by have := r.isLt; omega⟩
def hid (t : Fin cfg0.N) (l : Fin 1408) : Fin 2816 := ⟨t.val / 4 * 1408 + l.val, by have := lt_N t; have := l.isLt; omega⟩

theorem blk_x (c : Dev nD) (t : Fin cfg0.N) (r : Fin 1024) (k : Fin 1024) :
    iblk m c 0 t (ix2 r k) = m ((c : Thread nD τ).loc main_arg0) (ix2 (at_ t r) k) := by
  have ha : (win0_0.blk t).view.emb (ix2 r k) = (ix2 (at_ t r) k : S4096x1024.Idx) := by
    funext a; apply Fin.ext
    match a with
    | ⟨0, _⟩ => blk_simp [e0]; rfl
    | ⟨1, _⟩ => blk_simp [e0]
  show V m c main_v0 ((win0_0.blk t).view.emb (ix2 r k)) = _
  rw [ha, V_x]

theorem blk_gate (c : Dev nD) (t : Fin cfg0.N) (k : Fin 1024) (l : Fin 1408) :
    iblk m c 1 t (ix3 (0 : Fin 1) k l) = m ((c : Thread nD τ).loc main_arg1) (ix2 k (gateCol (hid t l))) := by
  have hN := lt_N t
  have ha : (win0_1.blk t).view.emb (ix3 (0 : Fin 1) k l) = (ix3 (⟨t.val / 4, by omega⟩ : Fin 4) k l : S4x1024x1408.Idx) := by
    funext a; apply Fin.ext
    match a with
    | ⟨0, _⟩ => blk_simp [e1]
    | ⟨1, _⟩ => blk_simp [e1]
    | ⟨2, _⟩ => blk_simp [e1]
  show V m c main_v3 ((win0_1.blk t).view.emb (ix3 (0 : Fin 1) k l)) = _
  rw [ha]
  have hb : t.val / 4 * 1408 + l.val < 5632 := by have := l.isLt; omega
  exact V_w m c (ix3 (⟨t.val / 4, by omega⟩ : Fin 4) k l) hb

theorem blk_lin (c : Dev nD) (t : Fin cfg0.N) (k : Fin 1024) (l : Fin 1408) :
    iblk m c 2 t (ix3 (0 : Fin 1) k l) = m ((c : Thread nD τ).loc main_arg1) (ix2 k (linCol (hid t l))) := by
  have hN := lt_N t
  have ha : (win0_2.blk t).view.emb (ix3 (0 : Fin 1) k l) = (ix3 (⟨t.val / 4 + 2, by omega⟩ : Fin 4) k l : S4x1024x1408.Idx) := by
    funext a; apply Fin.ext
    match a with
    | ⟨0, _⟩ => blk_simp [e2]
    | ⟨1, _⟩ => blk_simp [e2]
    | ⟨2, _⟩ => blk_simp [e2]
  show V m c main_v3 ((win0_2.blk t).view.emb (ix3 (0 : Fin 1) k l)) = _
  rw [ha]
  have hb : (t.val / 4 + 2) * 1408 + l.val < 5632 := by have := l.isLt; omega
  refine (V_w m c (ix3 (⟨t.val / 4 + 2, by omega⟩ : Fin 4) k l) hb).trans ?_
  refine congrArg (fun q : Fin 5632 => m ((c : Thread nD τ).loc main_arg1) (ix2 k q)) (Fin.ext ?_)
  show (t.val / 4 + 2) * 1408 + l.val = 2816 + (t.val / 4 * 1408 + l.val)
  omega

/-- A block's gate product and its linear product. -/
theorem gate_prod (c : Dev nD) (t : Fin cfg0.N) (r : Fin 1024) (l : Fin 1408) :
    k0_pay2 (F := Ideal) (iblk m c 0 t) (iblk m c 1 t) (ix2 r l)
      = prod (m ((c : Thread nD τ).loc main_arg0)) (m ((c : Thread nD τ).loc main_arg1)) (at_ t r) (gateCol (hid t l)) :=
  (pay2_apply _ _ r l).trans (Finset.sum_congr rfl fun k _ =>
    congrArg₂ (fun a b : EReal => a * b) (blk_x m c t r k) (blk_gate m c t k l))

theorem lin_prod (c : Dev nD) (t : Fin cfg0.N) (r : Fin 1024) (l : Fin 1408) :
    k0_pay2 (F := Ideal) (iblk m c 0 t) (iblk m c 2 t) (ix2 r l)
      = prod (m ((c : Thread nD τ).loc main_arg0)) (m ((c : Thread nD τ).loc main_arg1)) (at_ t r) (linCol (hid t l)) :=
  (pay2_apply _ _ r l).trans (Finset.sum_congr rfl fun k _ =>
    congrArg₂ (fun a b : EReal => a * b) (blk_x m c t r k) (blk_lin m c t k l))

/-- The first result array after the run. -/
theorem finalU (c : Dev nD) : (dats m 0 c).arrAt 3 cfg0.N
    = GU (m ((c : Thread nD τ).loc main_arg0)) (m ((c : Thread nD τ).loc main_arg1)) := by
  refine (dats m 0 c).arrAt_eq_of_covers 3 _ (by decide +kernel) fun t hf y => ?_
  have hN := lt_N t
  blk_simp
  rw [after0_3, outU_eq]
  obtain ⟨r, q, rfl⟩ : ∃ (r : Fin 1024) (q : Fin 2816), y = ix2 r q := ⟨y 0, y 1, eq_ix2 y⟩
  have hq := q.isLt
  have hp : t.val / 4 * 2816 + q.val < 5632 := by omega
  have hi : (win0_3.blk t).view.emb (ix2 r q) = (ix2 (at_ t r) (⟨t.val / 4 * 2816 + q.val, hp⟩ : Fin 5632) : S4096x5632.Idx) := by
    funext a; apply Fin.ext
    match a with
    | ⟨0, _⟩ => blk_simp [e3]; rfl
    | ⟨1, _⟩ => blk_simp [e3]
  generalize (win0_3.blk t).view.emb (ix2 r q) = i at hi ⊢
  subst hi
  have hf : feat ⟨t.val / 4 * 2816 + q.val, hp⟩ = hid t ⟨q.val % 1408, by omega⟩ := Fin.ext (by
    show (t.val / 4 * 2816 + q.val) / 2816 * 1408 + (t.val / 4 * 2816 + q.val) % 1408 = t.val / 4 * 1408 + q.val % 1408
    omega)
  show (if q.val < 1408 then k0_pay2 (F := Ideal) (iblk m c 0 t) (iblk m c 1 t) (ix2 r (⟨q.val % 1408, by omega⟩ : Fin 1408))
    else k0_pay2 (F := Ideal) (iblk m c 0 t) (iblk m c 2 t) (ix2 r (⟨q.val % 1408, by omega⟩ : Fin 1408)))
    = prod (m ((c : Thread nD τ).loc main_arg0)) (m ((c : Thread nD τ).loc main_arg1)) (at_ t r) (src ⟨t.val / 4 * 2816 + q.val, hp⟩)
  by_cases hc : q.val < 1408
  · rw [if_pos hc, gate_prod, src_gate _ (by dsimp only; omega), hf]
  · rw [if_neg hc, lin_prod, src_lin _ (by dsimp only; omega), hf]

/-- The second result array after the run. -/
theorem finalA (c : Dev nD) : (dats m 0 c).arrAt 4 cfg0.N
    = GA (m ((c : Thread nD τ).loc main_arg0)) (m ((c : Thread nD τ).loc main_arg1)) := by
  refine (dats m 0 c).arrAt_eq_of_covers 4 _ (by decide +kernel) fun t hf y => ?_
  blk_simp
  rw [after0_4, outA_eq]
  obtain ⟨r, l, rfl⟩ : ∃ (r : Fin 1024) (l : Fin 1408), y = ix2 r l := ⟨y 0, y 1, eq_ix2 y⟩
  have hi : (win0_4.blk t).view.emb (ix2 r l) = (ix2 (at_ t r) (hid t l) : S4096x2816.Idx) := by
    funext a; apply Fin.ext
    match a with
    | ⟨0, _⟩ => blk_simp [e4]; rfl
    | ⟨1, _⟩ => blk_simp [e4]; rfl
  generalize (win0_4.blk t).view.emb (ix2 r l) = i at hi ⊢
  subst hi
  exact (pay6_apply _ _ _ _).trans (congrArg₂ (fun a b : EReal => a * Ideal.logistic a * b) (gate_prod m c t r l) (lin_prod m c t r l))

section
open Cert.Reference5Ideal Cert.Reference5Ideal.Read

variable (x : Vec Ideal Cert.Reference5Ideal.S4096x1024 .f32) (w : Vec Ideal Cert.Reference5Ideal.S1024x5632 .f32)

theorem prod_apply (r : Fin 4096) (q : Fin 5632) : val_main_v0 (F := Ideal) x w (ix2 r q) = prod x w r q :=
  (val_main_v0_apply x w _).trans (Finset.sum_congr rfl fun k _ =>
    congrArg₂ (fun a b : EReal => a * b) (congrArg x (funext fun a => by fin_cases a <;> rfl))
      (congrArg w (funext fun a => by fin_cases a <;> rfl)))

/-- The reference's result arrays. -/
theorem valueU : val_main_v8 (F := Ideal) x w = GU x w := by
  funext i
  have h : val_main_v8 (F := Ideal) x w i = val_main_v0 (F := Ideal) x w (ix2 (i 0) (src (i 1))) := by
    rw [val_main_v8_apply]
    unfold val_main_v7 val_main_v6 val_main_v5
    generalize val_main_v0 (F := Ideal) x w = y
    exact pairs_apply y _ _ _ i
  exact h.trans (prod_apply x w _ _)

theorem gate_apply (r : Fin 4096) (f : Fin 2816) : val_main_v1 (F := Ideal) x w (ix2 r f) = prod x w r (gateCol f) := by
  rw [val_main_v1_apply]
  have e : idx_main_v1 (ix2 r f) = ix2 r (gateCol f) := funext fun a => by fin_cases a <;> rfl
  rw [e]
  exact prod_apply x w _ _

theorem lin_apply (r : Fin 4096) (f : Fin 2816) : val_main_v3 (F := Ideal) x w (ix2 r f) = prod x w r (linCol f) := by
  rw [val_main_v3_apply]
  have e : idx_main_v3 (ix2 r f) = ix2 r (linCol f) := funext fun a => by fin_cases a <;> rfl
  rw [e]
  exact prod_apply x w _ _

theorem sig_apply (i : Cert.Reference5Ideal.S4096x2816.Idx) :
    val_main_call0_v5 (F := Ideal) x w i = Ideal.logistic (val_main_v1 (F := Ideal) x w i) := by
  rw [val_main_call0_v5_apply, val_main_call0_v4_apply, val_main_call0_v3_apply, val_main_call0_v2_apply, val_main_call0_v1_apply,
    val_main_call0_v0_apply, val_main_call0_cst_apply, val_main_call0_cst_0_apply]
  simp only [Ideal.ofBits_def, Ideal.ofBits_one_f32]
  unfold Ideal.logistic
  rfl

theorem valueA : val_main_v9 (F := Ideal) x w = GA x w := by
  funext i
  obtain ⟨r, f, rfl⟩ : ∃ (r : Fin 4096) (f : Fin 2816), i = ix2 r f := ⟨i 0, i 1, eq_ix2 i⟩
  rw [val_main_v9_apply, val_main_v4_apply, val_main_v2_apply, sig_apply, gate_apply, lin_apply]
  rfl
end

/-- The call and the reference compute the same arrays. -/
theorem claim : Cert.algebraic_Kernel5Ideal_Reference5Ideal := by
  intro m g m' g' _ hm
  refine ⟨fun c => GU (m (c.tc.loc main_arg0)) (m (c.tc.loc main_arg1)), fun c => GA (m (c.tc.loc main_arg0)) (m (c.tc.loc main_arg1)),
    ?_, ?_⟩
  · exact (θ_run _ _ _).mono (fun r h c => ⟨(h c).1.trans (finalU m c), (h c).2.1.trans (finalA m c), (h c).2.2⟩)
      (Cert.Kernel5Ideal.Value.run_blocks m g)
  · refine (θ_run _ _ _).mono (fun r h c => ⟨(h c).1.trans ?_, (h c).2.1.trans ?_, (h c).2.2⟩) (Cert.Reference5Ideal.Value.run m' g')
    · obtain ⟨h0, h1⟩ := hm c
      refine (Cert.Reference5Ideal.Read.val_main_v8_eq _ _).trans ?_
      rw [h0, h1]
      exact valueU _ _
    · obtain ⟨h0, h1⟩ := hm c
      refine (Cert.Reference5Ideal.Read.val_main_v9_eq _ _).trans ?_
      rw [h0, h1]
      exact valueA _ _

end Cert.Proof.InAct

end
-- ==== Proof.NormCall.lean ====
/- What the normalisation's forward call leaves in its result array (`final`), and the same array as the reference computes it
   (`value`). -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.DxnRef
public import Idealize.ShloMosaic.Lib.Pipeline.ValueKit.Geometry

@[expose] public section

set_option maxRecDepth 16384

noncomputable section

namespace Cert.Proof.NormCall

open Cert.Kernel7Ideal Cert.Kernel7Ideal.Gen Cert.Proof.Rows
open Idealize.ShloMosaic Idealize.ShloMosaic.TcCoe Idealize.ShloMosaic.ValueIdx Idealize.SL.Sem

/-- The result array: each row over its root mean square, times the gain. -/
def G (h : Vec Ideal ⟨2, ![4096, 1024]⟩ .f32) (g : Vec Ideal ⟨1, ![1024]⟩ .f32) : Vec Ideal ⟨2, ![4096, 1024]⟩ .bf16 :=
  fun i => h i * Norm.rinv (row h (i 0)) * g (ix1 (i 1))

theorem pay1_apply (x : Vec Ideal S512x1024 .f32) (g : Vec Ideal S1x1024 .f32) (r : Fin 512) (k : Fin 1024) :
    k0_pay1 (F := Ideal) x g (ix2 r k) = x (ix2 r k) * Norm.rinv (row x r) * g (ix2 (0 : Fin 1) k) := by
  have hg : broadcastTo S512x1024 (shapeCast S1x1024 g shapeCasts_S1x1024_S1x1024) broadcasts_S1x1024_S512x1024 (ix2 r k)
      = g (ix2 (0 : Fin 1) k) := by
    rw [shapeCast_self]; exact broadcastTo_1b_ab_apply g _ r k
  exact congrArg₂ (fun s t : EReal => s * t) (pay6_apply x r k) hg

theorem out_eq (x0 : Vec Ideal S512x1024 .f32) (x1 : Vec Ideal S1x1024 .f32) :
    out0_2 (F := Ideal) x0 x1 = k0_pay1 (F := Ideal) x0 x1 := by
  have h2 : (![0, 0] : Fin 2 → Nat) = fun _ => 0 := funext fun a => by fin_cases a <;> rfl
  have e0 : View.ld x0 r0_0 = x0 := View.ld_unit_zero h2 _ _
  have e1 : View.ld x1 r0_1 = x1 := View.ld_unit_zero h2 _ _
  unfold out0_2
  rw [e0, e1]
  exact View.canon_unit_zero h2 _ _

variable (m : (ℓ : Loc nD τ sig) → Buf (Elt Ideal) ℓ)

/-- What the region finds. -/
theorem V_g (c : Dev nD) (k : Fin 1024) :
    V m c main_v0 (ix2 (0 : Fin 1) k) = m ((c : Thread nD τ).loc main_arg1) (ix1 k) := by
  dsimp only [V, hostOps0]
  after_results
  show shapeCast ⟨2, ![1, 1024]⟩ (m ((c : Thread nD τ).loc main_arg1)) shapeCasts_S1024_S1x1024 (ix2 (0 : Fin 1) k) = _
  exact shapeCast_a_1a_apply _ _ _ _

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 8 := lt_of_lt_of_eq t.isLt (show cfg0.N = 8 from N_0)

/-- The row of the arrays that a row of the point's block is. -/
def at_ (t : Fin cfg0.N) (r : Fin 512) : Fin 4096 := ⟨t.val * 512 + r.val, by have := lt_N t; have := r.isLt; omega⟩

theorem blk_x (c : Dev nD) (t : Fin cfg0.N) (r : Fin 512) (k : Fin 1024) :
    iblk m c 0 t (ix2 r k) = m ((c : Thread nD τ).loc main_arg0) (ix2 (at_ t r) k) := by
  have ha : (win0_0.blk t).view.emb (ix2 r k) = (ix2 (at_ t r) k : S4096x1024.Idx) := by
    funext a; apply Fin.ext
    match a with
    | ⟨0, _⟩ => blk_simp [e0]; rfl
    | ⟨1, _⟩ => blk_simp [e0]
  show V m c main_arg0 ((win0_0.blk t).view.emb (ix2 r k)) = _
  rw [ha, V_main_arg0]

theorem blk_g (c : Dev nD) (t : Fin cfg0.N) (k : Fin 1024) :
    iblk m c 1 t (ix2 (0 : Fin 1) k) = m ((c : Thread nD τ).loc main_arg1) (ix1 k) := by
  have ha : (win0_1.blk t).view.emb (ix2 (0 : Fin 1) k) = (ix2 (0 : Fin 1) k : S1x1024.Idx) := by
    funext a; apply Fin.ext
    match a with
    | ⟨0, _⟩ => blk_simp [e1]
    | ⟨1, _⟩ => blk_simp [e1]
  show V m c main_v0 ((win0_1.blk t).view.emb (ix2 (0 : Fin 1) k)) = _
  rw [ha, V_g]

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, out_eq]
  obtain ⟨r, k, rfl⟩ : ∃ (r : Fin 512) (k : Fin 1024), y = ix2 r k := ⟨y 0, y 1, eq_ix2 y⟩
  have hi : (win0_2.blk t).view.emb (ix2 r k) = (ix2 (at_ t r) k : S4096x1024.Idx) := by
    funext a; apply Fin.ext
    match a with
    | ⟨0, _⟩ => blk_simp [e2]; rfl
    | ⟨1, _⟩ => blk_simp [e2]
  generalize (win0_2.blk t).view.emb (ix2 r k) = i at hi ⊢
  subst hi
  have ex : row (iblk m c 0 t) r = row (m ((c : Thread nD τ).loc main_arg0)) (at_ t r) := funext fun q => blk_x m c t r q
  exact (pay1_apply _ _ r k).trans (congrArg₂ (fun a b : EReal => a * b)
    (congrArg₂ (fun a b : EReal => a * b) (blk_x m c t r k) (congrArg Norm.rinv ex)) (blk_g m c t k))

section
open Cert.Reference7Ideal Cert.Reference7Ideal.Read

/-- The reference's result array. -/
theorem value (h : Vec Ideal Cert.Reference7Ideal.S4096x1024 .f32) (g : Vec Ideal Cert.Reference7Ideal.S1024 .f32) :
    val_main_v13 (F := Ideal) h g = G h g := by
  funext i
  obtain ⟨r, k, rfl⟩ : ∃ (r : Fin 4096) (k : Fin 1024), i = ix2 r k := ⟨i 0, i 1, eq_ix2 i⟩
  rw [val_main_v13_apply, val_main_v12_apply, val_main_v9_apply, val_main_v8_apply, val_main_v11_apply, val_main_v10_apply]
  have e1 : idx_main_v8 (ix2 r k) = ix2 r (0 : Fin 1) := funext fun a => by fin_cases a <;> rfl
  have e2 : idx_main_v10 (idx_main_v11 (ix2 r k)) = ix1 k := funext fun a => by fin_cases a; rfl
  rw [e1, e2]
  exact congrArg (fun s : EReal => h (ix2 r k) * s * g (ix1 k)) (DxnRef.rinv_apply h r 0)
end

/-- The call and the reference compute the same array. -/
theorem claim : Cert.algebraic_Kernel7Ideal_Reference7Ideal := by
  intro m g m' g' _ hm
  refine ⟨fun c => G (m (c.tc.loc main_arg0)) (m (c.tc.loc main_arg1)), ?_, ?_⟩
  · exact (θ_run _ _ _).mono (fun r h c => ⟨(h c).1.trans (final m c), (h c).2⟩) (Cert.Kernel7Ideal.Value.run_blocks m g)
  · refine (θ_run _ _ _).mono (fun r h c => ⟨(h c).1.trans ?_, (h c).2⟩) (Cert.Reference7Ideal.Value.run m' g')
    obtain ⟨h0, h1⟩ := hm c
    refine (Cert.Reference7Ideal.Read.val_main_v13_eq _ _).trans ?_
    rw [h0, h1]
    exact value _ _

end Cert.Proof.NormCall

end
-- ==== Proof.Out.lean ====
/- What a feed-forward block's output call leaves in its result array (`final`), and the same array as the reference computes it
   (`value`). -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.MatmulPlain
public import Idealize.ShloMosaic.Lib.IdealHost
public import Idealize.ShloMosaic.Lib.ValueIdx
public import Idealize.ShloMosaic.Lib.Pipeline.ValueKit.Geometry

@[expose] public section

set_option maxRecDepth 16384

noncomputable section

namespace Cert.Proof.Out

open Cert.Kernel6Ideal Cert.Kernel6Ideal.Gen
open Idealize.ShloMosaic Idealize.ShloMosaic.TcCoe Idealize.ShloMosaic.ValueIdx Idealize.SL.Sem

/-- The result array: the block's input and half of the product of the hidden layer with the weight. -/
def G (h : Vec Ideal ⟨2, ![4096, 1024]⟩ .f32) (act : Vec Ideal ⟨2, ![4096, 2816]⟩ .f32) (w : Vec Ideal ⟨2, ![2816, 1024]⟩ .f32) :
    Vec Ideal ⟨2, ![4096, 1024]⟩ .f32 :=
  fun i => h i + (∑ k : Fin 2816, act (ix2 (i 0) k) * w (ix2 k (i 1))) * Ideal.ofBits .f32 0x3F000000#32

theorem pay1_apply (a : Vec Ideal S1024x2816 .bf16) (w : Vec Ideal S2816x1024 .bf16) (h : Vec Ideal S1024x1024 .f32)
    (r : Fin 1024) (k : Fin 1024) : k0_pay1 (F := Ideal) a w h (ix2 r k)
      = h (ix2 r k) + (∑ q : Fin 2816, a (ix2 r q) * w (ix2 q k)) * Ideal.ofBits .f32 0x3F000000#32 := by
  have hp : FloatOps.matmul (F := Ideal) (φ₁ := .bf16) (φ₂ := .bf16) (DotDims.plain 1024 2816 1024) none
      (shapeCast S1024x2816 a shapeCasts_S1024x2816_S1024x2816) (shapeCast S2816x1024 w shapeCasts_S2816x1024_S2816x1024)
      (constant S1024x1024 .f32 0x00000000#32) (ix2 r k) = ∑ q : Fin 2816, a (ix2 r q) * w (ix2 q k) := by
    rw [Ideal.matmul_plain_apply, shapeCast_self, shapeCast_self]
    show Ideal.ofBits .f32 0x00000000#32 + _ = _
    rw [Ideal.ofBits_zero_f32, zero_add]
  exact congrArg (fun s : EReal => h (ix2 r k) + s * Ideal.ofBits .f32 0x3F000000#32) hp

theorem out_eq (x0 : Vec Ideal S1024x2816 .bf16) (x1 : Vec Ideal S2816x1024 .bf16) (x2 : Vec Ideal S1024x1024 .f32) :
    out0_3 (F := Ideal) x0 x1 x2 = k0_pay1 (F := Ideal) x0 x1 x2 := by
  have h2 : (![0, 0] : Fin 2 → Nat) = fun _ => 0 := funext fun a => by fin_cases a <;> rfl
  have e0 : View.ld x0 r0_0 = x0 := View.ld_unit_zero h2 _ _
  have e1 : View.ld x1 r0_1 = x1 := View.ld_unit_zero h2 _ _
  have e2 : View.ld x2 r0_2 = x2 := View.ld_unit_zero h2 _ _
  unfold out0_3
  rw [e0, e1, e2]
  exact View.canon_unit_zero h2 _ _

variable (m : (ℓ : Loc nD τ sig) → Buf (Elt Ideal) ℓ)

/-- What the region finds. -/
theorem V_a (c : Dev nD) (i : S4096x2816.Idx) : V m c main_v0 i = m ((c : Thread nD τ).loc main_arg1) i := by
  dsimp only [V, hostOps0]
  after_results
  rfl

theorem V_w (c : Dev nD) (i : S2816x1024.Idx) : V m c main_v1 i = m ((c : Thread nD τ).loc main_arg2) i := by
  dsimp only [V, hostOps0]
  after_results
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

theorem lt_N (t : Fin cfg0.N) : t.val < 4 := lt_of_lt_of_eq t.isLt (show cfg0.N = 4 from N_0)

/-- The row of the arrays that a row of the point's block is. -/
def at_ (t : Fin cfg0.N) (r : Fin 1024) : Fin 4096 := ⟨t.val * 1024 + r.val, by have := lt_N t; have := r.isLt; omega⟩

theorem blk_a (c : Dev nD) (t : Fin cfg0.N) (r : Fin 1024) (q : Fin 2816) :
    iblk m c 0 t (ix2 r q) = m ((c : Thread nD τ).loc main_arg1) (ix2 (at_ t r) q) := by
  have ha : (win0_0.blk t).view.emb (ix2 r q) = (ix2 (at_ t r) q : S4096x2816.Idx) := by
    funext a; apply Fin.ext
    match a with
    | ⟨0, _⟩ => blk_simp [e0]; rfl
    | ⟨1, _⟩ => blk_simp [e0]
  show V m c main_v0 ((win0_0.blk t).view.emb (ix2 r q)) = _
  rw [ha, V_a]

theorem blk_w (c : Dev nD) (t : Fin cfg0.N) (q : Fin 2816) (k : Fin 1024) :
    iblk m c 1 t (ix2 q k) = m ((c : Thread nD τ).loc main_arg2) (ix2 q k) := by
  have ha : (win0_1.blk t).view.emb (ix2 q k) = (ix2 q k : S2816x1024.Idx) := by
    funext a; apply Fin.ext
    match a with
    | ⟨0, _⟩ => blk_simp [e1]
    | ⟨1, _⟩ => blk_simp [e1]
  show V m c main_v1 ((win0_1.blk t).view.emb (ix2 q k)) = _
  rw [ha, V_w]

theorem blk_h (c : Dev nD) (t : Fin cfg0.N) (r : Fin 1024) (k : Fin 1024) :
    iblk m c 2 t (ix2 r k) = m ((c : Thread nD τ).loc main_arg0) (ix2 (at_ t r) k) := by
  have ha : (win0_2.blk t).view.emb (ix2 r k) = (ix2 (at_ t r) k : S4096x1024.Idx) := by
    funext a; apply Fin.ext
    match a with
    | ⟨0, _⟩ => blk_simp [e2]; rfl
    | ⟨1, _⟩ => blk_simp [e2]
  show V m c main_arg0 ((win0_2.blk t).view.emb (ix2 r k)) = _
  rw [ha, V_main_arg0]

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  obtain ⟨r, k, rfl⟩ : ∃ (r : Fin 1024) (k : Fin 1024), y = ix2 r k := ⟨y 0, y 1, eq_ix2 y⟩
  have hi : (win0_3.blk t).view.emb (ix2 r k) = (ix2 (at_ t r) k : S4096x1024.Idx) := by
    funext a; apply Fin.ext
    match a with
    | ⟨0, _⟩ => blk_simp [e3]; rfl
    | ⟨1, _⟩ => blk_simp [e3]
  generalize (win0_3.blk t).view.emb (ix2 r k) = i at hi ⊢
  subst hi
  exact (pay1_apply _ _ _ r k).trans (congrArg₂ (fun a s : EReal => a + s * Ideal.ofBits .f32 0x3F000000#32) (blk_h m c t r k)
    (Finset.sum_congr rfl fun q _ => congrArg₂ (fun a b : EReal => a * b) (blk_a m c t r q) (blk_w m c t q k)))

section
open Cert.Reference6Ideal Cert.Reference6Ideal.Read

/-- The reference's result array. -/
theorem value (h : Vec Ideal Cert.Reference6Ideal.S4096x1024 .f32) (act : Vec Ideal Cert.Reference6Ideal.S4096x2816 .f32)
    (w : Vec Ideal Cert.Reference6Ideal.S2816x1024 .f32) : val_main_v3 (F := Ideal) h act w = G h act w := by
  funext i
  rw [val_main_v3_apply, val_main_v2_apply, val_main_v1_apply, val_main_cst_apply]
  refine congrArg (fun s : EReal => h i + s) ((mul_comm (G := EReal) _ _).trans
    (congrArg (fun s : EReal => s * Ideal.ofBits .f32 0x3F000000#32) ((val_main_v0_apply act w i).trans (Finset.sum_congr rfl fun k _ => ?_))))
  exact congrArg₂ (fun a b : EReal => a * b) (congrArg act (funext fun a => by fin_cases a <;> rfl))
    (congrArg w (funext fun a => by fin_cases a <;> rfl))
end

/-- The call and the reference compute the same array. -/
theorem claim : Cert.algebraic_Kernel6Ideal_Reference6Ideal := by
  intro m g m' g' _ hm
  refine ⟨fun c => G (m (c.tc.loc main_arg0)) (m (c.tc.loc main_arg1)) (m (c.tc.loc main_arg2)), ?_, ?_⟩
  · exact (θ_run _ _ _).mono (fun r h c => ⟨(h c).1.trans (final m c), (h c).2⟩) (Cert.Kernel6Ideal.Value.run_blocks m g)
  · refine (θ_run _ _ _).mono (fun r h c => ⟨(h c).1.trans ?_, (h c).2⟩) (Cert.Reference6Ideal.Value.run m' g')
    obtain ⟨h0, h1, h2⟩ := hm c
    refine (Cert.Reference6Ideal.Read.val_main_v3_eq _ _ _).trans ?_
    rw [h0, h1, h2]
    exact value _ _ _

end Cert.Proof.Out

end
-- ==== Proof.Qkv.lean ====
/- What the joint projection's forward call leaves in its result array (`final`), and the same array as the reference computes
   it (`value`). -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Layout
public import Idealize.ShloMosaic.Lib.MatmulPlain
public import Idealize.ShloMosaic.Lib.IdealHost
public import Idealize.ShloMosaic.Lib.Pipeline.ValueKit.Geometry
public import Idealize.ShloMosaic.Lib.ValueLayout

@[expose] public section

set_option maxRecDepth 16384

noncomputable section

namespace Cert.Proof.Qkv

open Cert.Kernel10Ideal Cert.Kernel10Ideal.Gen Cert.Proof.Layout
open Idealize.ShloMosaic Idealize.ShloMosaic.TcCoe Idealize.ShloMosaic.ValueIdx Idealize.SL.Sem

/-- The result array: the product of the rows with the weight. -/
def G (x : Vec Ideal ⟨2, ![4096, 1024]⟩ .f32) (w : Vec Ideal ⟨2, ![1024, 3072]⟩ .f32) : Vec Ideal ⟨2, ![4096, 3072]⟩ .bf16 :=
  fun i => ∑ k : Fin 1024, x (ix2 (i 0) k) * w (ix2 k (i 1))

/-- The product of a block of rows with one chip's columns, at an index. -/
theorem pay1_apply (x : Vec Ideal S1024x1024 .bf16) (w : Vec Ideal S1x1024x768 .bf16) (r : Fin 1024) (l : Fin 768) :
    k0_pay1 (F := Ideal) x w (ix2 r l) = ∑ k : Fin 1024, x (ix2 r k) * w (ix3 (0 : Fin 1) k l) := by
  unfold k0_pay1
  show FloatOps.matmul (F := Ideal) (φ₁ := .bf16) (φ₂ := .bf16) (DotDims.plain 1024 1024 768) none
    (shapeCast S1024x1024 x shapeCasts_S1024x1024_S1024x1024) (shapeCast S1024x768 w shapeCasts_S1x1024x768_S1024x768)
    (constant S1024x768 .f32 0x00000000#32) (ix2 r l) = _
  rw [Ideal.matmul_plain_apply, shapeCast_self]
  show Ideal.ofBits .f32 0x00000000#32 + _ = _
  rw [Ideal.ofBits_zero_f32, zero_add]
  exact Finset.sum_congr rfl fun k _ => congrArg (fun s : EReal => x (ix2 r k) * s)
    (shapeCast_1ab_ab_apply w shapeCasts_S1x1024x768_S1024x768 k l)

theorem out_eq (x0 : Vec Ideal S1024x1024 .bf16) (x1 : Vec Ideal S1x1024x768 .bf16) :
    out0_2 (F := Ideal) x0 x1 = k0_pay1 (F := Ideal) x0 x1 := by
  have h2 : (![0, 0] : Fin 2 → Nat) = fun _ => 0 := funext fun a => by fin_cases a <;> rfl
  have h3 : (![0, 0, 0] : Fin 3 → Nat) = fun _ => 0 := funext fun a => by fin_cases a <;> rfl
  have e0 : View.ld x0 r0_0 = x0 := View.ld_unit_zero h2 _ _
  have e1 : View.ld x1 r0_1 = x1 := View.ld_unit_zero h3 _ _
  unfold out0_2
  rw [e0, e1]
  exact View.canon_unit_zero h2 _ _

variable (m : (ℓ : Loc nD τ sig) → Buf (Elt Ideal) ℓ)

/-- What the region finds. -/
theorem V_x (c : Dev nD) (i : S4096x1024.Idx) : V m c main_v0 i = m ((c : Thread nD τ).loc main_arg0) i := by
  dsimp only [V, hostOps0]
  after_results
  rfl

theorem V_w (c : Dev nD) (i : S4x1024x768.Idx) (hb : (i 0).val * 768 + (i 2).val < 3072) :
    V m c main_v3 i = m ((c : Thread nD τ).loc main_arg1) (ix2 (i 1) (⟨(i 0).val * 768 + (i 2).val, hb⟩ : Fin 3072)) := by
  dsimp only [V, hostOps0]
  after_results
  show transpose ⟨3, ![4, 1024, 768]⟩ [1, 0, 2] (shapeCast ⟨3, ![1024, 4, 768]⟩
    (m ((c : Thread nD τ).loc main_arg1)) shapeCasts_S1024x3072_S1024x4x768) transposes_S1024x4x768_S4x1024x768_1_0_2 i = _
  exact cut_apply (by decide) _ _ _ i hb

theorem e0 : ∀ t : Fin cfg0.N, win0_0.index t = ![t.val % 4, 0] := (by decide +kernel : ∀ t : Fin grid0.N, _)
theorem e1 : ∀ t : Fin cfg0.N, win0_1.index t = ![t.val / 4, 0, 0] := (by decide +kernel : ∀ t : Fin grid0.N, _)
theorem e2 : ∀ t : Fin cfg0.N, win0_2.index t = ![t.val % 4, t.val / 4] := (by decide +kernel : ∀ t : Fin grid0.N, _)

theorem lt_N (t : Fin cfg0.N) : t.val < 16 := lt_of_lt_of_eq t.isLt (show cfg0.N = 16 from N_0)

/-- The row and the column of the result that a point's block starts from. -/
def at_ (t : Fin cfg0.N) (r : Fin 1024) : Fin 4096 := ⟨t.val % 4 * 1024 + r.val, by have := r.isLt; omega⟩
def col (t : Fin cfg0.N) (l : Fin 768) : Fin 3072 := ⟨t.val / 4 * 768 + l.val, by have := lt_N t; have := l.isLt; omega⟩

theorem blk_x (c : Dev nD) (t : Fin cfg0.N) (r : Fin 1024) (k : Fin 1024) :
    iblk m c 0 t (ix2 r k) = m ((c : Thread nD τ).loc main_arg0) (ix2 (at_ t r) k) := by
  have ha : (win0_0.blk t).view.emb (ix2 r k) = (ix2 (at_ t r) k : S4096x1024.Idx) := by
    funext a; apply Fin.ext
    match a with
    | ⟨0, _⟩ => blk_simp [e0]; rfl
    | ⟨1, _⟩ => blk_simp [e0]
  show V m c main_v0 ((win0_0.blk t).view.emb (ix2 r k)) = _
  rw [ha, V_x]

theorem blk_w (c : Dev nD) (t : Fin cfg0.N) (k : Fin 1024) (l : Fin 768) :
    iblk m c 1 t (ix3 (0 : Fin 1) k l) = m ((c : Thread nD τ).loc main_arg1) (ix2 k (col t l)) := by
  have hN := lt_N t
  have ha : (win0_1.blk t).view.emb (ix3 (0 : Fin 1) k l) = (ix3 (⟨t.val / 4, by omega⟩ : Fin 4) k l : S4x1024x768.Idx) := by
    funext a; apply Fin.ext
    match a with
    | ⟨0, _⟩ => blk_simp [e1]
    | ⟨1, _⟩ => blk_simp [e1]
    | ⟨2, _⟩ => blk_simp [e1]
  show V m c main_v3 ((win0_1.blk t).view.emb (ix3 (0 : Fin 1) k l)) = _
  rw [ha]
  have hb : t.val / 4 * 768 + l.val < 3072 := by have := l.isLt; omega
  exact V_w m c (ix3 (⟨t.val / 4, by omega⟩ : Fin 4) k l) hb

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, out_eq]
  obtain ⟨r, l, rfl⟩ : ∃ (r : Fin 1024) (l : Fin 768), y = ix2 r l := ⟨y 0, y 1, eq_ix2 y⟩
  have hi : (win0_2.blk t).view.emb (ix2 r l) = (ix2 (at_ t r) (col t l) : S4096x3072.Idx) := by
    funext a; apply Fin.ext
    match a with
    | ⟨0, _⟩ => blk_simp [e2]; rfl
    | ⟨1, _⟩ => blk_simp [e2]; rfl
  generalize (win0_2.blk t).view.emb (ix2 r l) = i at hi ⊢
  subst hi
  exact (pay1_apply _ _ r l).trans (Finset.sum_congr rfl fun k _ =>
    congrArg₂ (fun a b : EReal => a * b) (blk_x m c t r k) (blk_w m c t k l))

section
open Cert.Reference10Ideal Cert.Reference10Ideal.Read

/-- The reference's result array. -/
theorem value (x : Vec Ideal Cert.Reference10Ideal.S4096x1024 .f32) (w : Vec Ideal Cert.Reference10Ideal.S1024x3072 .f32) :
    val_main_v1 (F := Ideal) x w = G x w := by
  funext i
  rw [val_main_v1_apply]
  refine (val_main_v0_apply x w i).trans (Finset.sum_congr rfl fun k _ => ?_)
  exact congrArg₂ (fun a b : EReal => a * b) (congrArg x (funext fun a => by fin_cases a <;> rfl))
    (congrArg w (funext fun a => by fin_cases a <;> rfl))
end

/-- The call and the reference compute the same array. -/
theorem claim : Cert.algebraic_Kernel10Ideal_Reference10Ideal := by
  intro m g m' g' _ hm
  refine ⟨fun c => G (m (c.tc.loc main_arg0)) (m (c.tc.loc main_arg1)), ?_, ?_⟩
  · exact (θ_run _ _ _).mono (fun r h c => ⟨(h c).1.trans (final m c), (h c).2⟩) (Cert.Kernel10Ideal.Value.run_blocks m g)
  · refine (θ_run _ _ _).mono (fun r h c => ⟨(h c).1.trans ?_, (h c).2⟩) (Cert.Reference10Ideal.Value.run m' g')
    obtain ⟨h0, h1⟩ := hm c
    refine (Cert.Reference10Ideal.Read.val_main_v1_eq _ _).trans ?_
    rw [h0, h1]
    exact value _ _

end Cert.Proof.Qkv

end
-- ==== Proof.Update.lean ====
/- The optimiser's update of one weight, entry by entry, and the reference's spelling of it over a whole array of any shape. -/
module

public import Idealize.ShloMosaic.Lib.IdealHost
public import Idealize.ShloMosaic.Lib.ValueLayout

@[expose] public section

noncomputable section

namespace Cert.Proof.Update

open Idealize.ShloMosaic

/-- An entry's new first moment, its new second moment and its change, from the weight, its gradient and the old moments. -/
def mean (g m : EReal) : EReal := Ideal.ofBits .f32 0x3F666666#32 * m + Ideal.ofBits .f32 0x3DCCCCCD#32 * g
def var (g v : EReal) : EReal := Ideal.ofBits .f32 0x3F7FBE77#32 * v + Ideal.ofBits .f32 0x3A83126F#32 * (g * g)
def step (w g m v : EReal) : EReal :=
  Ideal.ofBits .f32 0xBA83126F#32
    * (Ideal.div (Ideal.div (mean g m) (Ideal.ofBits .f32 0x3F26BD02#32))
        (Ideal.sqrt (Ideal.div (var g v) (Ideal.ofBits .f32 0x3C231ACC#32)) + Ideal.ofBits .f32 0x322BCC77#32)
      + Ideal.ofBits .f32 0x3C23D70A#32 * w)

/-- The same of whole arrays. -/
def means {s : Shape} (g m : Vec Ideal s .f32) : Vec Ideal s .f32 := fun i => mean (g i) (m i)
def vars {s : Shape} (g v : Vec Ideal s .f32) : Vec Ideal s .f32 := fun i => var (g i) (v i)
def steps {s : Shape} (w g m v : Vec Ideal s .f32) : Vec Ideal s .f32 := fun i => step (w i) (g i) (m i) (v i)

section
variable {s s' : Shape} (w g m v : Vec Ideal s .f32)

theorem means_cast (h : s.ShapeCasts s') :
    shapeCast s' (means g m) h = means (shapeCast s' g h) (shapeCast s' m h) := rfl

theorem vars_cast (h : s.ShapeCasts s') :
    shapeCast s' (vars g v) h = vars (shapeCast s' g h) (shapeCast s' v h) := rfl

theorem steps_cast (h : s.ShapeCasts s') :
    shapeCast s' (steps w g m v) h = steps (shapeCast s' w h) (shapeCast s' g h) (shapeCast s' m h) (shapeCast s' v h) := rfl

/-- A number spread over an array. -/
abbrev all (b : BitVec 32) (h : (⟨0, ![]⟩ : Shape).BroadcastsInDim s (![] : Fin 0 → Fin s.rank)) : FVec Ideal s .f32 :=
  broadcastInDim s ![] h (constant (F := Ideal) ⟨0, ![]⟩ .f32 b)

variable (h : (⟨0, ![]⟩ : Shape).BroadcastsInDim s (![] : Fin 0 → Fin s.rank))

theorem means_ref : addf (mulf (all 0x3F666666#32 h) m) (mulf (all 0x3DCCCCCD#32 h) g) = means g m := rfl

theorem vars_ref : addf (mulf (all 0x3F7FBE77#32 h) v) (mulf (all 0x3A83126F#32 h) (mulf g g)) = vars g v := rfl

theorem steps_ref : mulf (all 0xBA83126F#32 h) (addf (Host.divf
    (Host.divf (addf (mulf (all 0x3F666666#32 h) m) (mulf (all 0x3DCCCCCD#32 h) g)) (all 0x3F26BD02#32 h))
    (addf (Host.sqrt (Host.divf (addf (mulf (all 0x3F7FBE77#32 h) v) (mulf (all 0x3A83126F#32 h) (mulf g g))) (all 0x3C231ACC#32 h)))
      (all 0x322BCC77#32 h))) (mulf (all 0x3C23D70A#32 h) w)) = steps w g m v := rfl
end

theorem zero2 : (![0, 0] : Fin 2 → Nat) = fun _ => 0 := funext fun a => by fin_cases a <;> rfl

end Cert.Proof.Update

end
-- ==== Proof.Update11.lean ====
/- The optimiser's update of a feed-forward input weight: what the call leaves in its three result arrays, and the reference's. -/
module

public import proofs.«01_k».proof.Defs
public import proofs.«01_k».proof.Proof.Gen.Kernel11Ideal.Value
public import proofs.«01_k».proof.Proof.Gen.Reference11Ideal.Run
public import proofs.«01_k».proof.Proof.Update
public import Idealize.ShloMosaic.Lib.Pipeline.ValueKit.Geometry

@[expose] public section

set_option maxRecDepth 16384

noncomputable section

namespace Cert.Proof.Update11

open Cert.Kernel11Ideal Cert.Kernel11Ideal.Gen Cert.Proof.Update
open Idealize.ShloMosaic Idealize.ShloMosaic.TcCoe Idealize.SL.Sem

/-- An argument with its two leading dimensions joined. -/
abbrev flat (a : Vec Ideal S2x1024x1408 .f32) : Vec Ideal S2048x1408 .f32 := shapeCast _ a shapeCasts_S2x1024x1408_S2048x1408

variable (w g u v : Vec Ideal S128x1408 .f32)

theorem out_mean : out0_5 (F := Ideal) w g u v = means g u := by
  unfold out0_5 k0_pay2 k0_pay1
  rw [View.canon_unit_zero zero2, View.ld_unit_zero zero2 _ g, View.ld_unit_zero zero2 _ u]
  simp only [shapeCast_self]
  rfl

theorem out_var : out0_6 (F := Ideal) w g u v = vars g v := by
  unfold out0_6 k0_pay3 k0_pay1
  rw [View.canon_unit_zero zero2, View.ld_unit_zero zero2 _ g, View.ld_unit_zero zero2 _ v]
  simp only [shapeCast_self]
  rfl

theorem out_step : out0_4 (F := Ideal) w g u v = steps w g u v := by
  unfold out0_4 k0_pay4 k0_pay3 k0_pay2 k0_pay1
  rw [View.canon_unit_zero zero2, View.ld_unit_zero zero2 _ w, View.ld_unit_zero zero2 _ g, View.ld_unit_zero zero2 _ u,
    View.ld_unit_zero zero2 _ v]
  simp only [shapeCast_self]
  rfl

variable (m : (ℓ : Loc nD τ sig) → Buf (Elt Ideal) ℓ)

/-- What the region finds. -/
theorem V_w (c : Dev nD) : V m c main_v0 = flat (m (c.tc.loc main_arg0)) := by dsimp only [V, hostOps0]; after_results; rfl
theorem V_g (c : Dev nD) : V m c main_v1 = flat (m (c.tc.loc main_arg1)) := by dsimp only [V, hostOps0]; after_results; rfl
theorem V_u (c : Dev nD) : V m c main_v2 = flat (m (c.tc.loc main_arg2)) := by dsimp only [V, hostOps0]; after_results; rfl
theorem V_v (c : Dev nD) : V m c main_v3 = flat (m (c.tc.loc main_arg3)) := by dsimp only [V, hostOps0]; after_results; rfl

theorem final_step (c : Dev nD) : (dats m 0 c).arrAt 4 cfg0.N = steps (flat (m (c.tc.loc main_arg0))) (flat (m (c.tc.loc main_arg1)))
    (flat (m (c.tc.loc main_arg2))) (flat (m (c.tc.loc main_arg3))) := by
  rw [← V_w, ← V_g, ← V_u, ← V_v]
  refine (dats m 0 c).arrAt_eq_of_covers 4 _ (by decide +kernel) fun t hf y => ?_
  blk_simp
  rw [after0_4, out_step]
  show step (V m c main_v0 ((win0_4.blk t).view.emb y)) (V m c main_v1 ((win0_4.blk t).view.emb y))
    (V m c main_v2 ((win0_4.blk t).view.emb y)) (V m c main_v3 ((win0_4.blk t).view.emb y)) = _
  rfl

theorem final_mean (c : Dev nD) : (dats m 0 c).arrAt 5 cfg0.N = means (flat (m (c.tc.loc main_arg1))) (flat (m (c.tc.loc main_arg2))) := by
  rw [← V_g, ← V_u]
  refine (dats m 0 c).arrAt_eq_of_covers 5 _ (by decide +kernel) fun t hf y => ?_
  blk_simp
  rw [after0_5, out_mean]
  show mean (V m c main_v1 ((win0_5.blk t).view.emb y)) (V m c main_v2 ((win0_5.blk t).view.emb y)) = _
  rfl

theorem final_var (c : Dev nD) : (dats m 0 c).arrAt 6 cfg0.N = vars (flat (m (c.tc.loc main_arg1))) (flat (m (c.tc.loc main_arg3))) := by
  rw [← V_g, ← V_v]
  refine (dats m 0 c).arrAt_eq_of_covers 6 _ (by decide +kernel) fun t hf y => ?_
  blk_simp
  rw [after0_6, out_var]
  show var (V m c main_v1 ((win0_6.blk t).view.emb y)) (V m c main_v3 ((win0_6.blk t).view.emb y)) = _
  rfl

/-- The call and the reference compute the same arrays. -/
theorem claim : Cert.algebraic_Kernel11Ideal_Reference11Ideal := by
  intro m g m' g' _ hm
  refine ⟨fun c => steps (flat (m (c.tc.loc main_arg0))) (flat (m (c.tc.loc main_arg1))) (flat (m (c.tc.loc main_arg2)))
      (flat (m (c.tc.loc main_arg3))), fun c => means (flat (m (c.tc.loc main_arg1))) (flat (m (c.tc.loc main_arg2))),
    fun c => vars (flat (m (c.tc.loc main_arg1))) (flat (m (c.tc.loc main_arg3))), ?_, ?_⟩
  · exact (θ_run _ _ _).mono (fun r h c => ⟨(h c).1.trans (final_step m c), (h c).2.1.trans (final_mean m c),
      (h c).2.2.1.trans (final_var m c), (h c).2.2.2⟩) (Cert.Kernel11Ideal.Value.run_blocks m g)
  · refine (θ_run _ _ _).mono (fun r h c => ?_) (Cert.Reference11Ideal.Value.run m' g')
    obtain ⟨h0, h1, h2, h3⟩ := hm c
    beta_reduce
    rw [← h0, ← h1, ← h2, ← h3]
    exact ⟨(h c).1.trans (congrArg flat (steps_ref _ _ _ _ _)), (h c).2.1.trans (congrArg flat (means_ref _ _ _)),
      (h c).2.2.1.trans (congrArg flat (vars_ref _ _ _)), (h c).2.2.2⟩

end Cert.Proof.Update11

end
-- ==== Proof.Update12.lean ====
/- The optimiser's update of a feed-forward output weight: what the call leaves in its three result arrays, and the reference's. -/
module

public import proofs.«01_k».proof.Defs
public import proofs.«01_k».proof.Proof.Gen.Kernel12Ideal.Value
public import proofs.«01_k».proof.Proof.Gen.Reference12Ideal.Run
public import proofs.«01_k».proof.Proof.Update
public import Idealize.ShloMosaic.Lib.Pipeline.ValueKit.Geometry

@[expose] public section

set_option maxRecDepth 16384

noncomputable section

namespace Cert.Proof.Update12

open Cert.Kernel12Ideal Cert.Kernel12Ideal.Gen Cert.Proof.Update
open Idealize.ShloMosaic Idealize.ShloMosaic.TcCoe Idealize.SL.Sem

/-- An argument with its two leading dimensions joined. -/
abbrev flat (a : Vec Ideal S2x704x1024 .f32) : Vec Ideal S1408x1024 .f32 := shapeCast _ a shapeCasts_S2x704x1024_S1408x1024

variable (w g u v : Vec Ideal S176x1024 .f32)

theorem out_mean : out0_5 (F := Ideal) w g u v = means g u := by
  unfold out0_5 k0_pay2 k0_pay1
  rw [View.canon_unit_zero zero2, View.ld_unit_zero zero2 _ g, View.ld_unit_zero zero2 _ u]
  simp only [shapeCast_self]
  rfl

theorem out_var : out0_6 (F := Ideal) w g u v = vars g v := by
  unfold out0_6 k0_pay3 k0_pay1
  rw [View.canon_unit_zero zero2, View.ld_unit_zero zero2 _ g, View.ld_unit_zero zero2 _ v]
  simp only [shapeCast_self]
  rfl

theorem out_step : out0_4 (F := Ideal) w g u v = steps w g u v := by
  unfold out0_4 k0_pay4 k0_pay3 k0_pay2 k0_pay1
  rw [View.canon_unit_zero zero2, View.ld_unit_zero zero2 _ w, View.ld_unit_zero zero2 _ g, View.ld_unit_zero zero2 _ u,
    View.ld_unit_zero zero2 _ v]
  simp only [shapeCast_self]
  rfl

variable (m : (ℓ : Loc nD τ sig) → Buf (Elt Ideal) ℓ)

/-- What the region finds. -/
theorem V_w (c : Dev nD) : V m c main_v0 = flat (m (c.tc.loc main_arg0)) := by dsimp only [V, hostOps0]; after_results; rfl
theorem V_g (c : Dev nD) : V m c main_v1 = flat (m (c.tc.loc main_arg1)) := by dsimp only [V, hostOps0]; after_results; rfl
theorem V_u (c : Dev nD) : V m c main_v2 = flat (m (c.tc.loc main_arg2)) := by dsimp only [V, hostOps0]; after_results; rfl
theorem V_v (c : Dev nD) : V m c main_v3 = flat (m (c.tc.loc main_arg3)) := by dsimp only [V, hostOps0]; after_results; rfl

theorem final_step (c : Dev nD) : (dats m 0 c).arrAt 4 cfg0.N = steps (flat (m (c.tc.loc main_arg0))) (flat (m (c.tc.loc main_arg1)))
    (flat (m (c.tc.loc main_arg2))) (flat (m (c.tc.loc main_arg3))) := by
  rw [← V_w, ← V_g, ← V_u, ← V_v]
  refine (dats m 0 c).arrAt_eq_of_covers 4 _ (by decide +kernel) fun t hf y => ?_
  blk_simp
  rw [after0_4, out_step]
  show step (V m c main_v0 ((win0_4.blk t).view.emb y)) (V m c main_v1 ((win0_4.blk t).view.emb y))
    (V m c main_v2 ((win0_4.blk t).view.emb y)) (V m c main_v3 ((win0_4.blk t).view.emb y)) = _
  rfl

theorem final_mean (c : Dev nD) : (dats m 0 c).arrAt 5 cfg0.N = means (flat (m (c.tc.loc main_arg1))) (flat (m (c.tc.loc main_arg2))) := by
  rw [← V_g, ← V_u]
  refine (dats m 0 c).arrAt_eq_of_covers 5 _ (by decide +kernel) fun t hf y => ?_
  blk_simp
  rw [after0_5, out_mean]
  show mean (V m c main_v1 ((win0_5.blk t).view.emb y)) (V m c main_v2 ((win0_5.blk t).view.emb y)) = _
  rfl

theorem final_var (c : Dev nD) : (dats m 0 c).arrAt 6 cfg0.N = vars (flat (m (c.tc.loc main_arg1))) (flat (m (c.tc.loc main_arg3))) := by
  rw [← V_g, ← V_v]
  refine (dats m 0 c).arrAt_eq_of_covers 6 _ (by decide +kernel) fun t hf y => ?_
  blk_simp
  rw [after0_6, out_var]
  show var (V m c main_v1 ((win0_6.blk t).view.emb y)) (V m c main_v3 ((win0_6.blk t).view.emb y)) = _
  rfl

/-- The call and the reference compute the same arrays. -/
theorem claim : Cert.algebraic_Kernel12Ideal_Reference12Ideal := by
  intro m g m' g' _ hm
  refine ⟨fun c => steps (flat (m (c.tc.loc main_arg0))) (flat (m (c.tc.loc main_arg1))) (flat (m (c.tc.loc main_arg2)))
      (flat (m (c.tc.loc main_arg3))), fun c => means (flat (m (c.tc.loc main_arg1))) (flat (m (c.tc.loc main_arg2))),
    fun c => vars (flat (m (c.tc.loc main_arg1))) (flat (m (c.tc.loc main_arg3))), ?_, ?_⟩
  · exact (θ_run _ _ _).mono (fun r h c => ⟨(h c).1.trans (final_step m c), (h c).2.1.trans (final_mean m c),
      (h c).2.2.1.trans (final_var m c), (h c).2.2.2⟩) (Cert.Kernel12Ideal.Value.run_blocks m g)
  · refine (θ_run _ _ _).mono (fun r h c => ?_) (Cert.Reference12Ideal.Value.run m' g')
    obtain ⟨h0, h1, h2, h3⟩ := hm c
    beta_reduce
    rw [← h0, ← h1, ← h2, ← h3]
    exact ⟨(h c).1.trans (congrArg flat (steps_ref _ _ _ _ _)), (h c).2.1.trans (congrArg flat (means_ref _ _ _)),
      (h c).2.2.1.trans (congrArg flat (vars_ref _ _ _)), (h c).2.2.2⟩

end Cert.Proof.Update12

end
-- ==== Proof.Update13.lean ====
/- The optimiser's update of the local attention's projection to queries, keys and values: what the call leaves in its three result arrays, and the reference's. -/
module

public import proofs.«01_k».proof.Defs
public import proofs.«01_k».proof.Proof.Gen.Kernel13Ideal.Value
public import proofs.«01_k».proof.Proof.Gen.Reference13Ideal.Run
public import proofs.«01_k».proof.Proof.Update
public import Idealize.ShloMosaic.Lib.Pipeline.ValueKit.Geometry

@[expose] public section

set_option maxRecDepth 16384

noncomputable section

namespace Cert.Proof.Update13

open Cert.Kernel13Ideal Cert.Kernel13Ideal.Gen Cert.Proof.Update
open Idealize.ShloMosaic Idealize.ShloMosaic.TcCoe Idealize.SL.Sem

/-- An argument with its two leading dimensions joined. -/
abbrev flat (a : Vec Ideal S1x1024x768 .f32) : Vec Ideal S1024x768 .f32 := shapeCast _ a shapeCasts_S1x1024x768_S1024x768

variable (w g u v : Vec Ideal S256x768 .f32)

theorem out_mean : out0_5 (F := Ideal) w g u v = means g u := by
  unfold out0_5 k0_pay2 k0_pay1
  rw [View.canon_unit_zero zero2, View.ld_unit_zero zero2 _ g, View.ld_unit_zero zero2 _ u]
  simp only [shapeCast_self]
  rfl

theorem out_var : out0_6 (F := Ideal) w g u v = vars g v := by
  unfold out0_6 k0_pay3 k0_pay1
  rw [View.canon_unit_zero zero2, View.ld_unit_zero zero2 _ g, View.ld_unit_zero zero2 _ v]
  simp only [shapeCast_self]
  rfl

theorem out_step : out0_4 (F := Ideal) w g u v = steps w g u v := by
  unfold out0_4 k0_pay4 k0_pay3 k0_pay2 k0_pay1
  rw [View.canon_unit_zero zero2, View.ld_unit_zero zero2 _ w, View.ld_unit_zero zero2 _ g, View.ld_unit_zero zero2 _ u,
    View.ld_unit_zero zero2 _ v]
  simp only [shapeCast_self]
  rfl

variable (m : (ℓ : Loc nD τ sig) → Buf (Elt Ideal) ℓ)

/-- What the region finds. -/
theorem V_w (c : Dev nD) : V m c main_v0 = flat (m (c.tc.loc main_arg0)) := by dsimp only [V, hostOps0]; after_results; rfl
theorem V_g (c : Dev nD) : V m c main_v1 = flat (m (c.tc.loc main_arg1)) := by dsimp only [V, hostOps0]; after_results; rfl
theorem V_u (c : Dev nD) : V m c main_v2 = flat (m (c.tc.loc main_arg2)) := by dsimp only [V, hostOps0]; after_results; rfl
theorem V_v (c : Dev nD) : V m c main_v3 = flat (m (c.tc.loc main_arg3)) := by dsimp only [V, hostOps0]; after_results; rfl

theorem final_step (c : Dev nD) : (dats m 0 c).arrAt 4 cfg0.N = steps (flat (m (c.tc.loc main_arg0))) (flat (m (c.tc.loc main_arg1)))
    (flat (m (c.tc.loc main_arg2))) (flat (m (c.tc.loc main_arg3))) := by
  rw [← V_w, ← V_g, ← V_u, ← V_v]
  refine (dats m 0 c).arrAt_eq_of_covers 4 _ (by decide +kernel) fun t hf y => ?_
  blk_simp
  rw [after0_4, out_step]
  show step (V m c main_v0 ((win0_4.blk t).view.emb y)) (V m c main_v1 ((win0_4.blk t).view.emb y))
    (V m c main_v2 ((win0_4.blk t).view.emb y)) (V m c main_v3 ((win0_4.blk t).view.emb y)) = _
  rfl

theorem final_mean (c : Dev nD) : (dats m 0 c).arrAt 5 cfg0.N = means (flat (m (c.tc.loc main_arg1))) (flat (m (c.tc.loc main_arg2))) := by
  rw [← V_g, ← V_u]
  refine (dats m 0 c).arrAt_eq_of_covers 5 _ (by decide +kernel) fun t hf y => ?_
  blk_simp
  rw [after0_5, out_mean]
  show mean (V m c main_v1 ((win0_5.blk t).view.emb y)) (V m c main_v2 ((win0_5.blk t).view.emb y)) = _
  rfl

theorem final_var (c : Dev nD) : (dats m 0 c).arrAt 6 cfg0.N = vars (flat (m (c.tc.loc main_arg1))) (flat (m (c.tc.loc main_arg3))) := by
  rw [← V_g, ← V_v]
  refine (dats m 0 c).arrAt_eq_of_covers 6 _ (by decide +kernel) fun t hf y => ?_
  blk_simp
  rw [after0_6, out_var]
  show var (V m c main_v1 ((win0_6.blk t).view.emb y)) (V m c main_v3 ((win0_6.blk t).view.emb y)) = _
  rfl

/-- The call and the reference compute the same arrays. -/
theorem claim : Cert.algebraic_Kernel13Ideal_Reference13Ideal := by
  intro m g m' g' _ hm
  refine ⟨fun c => steps (flat (m (c.tc.loc main_arg0))) (flat (m (c.tc.loc main_arg1))) (flat (m (c.tc.loc main_arg2)))
      (flat (m (c.tc.loc main_arg3))), fun c => means (flat (m (c.tc.loc main_arg1))) (flat (m (c.tc.loc main_arg2))),
    fun c => vars (flat (m (c.tc.loc main_arg1))) (flat (m (c.tc.loc main_arg3))), ?_, ?_⟩
  · exact (θ_run _ _ _).mono (fun r h c => ⟨(h c).1.trans (final_step m c), (h c).2.1.trans (final_mean m c),
      (h c).2.2.1.trans (final_var m c), (h c).2.2.2⟩) (Cert.Kernel13Ideal.Value.run_blocks m g)
  · refine (θ_run _ _ _).mono (fun r h c => ?_) (Cert.Reference13Ideal.Value.run m' g')
    obtain ⟨h0, h1, h2, h3⟩ := hm c
    beta_reduce
    rw [← h0, ← h1, ← h2, ← h3]
    exact ⟨(h c).1.trans (congrArg flat (steps_ref _ _ _ _ _)), (h c).2.1.trans (congrArg flat (means_ref _ _ _)),
      (h c).2.2.1.trans (congrArg flat (vars_ref _ _ _)), (h c).2.2.2⟩

end Cert.Proof.Update13

end
-- ==== Proof.Update14.lean ====
/- The optimiser's update of an attention's output projection: what the call leaves in its three result arrays, and the reference's. -/
module

public import proofs.«01_k».proof.Defs
public import proofs.«01_k».proof.Proof.Gen.Kernel14Ideal.Value
public import proofs.«01_k».proof.Proof.Gen.Reference14Ideal.Run
public import proofs.«01_k».proof.Proof.Update
public import Idealize.ShloMosaic.Lib.Pipeline.ValueKit.Geometry

@[expose] public section

set_option maxRecDepth 16384

noncomputable section

namespace Cert.Proof.Update14

open Cert.Kernel14Ideal Cert.Kernel14Ideal.Gen Cert.Proof.Update
open Idealize.ShloMosaic Idealize.ShloMosaic.TcCoe Idealize.SL.Sem

/-- An argument with its two leading dimensions joined. -/
abbrev flat (a : Vec Ideal S1x256x1024 .f32) : Vec Ideal S256x1024 .f32 := shapeCast _ a shapeCasts_S1x256x1024_S256x1024

variable (w g u v : Vec Ideal S256x1024 .f32)

theorem out_mean : out0_5 (F := Ideal) w g u v = means g u := by
  unfold out0_5 k0_pay2 k0_pay1
  rw [View.canon_unit_zero zero2, View.ld_unit_zero zero2 _ g, View.ld_unit_zero zero2 _ u]
  simp only [shapeCast_self]
  rfl

theorem out_var : out0_6 (F := Ideal) w g u v = vars g v := by
  unfold out0_6 k0_pay3 k0_pay1
  rw [View.canon_unit_zero zero2, View.ld_unit_zero zero2 _ g, View.ld_unit_zero zero2 _ v]
  simp only [shapeCast_self]
  rfl

theorem out_step : out0_4 (F := Ideal) w g u v = steps w g u v := by
  unfold out0_4 k0_pay4 k0_pay3 k0_pay2 k0_pay1
  rw [View.canon_unit_zero zero2, View.ld_unit_zero zero2 _ w, View.ld_unit_zero zero2 _ g, View.ld_unit_zero zero2 _ u,
    View.ld_unit_zero zero2 _ v]
  simp only [shapeCast_self]
  rfl

variable (m : (ℓ : Loc nD τ sig) → Buf (Elt Ideal) ℓ)

/-- What the region finds. -/
theorem V_w (c : Dev nD) : V m c main_v0 = flat (m (c.tc.loc main_arg0)) := by dsimp only [V, hostOps0]; after_results; rfl
theorem V_g (c : Dev nD) : V m c main_v1 = flat (m (c.tc.loc main_arg1)) := by dsimp only [V, hostOps0]; after_results; rfl
theorem V_u (c : Dev nD) : V m c main_v2 = flat (m (c.tc.loc main_arg2)) := by dsimp only [V, hostOps0]; after_results; rfl
theorem V_v (c : Dev nD) : V m c main_v3 = flat (m (c.tc.loc main_arg3)) := by dsimp only [V, hostOps0]; after_results; rfl

theorem final_step (c : Dev nD) : (dats m 0 c).arrAt 4 cfg0.N = steps (flat (m (c.tc.loc main_arg0))) (flat (m (c.tc.loc main_arg1)))
    (flat (m (c.tc.loc main_arg2))) (flat (m (c.tc.loc main_arg3))) := by
  rw [← V_w, ← V_g, ← V_u, ← V_v]
  refine (dats m 0 c).arrAt_eq_of_covers 4 _ (by decide +kernel) fun t hf y => ?_
  blk_simp
  rw [after0_4, out_step]
  show step (V m c main_v0 ((win0_4.blk t).view.emb y)) (V m c main_v1 ((win0_4.blk t).view.emb y))
    (V m c main_v2 ((win0_4.blk t).view.emb y)) (V m c main_v3 ((win0_4.blk t).view.emb y)) = _
  rfl

theorem final_mean (c : Dev nD) : (dats m 0 c).arrAt 5 cfg0.N = means (flat (m (c.tc.loc main_arg1))) (flat (m (c.tc.loc main_arg2))) := by
  rw [← V_g, ← V_u]
  refine (dats m 0 c).arrAt_eq_of_covers 5 _ (by decide +kernel) fun t hf y => ?_
  blk_simp
  rw [after0_5, out_mean]
  show mean (V m c main_v1 ((win0_5.blk t).view.emb y)) (V m c main_v2 ((win0_5.blk t).view.emb y)) = _
  rfl

theorem final_var (c : Dev nD) : (dats m 0 c).arrAt 6 cfg0.N = vars (flat (m (c.tc.loc main_arg1))) (flat (m (c.tc.loc main_arg3))) := by
  rw [← V_g, ← V_v]
  refine (dats m 0 c).arrAt_eq_of_covers 6 _ (by decide +kernel) fun t hf y => ?_
  blk_simp
  rw [after0_6, out_var]
  show var (V m c main_v1 ((win0_6.blk t).view.emb y)) (V m c main_v3 ((win0_6.blk t).view.emb y)) = _
  rfl

/-- The call and the reference compute the same arrays. -/
theorem claim : Cert.algebraic_Kernel14Ideal_Reference14Ideal := by
  intro m g m' g' _ hm
  refine ⟨fun c => steps (flat (m (c.tc.loc main_arg0))) (flat (m (c.tc.loc main_arg1))) (flat (m (c.tc.loc main_arg2)))
      (flat (m (c.tc.loc main_arg3))), fun c => means (flat (m (c.tc.loc main_arg1))) (flat (m (c.tc.loc main_arg2))),
    fun c => vars (flat (m (c.tc.loc main_arg1))) (flat (m (c.tc.loc main_arg3))), ?_, ?_⟩
  · exact (θ_run _ _ _).mono (fun r h c => ⟨(h c).1.trans (final_step m c), (h c).2.1.trans (final_mean m c),
      (h c).2.2.1.trans (final_var m c), (h c).2.2.2⟩) (Cert.Kernel14Ideal.Value.run_blocks m g)
  · refine (θ_run _ _ _).mono (fun r h c => ?_) (Cert.Reference14Ideal.Value.run m' g')
    obtain ⟨h0, h1, h2, h3⟩ := hm c
    beta_reduce
    rw [← h0, ← h1, ← h2, ← h3]
    exact ⟨(h c).1.trans (congrArg flat (steps_ref _ _ _ _ _)), (h c).2.1.trans (congrArg flat (means_ref _ _ _)),
      (h c).2.2.1.trans (congrArg flat (vars_ref _ _ _)), (h c).2.2.2⟩

end Cert.Proof.Update14

end
-- ==== Proof.Update15.lean ====
/- The optimiser's update of the projection down to the keys' latent: what the call leaves in its three result arrays, and the reference's. -/
module

public import proofs.«01_k».proof.Defs
public import proofs.«01_k».proof.Proof.Gen.Kernel15Ideal.Value
public import proofs.«01_k».proof.Proof.Gen.Reference15Ideal.Run
public import proofs.«01_k».proof.Proof.Update
public import Idealize.ShloMosaic.Lib.Pipeline.ValueKit.Geometry

@[expose] public section

set_option maxRecDepth 16384

noncomputable section

namespace Cert.Proof.Update15

open Cert.Kernel15Ideal Cert.Kernel15Ideal.Gen Cert.Proof.Update
open Idealize.ShloMosaic Idealize.ShloMosaic.TcCoe Idealize.SL.Sem

variable (w g u v : Vec Ideal S256x320 .f32)

theorem out_mean : out0_5 (F := Ideal) w g u v = means g u := by
  unfold out0_5 k0_pay1
  rw [View.canon_unit_zero zero2, View.ld_unit_zero zero2 _ g, View.ld_unit_zero zero2 _ u]
  rfl

theorem out_var : out0_6 (F := Ideal) w g u v = vars g v := by
  unfold out0_6 k0_pay2
  rw [View.canon_unit_zero zero2, View.ld_unit_zero zero2 _ g, View.ld_unit_zero zero2 _ v]
  rfl

theorem out_step : out0_4 (F := Ideal) w g u v = steps w g u v := by
  unfold out0_4 k0_pay3 k0_pay2 k0_pay1
  rw [View.canon_unit_zero zero2, View.ld_unit_zero zero2 _ w, View.ld_unit_zero zero2 _ g, View.ld_unit_zero zero2 _ u,
    View.ld_unit_zero zero2 _ v]
  rfl

variable (m : (ℓ : Loc nD τ sig) → Buf (Elt Ideal) ℓ)

theorem final_step (c : Dev nD) : (dats m 0 c).arrAt 4 cfg0.N = steps (m (c.tc.loc main_arg0)) (m (c.tc.loc main_arg1))
    (m (c.tc.loc main_arg2)) (m (c.tc.loc main_arg3)) := by
  refine (dats m 0 c).arrAt_eq_of_covers 4 _ (by decide +kernel) fun t hf y => ?_
  blk_simp
  rw [after0_4, out_step]
  show step (V m c main_arg0 ((win0_4.blk t).view.emb y)) (V m c main_arg1 ((win0_4.blk t).view.emb y))
    (V m c main_arg2 ((win0_4.blk t).view.emb y)) (V m c main_arg3 ((win0_4.blk t).view.emb y)) = _
  rfl

theorem final_mean (c : Dev nD) : (dats m 0 c).arrAt 5 cfg0.N = means (m (c.tc.loc main_arg1)) (m (c.tc.loc main_arg2)) := by
  refine (dats m 0 c).arrAt_eq_of_covers 5 _ (by decide +kernel) fun t hf y => ?_
  blk_simp
  rw [after0_5, out_mean]
  show mean (V m c main_arg1 ((win0_5.blk t).view.emb y)) (V m c main_arg2 ((win0_5.blk t).view.emb y)) = _
  rfl

theorem final_var (c : Dev nD) : (dats m 0 c).arrAt 6 cfg0.N = vars (m (c.tc.loc main_arg1)) (m (c.tc.loc main_arg3)) := by
  refine (dats m 0 c).arrAt_eq_of_covers 6 _ (by decide +kernel) fun t hf y => ?_
  blk_simp
  rw [after0_6, out_var]
  show var (V m c main_arg1 ((win0_6.blk t).view.emb y)) (V m c main_arg3 ((win0_6.blk t).view.emb y)) = _
  rfl

/-- The call and the reference compute the same arrays. -/
theorem claim : Cert.algebraic_Kernel15Ideal_Reference15Ideal := by
  intro m g m' g' _ hm
  refine ⟨fun c => steps (m (c.tc.loc main_arg0)) (m (c.tc.loc main_arg1)) (m (c.tc.loc main_arg2))
      (m (c.tc.loc main_arg3)), fun c => means (m (c.tc.loc main_arg1)) (m (c.tc.loc main_arg2)),
    fun c => vars (m (c.tc.loc main_arg1)) (m (c.tc.loc main_arg3)), ?_, ?_⟩
  · exact (θ_run _ _ _).mono (fun r h c => ⟨(h c).1.trans (final_step m c), (h c).2.1.trans (final_mean m c),
      (h c).2.2.1.trans (final_var m c), (h c).2.2.2⟩) (Cert.Kernel15Ideal.Value.run_blocks m g)
  · refine (θ_run _ _ _).mono (fun r h c => ?_) (Cert.Reference15Ideal.Value.run m' g')
    obtain ⟨h0, h1, h2, h3⟩ := hm c
    beta_reduce
    rw [← h0, ← h1, ← h2, ← h3]
    exact ⟨(h c).1.trans (steps_ref _ _ _ _ _), (h c).2.1.trans (means_ref _ _ _),
      (h c).2.2.1.trans (vars_ref _ _ _), (h c).2.2.2⟩

end Cert.Proof.Update15

end
-- ==== Proof.Update16.lean ====
/- The optimiser's update of the projection up from the keys' latent: what the call leaves in its three result arrays, and the reference's. -/
module

public import proofs.«01_k».proof.Defs
public import proofs.«01_k».proof.Proof.Gen.Kernel16Ideal.Value
public import proofs.«01_k».proof.Proof.Gen.Reference16Ideal.Run
public import proofs.«01_k».proof.Proof.Update
public import Idealize.ShloMosaic.Lib.Pipeline.ValueKit.Geometry

@[expose] public section

set_option maxRecDepth 16384

noncomputable section

namespace Cert.Proof.Update16

open Cert.Kernel16Ideal Cert.Kernel16Ideal.Gen Cert.Proof.Update
open Idealize.ShloMosaic Idealize.ShloMosaic.TcCoe Idealize.SL.Sem

variable (w g u v : Vec Ideal S256x512 .f32)

theorem out_mean : out0_5 (F := Ideal) w g u v = means g u := by
  unfold out0_5 k0_pay1
  rw [View.canon_unit_zero zero2, View.ld_unit_zero zero2 _ g, View.ld_unit_zero zero2 _ u]
  rfl

theorem out_var : out0_6 (F := Ideal) w g u v = vars g v := by
  unfold out0_6 k0_pay2
  rw [View.canon_unit_zero zero2, View.ld_unit_zero zero2 _ g, View.ld_unit_zero zero2 _ v]
  rfl

theorem out_step : out0_4 (F := Ideal) w g u v = steps w g u v := by
  unfold out0_4 k0_pay3 k0_pay2 k0_pay1
  rw [View.canon_unit_zero zero2, View.ld_unit_zero zero2 _ w, View.ld_unit_zero zero2 _ g, View.ld_unit_zero zero2 _ u,
    View.ld_unit_zero zero2 _ v]
  rfl

variable (m : (ℓ : Loc nD τ sig) → Buf (Elt Ideal) ℓ)

theorem final_step (c : Dev nD) : (dats m 0 c).arrAt 4 cfg0.N = steps (m (c.tc.loc main_arg0)) (m (c.tc.loc main_arg1))
    (m (c.tc.loc main_arg2)) (m (c.tc.loc main_arg3)) := by
  refine (dats m 0 c).arrAt_eq_of_covers 4 _ (by decide +kernel) fun t hf y => ?_
  blk_simp
  rw [after0_4, out_step]
  show step (V m c main_arg0 ((win0_4.blk t).view.emb y)) (V m c main_arg1 ((win0_4.blk t).view.emb y))
    (V m c main_arg2 ((win0_4.blk t).view.emb y)) (V m c main_arg3 ((win0_4.blk t).view.emb y)) = _
  rfl

theorem final_mean (c : Dev nD) : (dats m 0 c).arrAt 5 cfg0.N = means (m (c.tc.loc main_arg1)) (m (c.tc.loc main_arg2)) := by
  refine (dats m 0 c).arrAt_eq_of_covers 5 _ (by decide +kernel) fun t hf y => ?_
  blk_simp
  rw [after0_5, out_mean]
  show mean (V m c main_arg1 ((win0_5.blk t).view.emb y)) (V m c main_arg2 ((win0_5.blk t).view.emb y)) = _
  rfl

theorem final_var (c : Dev nD) : (dats m 0 c).arrAt 6 cfg0.N = vars (m (c.tc.loc main_arg1)) (m (c.tc.loc main_arg3)) := by
  refine (dats m 0 c).arrAt_eq_of_covers 6 _ (by decide +kernel) fun t hf y => ?_
  blk_simp
  rw [after0_6, out_var]
  show var (V m c main_arg1 ((win0_6.blk t).view.emb y)) (V m c main_arg3 ((win0_6.blk t).view.emb y)) = _
  rfl

/-- The call and the reference compute the same arrays. -/
theorem claim : Cert.algebraic_Kernel16Ideal_Reference16Ideal := by
  intro m g m' g' _ hm
  refine ⟨fun c => steps (m (c.tc.loc main_arg0)) (m (c.tc.loc main_arg1)) (m (c.tc.loc main_arg2))
      (m (c.tc.loc main_arg3)), fun c => means (m (c.tc.loc main_arg1)) (m (c.tc.loc main_arg2)),
    fun c => vars (m (c.tc.loc main_arg1)) (m (c.tc.loc main_arg3)), ?_, ?_⟩
  · exact (θ_run _ _ _).mono (fun r h c => ⟨(h c).1.trans (final_step m c), (h c).2.1.trans (final_mean m c),
      (h c).2.2.1.trans (final_var m c), (h c).2.2.2⟩) (Cert.Kernel16Ideal.Value.run_blocks m g)
  · refine (θ_run _ _ _).mono (fun r h c => ?_) (Cert.Reference16Ideal.Value.run m' g')
    obtain ⟨h0, h1, h2, h3⟩ := hm c
    beta_reduce
    rw [← h0, ← h1, ← h2, ← h3]
    exact ⟨(h c).1.trans (steps_ref _ _ _ _ _), (h c).2.1.trans (means_ref _ _ _),
      (h c).2.2.1.trans (vars_ref _ _ _), (h c).2.2.2⟩

end Cert.Proof.Update16

end
-- ==== Proof.Update17.lean ====
/- The optimiser's update of the projection down to the query's latent: what the call leaves in its three result arrays, and the reference's. -/
module

public import proofs.«01_k».proof.Defs
public import proofs.«01_k».proof.Proof.Gen.Kernel17Ideal.Value
public import proofs.«01_k».proof.Proof.Gen.Reference17Ideal.Run
public import proofs.«01_k».proof.Proof.Update
public import Idealize.ShloMosaic.Lib.Pipeline.ValueKit.Geometry

@[expose] public section

set_option maxRecDepth 16384

noncomputable section

namespace Cert.Proof.Update17

open Cert.Kernel17Ideal Cert.Kernel17Ideal.Gen Cert.Proof.Update
open Idealize.ShloMosaic Idealize.ShloMosaic.TcCoe Idealize.SL.Sem

/-- An argument with its two leading dimensions joined. -/
abbrev flat (a : Vec Ideal S1x256x768 .f32) : Vec Ideal S256x768 .f32 := shapeCast _ a shapeCasts_S1x256x768_S256x768

variable (w g u v : Vec Ideal S256x768 .f32)

theorem out_mean : out0_5 (F := Ideal) w g u v = means g u := by
  unfold out0_5 k0_pay2 k0_pay1
  rw [View.canon_unit_zero zero2, View.ld_unit_zero zero2 _ g, View.ld_unit_zero zero2 _ u]
  simp only [shapeCast_self]
  rfl

theorem out_var : out0_6 (F := Ideal) w g u v = vars g v := by
  unfold out0_6 k0_pay3 k0_pay1
  rw [View.canon_unit_zero zero2, View.ld_unit_zero zero2 _ g, View.ld_unit_zero zero2 _ v]
  simp only [shapeCast_self]
  rfl

theorem out_step : out0_4 (F := Ideal) w g u v = steps w g u v := by
  unfold out0_4 k0_pay4 k0_pay3 k0_pay2 k0_pay1
  rw [View.canon_unit_zero zero2, View.ld_unit_zero zero2 _ w, View.ld_unit_zero zero2 _ g, View.ld_unit_zero zero2 _ u,
    View.ld_unit_zero zero2 _ v]
  simp only [shapeCast_self]
  rfl

variable (m : (ℓ : Loc nD τ sig) → Buf (Elt Ideal) ℓ)

/-- What the region finds. -/
theorem V_w (c : Dev nD) : V m c main_v0 = flat (m (c.tc.loc main_arg0)) := by dsimp only [V, hostOps0]; after_results; rfl
theorem V_g (c : Dev nD) : V m c main_v1 = flat (m (c.tc.loc main_arg1)) := by dsimp only [V, hostOps0]; after_results; rfl
theorem V_u (c : Dev nD) : V m c main_v2 = flat (m (c.tc.loc main_arg2)) := by dsimp only [V, hostOps0]; after_results; rfl
theorem V_v (c : Dev nD) : V m c main_v3 = flat (m (c.tc.loc main_arg3)) := by dsimp only [V, hostOps0]; after_results; rfl

theorem final_step (c : Dev nD) : (dats m 0 c).arrAt 4 cfg0.N = steps (flat (m (c.tc.loc main_arg0))) (flat (m (c.tc.loc main_arg1)))
    (flat (m (c.tc.loc main_arg2))) (flat (m (c.tc.loc main_arg3))) := by
  rw [← V_w, ← V_g, ← V_u, ← V_v]
  refine (dats m 0 c).arrAt_eq_of_covers 4 _ (by decide +kernel) fun t hf y => ?_
  blk_simp
  rw [after0_4, out_step]
  show step (V m c main_v0 ((win0_4.blk t).view.emb y)) (V m c main_v1 ((win0_4.blk t).view.emb y))
    (V m c main_v2 ((win0_4.blk t).view.emb y)) (V m c main_v3 ((win0_4.blk t).view.emb y)) = _
  rfl

theorem final_mean (c : Dev nD) : (dats m 0 c).arrAt 5 cfg0.N = means (flat (m (c.tc.loc main_arg1))) (flat (m (c.tc.loc main_arg2))) := by
  rw [← V_g, ← V_u]
  refine (dats m 0 c).arrAt_eq_of_covers 5 _ (by decide +kernel) fun t hf y => ?_
  blk_simp
  rw [after0_5, out_mean]
  show mean (V m c main_v1 ((win0_5.blk t).view.emb y)) (V m c main_v2 ((win0_5.blk t).view.emb y)) = _
  rfl

theorem final_var (c : Dev nD) : (dats m 0 c).arrAt 6 cfg0.N = vars (flat (m (c.tc.loc main_arg1))) (flat (m (c.tc.loc main_arg3))) := by
  rw [← V_g, ← V_v]
  refine (dats m 0 c).arrAt_eq_of_covers 6 _ (by decide +kernel) fun t hf y => ?_
  blk_simp
  rw [after0_6, out_var]
  show var (V m c main_v1 ((win0_6.blk t).view.emb y)) (V m c main_v3 ((win0_6.blk t).view.emb y)) = _
  rfl

/-- The call and the reference compute the same arrays. -/
theorem claim : Cert.algebraic_Kernel17Ideal_Reference17Ideal := by
  intro m g m' g' _ hm
  refine ⟨fun c => steps (flat (m (c.tc.loc main_arg0))) (flat (m (c.tc.loc main_arg1))) (flat (m (c.tc.loc main_arg2)))
      (flat (m (c.tc.loc main_arg3))), fun c => means (flat (m (c.tc.loc main_arg1))) (flat (m (c.tc.loc main_arg2))),
    fun c => vars (flat (m (c.tc.loc main_arg1))) (flat (m (c.tc.loc main_arg3))), ?_, ?_⟩
  · exact (θ_run _ _ _).mono (fun r h c => ⟨(h c).1.trans (final_step m c), (h c).2.1.trans (final_mean m c),
      (h c).2.2.1.trans (final_var m c), (h c).2.2.2⟩) (Cert.Kernel17Ideal.Value.run_blocks m g)
  · refine (θ_run _ _ _).mono (fun r h c => ?_) (Cert.Reference17Ideal.Value.run m' g')
    obtain ⟨h0, h1, h2, h3⟩ := hm c
    beta_reduce
    rw [← h0, ← h1, ← h2, ← h3]
    exact ⟨(h c).1.trans (congrArg flat (steps_ref _ _ _ _ _)), (h c).2.1.trans (congrArg flat (means_ref _ _ _)),
      (h c).2.2.1.trans (congrArg flat (vars_ref _ _ _)), (h c).2.2.2⟩

end Cert.Proof.Update17

end
-- ==== Proof.Update18.lean ====
/- The optimiser's update of the projection up from the query's latent: what the call leaves in its three result arrays, and the reference's. -/
module

public import proofs.«01_k».proof.Defs
public import proofs.«01_k».proof.Proof.Gen.Kernel18Ideal.Value
public import proofs.«01_k».proof.Proof.Gen.Reference18Ideal.Run
public import proofs.«01_k».proof.Proof.Update
public import Idealize.ShloMosaic.Lib.Pipeline.ValueKit.Geometry

@[expose] public section

set_option maxRecDepth 16384

noncomputable section

namespace Cert.Proof.Update18

open Cert.Kernel18Ideal Cert.Kernel18Ideal.Gen Cert.Proof.Update
open Idealize.ShloMosaic Idealize.ShloMosaic.TcCoe Idealize.SL.Sem

/-- An argument with its two leading dimensions joined. -/
abbrev flat (a : Vec Ideal S1x768x384 .f32) : Vec Ideal S768x384 .f32 := shapeCast _ a shapeCasts_S1x768x384_S768x384

variable (w g u v : Vec Ideal S384x384 .f32)

theorem out_mean : out0_5 (F := Ideal) w g u v = means g u := by
  unfold out0_5 k0_pay2 k0_pay1
  rw [View.canon_unit_zero zero2, View.ld_unit_zero zero2 _ g, View.ld_unit_zero zero2 _ u]
  simp only [shapeCast_self]
  rfl

theorem out_var : out0_6 (F := Ideal) w g u v = vars g v := by
  unfold out0_6 k0_pay3 k0_pay1
  rw [View.canon_unit_zero zero2, View.ld_unit_zero zero2 _ g, View.ld_unit_zero zero2 _ v]
  simp only [shapeCast_self]
  rfl

theorem out_step : out0_4 (F := Ideal) w g u v = steps w g u v := by
  unfold out0_4 k0_pay4 k0_pay3 k0_pay2 k0_pay1
  rw [View.canon_unit_zero zero2, View.ld_unit_zero zero2 _ w, View.ld_unit_zero zero2 _ g, View.ld_unit_zero zero2 _ u,
    View.ld_unit_zero zero2 _ v]
  simp only [shapeCast_self]
  rfl

variable (m : (ℓ : Loc nD τ sig) → Buf (Elt Ideal) ℓ)

/-- What the region finds. -/
theorem V_w (c : Dev nD) : V m c main_v0 = flat (m (c.tc.loc main_arg0)) := by dsimp only [V, hostOps0]; after_results; rfl
theorem V_g (c : Dev nD) : V m c main_v1 = flat (m (c.tc.loc main_arg1)) := by dsimp only [V, hostOps0]; after_results; rfl
theorem V_u (c : Dev nD) : V m c main_v2 = flat (m (c.tc.loc main_arg2)) := by dsimp only [V, hostOps0]; after_results; rfl
theorem V_v (c : Dev nD) : V m c main_v3 = flat (m (c.tc.loc main_arg3)) := by dsimp only [V, hostOps0]; after_results; rfl

theorem final_step (c : Dev nD) : (dats m 0 c).arrAt 4 cfg0.N = steps (flat (m (c.tc.loc main_arg0))) (flat (m (c.tc.loc main_arg1)))
    (flat (m (c.tc.loc main_arg2))) (flat (m (c.tc.loc main_arg3))) := by
  rw [← V_w, ← V_g, ← V_u, ← V_v]
  refine (dats m 0 c).arrAt_eq_of_covers 4 _ (by decide +kernel) fun t hf y => ?_
  blk_simp
  rw [after0_4, out_step]
  show step (V m c main_v0 ((win0_4.blk t).view.emb y)) (V m c main_v1 ((win0_4.blk t).view.emb y))
    (V m c main_v2 ((win0_4.blk t).view.emb y)) (V m c main_v3 ((win0_4.blk t).view.emb y)) = _
  rfl

theorem final_mean (c : Dev nD) : (dats m 0 c).arrAt 5 cfg0.N = means (flat (m (c.tc.loc main_arg1))) (flat (m (c.tc.loc main_arg2))) := by
  rw [← V_g, ← V_u]
  refine (dats m 0 c).arrAt_eq_of_covers 5 _ (by decide +kernel) fun t hf y => ?_
  blk_simp
  rw [after0_5, out_mean]
  show mean (V m c main_v1 ((win0_5.blk t).view.emb y)) (V m c main_v2 ((win0_5.blk t).view.emb y)) = _
  rfl

theorem final_var (c : Dev nD) : (dats m 0 c).arrAt 6 cfg0.N = vars (flat (m (c.tc.loc main_arg1))) (flat (m (c.tc.loc main_arg3))) := by
  rw [← V_g, ← V_v]
  refine (dats m 0 c).arrAt_eq_of_covers 6 _ (by decide +kernel) fun t hf y => ?_
  blk_simp
  rw [after0_6, out_var]
  show var (V m c main_v1 ((win0_6.blk t).view.emb y)) (V m c main_v3 ((win0_6.blk t).view.emb y)) = _
  rfl

/-- The call and the reference compute the same arrays. -/
theorem claim : Cert.algebraic_Kernel18Ideal_Reference18Ideal := by
  intro m g m' g' _ hm
  refine ⟨fun c => steps (flat (m (c.tc.loc main_arg0))) (flat (m (c.tc.loc main_arg1))) (flat (m (c.tc.loc main_arg2)))
      (flat (m (c.tc.loc main_arg3))), fun c => means (flat (m (c.tc.loc main_arg1))) (flat (m (c.tc.loc main_arg2))),
    fun c => vars (flat (m (c.tc.loc main_arg1))) (flat (m (c.tc.loc main_arg3))), ?_, ?_⟩
  · exact (θ_run _ _ _).mono (fun r h c => ⟨(h c).1.trans (final_step m c), (h c).2.1.trans (final_mean m c),
      (h c).2.2.1.trans (final_var m c), (h c).2.2.2⟩) (Cert.Kernel18Ideal.Value.run_blocks m g)
  · refine (θ_run _ _ _).mono (fun r h c => ?_) (Cert.Reference18Ideal.Value.run m' g')
    obtain ⟨h0, h1, h2, h3⟩ := hm c
    beta_reduce
    rw [← h0, ← h1, ← h2, ← h3]
    exact ⟨(h c).1.trans (congrArg flat (steps_ref _ _ _ _ _)), (h c).2.1.trans (congrArg flat (means_ref _ _ _)),
      (h c).2.2.1.trans (congrArg flat (vars_ref _ _ _)), (h c).2.2.2⟩

end Cert.Proof.Update18

end
-- ==== Proof.Small.lean ====
/- The small weights in one array: how v25 packs eight arrays, how it takes them apart, and that the one undoes the other. -/
module

public import proofs.«01_k».proof.Proof.Gen.Kernel19Ideal.Skeleton
public import proofs.«01_k».proof.Proof.Update
public import Idealize.ShloMosaic.Lib.Pipeline.Value
public import Idealize.ShloMosaic.Lib.KernelVsHost
public import Idealize.ShloMosaic.Lib.ValueIdx

@[expose] public section

set_option maxRecDepth 16384

noncomputable section

namespace Cert.Proof.Small

open Cert.Kernel19Ideal Cert.Kernel19Ideal.Gen Cert.Proof.Update
open Idealize.ShloMosaic Idealize.ShloMosaic.ValueIdx

/-- One array for each of the small weights. -/
structure Parts where
  a0 : FVec Ideal S2x1024 .f32
  a1 : FVec Ideal S2x1024 .f32
  a2 : FVec Ideal S2x1024 .f32
  a3 : FVec Ideal S1x16x257 .f32
  a4 : FVec Ideal S1024 .f32
  a5 : FVec Ideal S256 .f32
  a6 : FVec Ideal S1x768 .f32
  a7 : FVec Ideal S1024 .f32

/-- The arrays in a row. -/
abbrev pieces (p : Parts) : List ((s : Shape) × (s.Idx → Elt Ideal .f32)) :=
  [⟨S2048, shapeCast S2048 p.a0 shapeCasts_S2x1024_S2048⟩, ⟨S2048, shapeCast S2048 p.a1 shapeCasts_S2x1024_S2048⟩, ⟨S2048, shapeCast S2048 p.a2 shapeCasts_S2x1024_S2048⟩, ⟨S4112, shapeCast S4112 p.a3 shapeCasts_S1x16x257_S4112⟩, ⟨S1024, p.a4⟩, ⟨S256, p.a5⟩, ⟨S768, shapeCast S768 p.a6 shapeCasts_S1x768_S768⟩, ⟨S1024, p.a7⟩]

/-- Their shapes. -/
abbrev rows : List Shape := [S2048, S2048, S2048, S4112, S1024, S256, S768, S1024]

/-- The packed array: the arrays in a row, a rest of zeros, in rows of 128. -/
def pack (p : Parts) : FVec Ideal S112x128 .f32 :=
  shapeCast S112x128 (pad S14336 ![0] ![1008] ![0] (concatenate S13328 0 (pieces p)
    concatenates_S2048_S2048_S2048_S4112_S1024_S256_S768_S1024_S13328_d0) (sitofp (F := Ideal) .f32 (constantI S_ 32 0#32))
    pads_S13328_S14336_010080 h_S_) shapeCasts_S14336_S112x128

/-- The arrays out of a packed one. -/
def unpack (x : FVec Ideal S112x128 .f32) : Parts where
  a0 := shapeCast S2x1024 (extractStridedSlice S2048 ![0] (shapeCast S14336 x shapeCasts_S112x128_S14336) slices_S14336_S2048_0) shapeCasts_S2048_S2x1024
  a1 := shapeCast S2x1024 (extractStridedSlice S2048 ![2048] (shapeCast S14336 x shapeCasts_S112x128_S14336) slices_S14336_S2048_2048) shapeCasts_S2048_S2x1024
  a2 := shapeCast S2x1024 (extractStridedSlice S2048 ![4096] (shapeCast S14336 x shapeCasts_S112x128_S14336) slices_S14336_S2048_4096) shapeCasts_S2048_S2x1024
  a3 := shapeCast S1x16x257 (extractStridedSlice S4112 ![6144] (shapeCast S14336 x shapeCasts_S112x128_S14336) slices_S14336_S4112_6144) shapeCasts_S4112_S1x16x257
  a4 := extractStridedSlice S1024 ![10256] (shapeCast S14336 x shapeCasts_S112x128_S14336) slices_S14336_S1024_10256
  a5 := extractStridedSlice S256 ![11280] (shapeCast S14336 x shapeCasts_S112x128_S14336) slices_S14336_S256_11280
  a6 := shapeCast S1x768 (extractStridedSlice S768 ![11536] (shapeCast S14336 x shapeCasts_S112x128_S14336) slices_S14336_S768_11536) shapeCasts_S768_S1x768
  a7 := extractStridedSlice S1024 ![12304] (shapeCast S14336 x shapeCasts_S112x128_S14336) slices_S14336_S1024_12304

/-- A slice of the packed array that is one of the arrays in a row. -/
theorem part {n off : ℕ} (xs : List ((s : Shape) × (s.Idx → Elt Ideal .f32))) (h : Shape.Concatenates (xs.map (·.1)) S13328 0) (k : ℕ)
    (hk : k < xs.length) (x : (⟨1, ![n]⟩ : Shape).Idx → Elt Ideal .f32) (hx : xs[k] = ⟨⟨1, ![n]⟩, x⟩)
    (ss : List Shape) (hss : xs.map (·.1) = ss)
    (hpre : ((ss.take k).map fun s => if h : s.rank = S13328.rank then s.size ((0 : Fin 1).cast h.symm) else 0).sum = off)
    (z : S_.Idx → Elt Ideal .f32) (hs : S14336.Slices ![off] ⟨1, ![n]⟩) (hn : off + n ≤ 13328) :
    extractStridedSlice ⟨1, ![n]⟩ ![off] (shapeCast S14336 (shapeCast S112x128 (pad S14336 ![0] ![1008] ![0] (concatenate S13328 0 xs h) z
      pads_S13328_S14336_010080 h_S_) shapeCasts_S14336_S112x128) shapeCasts_S112x128_S14336) hs = x := by
  rw [shapeCast_shapeCast]
  funext j
  have hj : (j 0).val < n := (j 0).isLt
  refine (extractStridedSlice_apply _ _ hs j (ix1 (⟨off + (j 0).val, by omega⟩ : Fin 14336)) fun a => ?_).trans
    ((pad_apply_of_inside _ _ _ _ z _ _ _ (ix1 (⟨off + (j 0).val, by omega⟩ : Fin 13328)) fun a => ?_).trans
      (concatenate_apply_piece 0 xs h _ k hk _ x hx rfl off (by rw [List.map_take, hss]; exact hpre) j (fun b hb => ?_) ?_))
  · match a with
    | ⟨0, _⟩ => rfl
  · match a with
    | ⟨0, _⟩ => show off + (j 0).val = 0 + (off + (j 0).val) * 1; omega
  · match b with
    | ⟨0, _⟩ => exact absurd rfl hb
  · rfl

theorem part0 (p : Parts) : extractStridedSlice S2048 ![0] (shapeCast S14336 (pack p) shapeCasts_S112x128_S14336)
    slices_S14336_S2048_0 = shapeCast S2048 p.a0 shapeCasts_S2x1024_S2048 := part (off := 0) (pieces p) _ 0 (by simp) _ rfl rows rfl
    (by decide +kernel) _ _ (by decide)

theorem part1 (p : Parts) : extractStridedSlice S2048 ![2048] (shapeCast S14336 (pack p) shapeCasts_S112x128_S14336)
    slices_S14336_S2048_2048 = shapeCast S2048 p.a1 shapeCasts_S2x1024_S2048 := part (off := 2048) (pieces p) _ 1 (by simp) _ rfl rows rfl
    (by decide +kernel) _ _ (by decide)

theorem part2 (p : Parts) : extractStridedSlice S2048 ![4096] (shapeCast S14336 (pack p) shapeCasts_S112x128_S14336)
    slices_S14336_S2048_4096 = shapeCast S2048 p.a2 shapeCasts_S2x1024_S2048 := part (off := 4096) (pieces p) _ 2 (by simp) _ rfl rows rfl
    (by decide +kernel) _ _ (by decide)

theorem part3 (p : Parts) : extractStridedSlice S4112 ![6144] (shapeCast S14336 (pack p) shapeCasts_S112x128_S14336)
    slices_S14336_S4112_6144 = shapeCast S4112 p.a3 shapeCasts_S1x16x257_S4112 := part (off := 6144) (pieces p) _ 3 (by simp) _ rfl rows rfl
    (by decide +kernel) _ _ (by decide)

theorem part4 (p : Parts) : extractStridedSlice S1024 ![10256] (shapeCast S14336 (pack p) shapeCasts_S112x128_S14336)
    slices_S14336_S1024_10256 = p.a4 := part (off := 10256) (pieces p) _ 4 (by simp) _ rfl rows rfl
    (by decide +kernel) _ _ (by decide)

theorem part5 (p : Parts) : extractStridedSlice S256 ![11280] (shapeCast S14336 (pack p) shapeCasts_S112x128_S14336)
    slices_S14336_S256_11280 = p.a5 := part (off := 11280) (pieces p) _ 5 (by simp) _ rfl rows rfl
    (by decide +kernel) _ _ (by decide)

theorem part6 (p : Parts) : extractStridedSlice S768 ![11536] (shapeCast S14336 (pack p) shapeCasts_S112x128_S14336)
    slices_S14336_S768_11536 = shapeCast S768 p.a6 shapeCasts_S1x768_S768 := part (off := 11536) (pieces p) _ 6 (by simp) _ rfl rows rfl
    (by decide +kernel) _ _ (by decide)

theorem part7 (p : Parts) : extractStridedSlice S1024 ![12304] (shapeCast S14336 (pack p) shapeCasts_S112x128_S14336)
    slices_S14336_S1024_12304 = p.a7 := part (off := 12304) (pieces p) _ 7 (by simp) _ rfl rows rfl
    (by decide +kernel) _ _ (by decide)

theorem unpack_pack (p : Parts) : unpack (pack p) = p := by
  unfold unpack
  rw [part0, part1, part2, part3, part4, part5, part6, part7]
  simp only [shapeCast_shapeCast]

/-- The updates of all arrays. -/
def allMeans (g u : Parts) : Parts := ⟨means g.a0 u.a0, means g.a1 u.a1, means g.a2 u.a2, means g.a3 u.a3, means g.a4 u.a4, means g.a5 u.a5, means g.a6 u.a6, means g.a7 u.a7⟩
def allVars (g v : Parts) : Parts := ⟨vars g.a0 v.a0, vars g.a1 v.a1, vars g.a2 v.a2, vars g.a3 v.a3, vars g.a4 v.a4, vars g.a5 v.a5, vars g.a6 v.a6, vars g.a7 v.a7⟩
def allSteps (w g u v : Parts) : Parts := ⟨steps w.a0 g.a0 u.a0 v.a0, steps w.a1 g.a1 u.a1 v.a1, steps w.a2 g.a2 u.a2 v.a2, steps w.a3 g.a3 u.a3 v.a3, steps w.a4 g.a4 u.a4 v.a4, steps w.a5 g.a5 u.a5 v.a5, steps w.a6 g.a6 u.a6 v.a6, steps w.a7 g.a7 u.a7 v.a7⟩

theorem unpack_means (g u : Parts) : unpack (means (pack g) (pack u)) = allMeans g u := by
  have h : unpack (means (pack g) (pack u)) = allMeans (unpack (pack g)) (unpack (pack u)) := rfl
  rw [h, unpack_pack, unpack_pack]

theorem unpack_vars (g v : Parts) : unpack (vars (pack g) (pack v)) = allVars g v := by
  have h : unpack (vars (pack g) (pack v)) = allVars (unpack (pack g)) (unpack (pack v)) := rfl
  rw [h, unpack_pack, unpack_pack]

theorem unpack_steps (w g u v : Parts) : unpack (steps (pack w) (pack g) (pack u) (pack v)) = allSteps w g u v := by
  have h : unpack (steps (pack w) (pack g) (pack u) (pack v))
      = allSteps (unpack (pack w)) (unpack (pack g)) (unpack (pack u)) (unpack (pack v)) := rfl
  rw [h, unpack_pack, unpack_pack, unpack_pack, unpack_pack]

end Cert.Proof.Small

end
-- ==== Proof.Update19.lean ====
/- The optimiser's update of the small weights, packed in one array: what the call leaves in its three result arrays, what is taken out of
   them, and the reference's updates, one weight after the other. -/
module

public import proofs.«01_k».proof.Defs
public import proofs.«01_k».proof.Proof.Gen.Kernel19Ideal.Frame
public import proofs.«01_k».proof.Proof.Gen.Reference19Ideal.Run
public import proofs.«01_k».proof.Proof.Small
public import Idealize.ShloMosaic.Lib.Pipeline.ValueKit.Geometry

@[expose] public section

set_option maxRecDepth 16384

noncomputable section

namespace Cert.Proof.Update19

open Cert.Kernel19Ideal Cert.Kernel19Ideal.Gen Cert.Proof.Update Cert.Proof.Small
open Idealize.ShloMosaic Idealize.ShloMosaic.TcCoe Idealize.SL.Sem

theorem means_congr {s : Shape} {g g' u u' : Vec Ideal s .f32} (hg : g = g') (hu : u = u') : means g u = means g' u' := by
  rw [hg, hu]

theorem vars_congr {s : Shape} {g g' v v' : Vec Ideal s .f32} (hg : g = g') (hv : v = v') : vars g v = vars g' v' := by
  rw [hg, hv]

theorem steps_congr {s : Shape} {w w' g g' u u' v v' : Vec Ideal s .f32} (hw : w = w') (hg : g = g') (hu : u = u') (hv : v = v') :
    steps w g u v = steps w' g' u' v' := by
  rw [hw, hg, hu, hv]

section
variable (w g u v : Vec Ideal S112x128 .f32)

theorem out_mean : out0_5 (F := Ideal) w g u v = means g u := by
  unfold out0_5 k0_pay2 k0_pay1
  rw [View.canon_unit_zero zero2, View.ld_unit_zero zero2 _ g, View.ld_unit_zero zero2 _ u]
  simp only [shapeCast_self]
  rfl

theorem out_var : out0_6 (F := Ideal) w g u v = vars g v := by
  unfold out0_6 k0_pay3 k0_pay1
  rw [View.canon_unit_zero zero2, View.ld_unit_zero zero2 _ g, View.ld_unit_zero zero2 _ v]
  simp only [shapeCast_self]
  rfl

theorem out_step : out0_4 (F := Ideal) w g u v = steps w g u v := by
  unfold out0_4 k0_pay4 k0_pay3 k0_pay2 k0_pay1
  rw [View.canon_unit_zero zero2, View.ld_unit_zero zero2 _ w, View.ld_unit_zero zero2 _ g, View.ld_unit_zero zero2 _ u,
    View.ld_unit_zero zero2 _ v]
  simp only [shapeCast_self]
  rfl
end

variable (m : (ℓ : Loc nD τ sig) → Buf (Elt Ideal) ℓ)

/-- The small weights, their gradients and their moments. -/
def weights (c : Dev nD) : Parts := ⟨m (c.tc.loc main_arg0), m (c.tc.loc main_arg1), m (c.tc.loc main_arg2), m (c.tc.loc main_arg3), m (c.tc.loc main_arg4), m (c.tc.loc main_arg5), m (c.tc.loc main_arg6), m (c.tc.loc main_arg7)⟩
def grads (c : Dev nD) : Parts := ⟨m (c.tc.loc main_arg8), m (c.tc.loc main_arg9), m (c.tc.loc main_arg10), m (c.tc.loc main_arg11), m (c.tc.loc main_arg12), m (c.tc.loc main_arg13), m (c.tc.loc main_arg14), m (c.tc.loc main_arg15)⟩
def firsts (c : Dev nD) : Parts := ⟨m (c.tc.loc main_arg16), m (c.tc.loc main_arg17), m (c.tc.loc main_arg18), m (c.tc.loc main_arg19), m (c.tc.loc main_arg20), m (c.tc.loc main_arg21), m (c.tc.loc main_arg22), m (c.tc.loc main_arg23)⟩
def seconds (c : Dev nD) : Parts := ⟨m (c.tc.loc main_arg24), m (c.tc.loc main_arg25), m (c.tc.loc main_arg26), m (c.tc.loc main_arg27), m (c.tc.loc main_arg28), m (c.tc.loc main_arg29), m (c.tc.loc main_arg30), m (c.tc.loc main_arg31)⟩

/-- The four packed arrays that the call reads. -/
theorem V_weights (c : Dev nD) : V m c main_v7 = pack (weights m c) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_grads (c : Dev nD) : V m c main_v15 = pack (grads m c) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_firsts (c : Dev nD) : V m c main_v23 = pack (firsts m c) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem V_seconds (c : Dev nD) : V m c main_v31 = pack (seconds m c) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 2000000 in
theorem final_step (c : Dev nD) : (dats m 0 c).arrAt 4 cfg0.N
    = steps (V m c main_v7) (V m c main_v15) (V m c main_v23) (V m c main_v31) := by
  refine (dats m 0 c).arrAt_eq_of_covers 4 _ (by decide +kernel) fun t hf y => ?_
  blk_simp
  rw [after0_4, out_step]
  show step (V m c main_v7 ((win0_4.blk t).view.emb y)) (V m c main_v15 ((win0_4.blk t).view.emb y))
    (V m c main_v23 ((win0_4.blk t).view.emb y)) (V m c main_v31 ((win0_4.blk t).view.emb y)) = _
  rfl

theorem final_mean (c : Dev nD) : (dats m 0 c).arrAt 5 cfg0.N = means (V m c main_v15) (V m c main_v23) := by
  refine (dats m 0 c).arrAt_eq_of_covers 5 _ (by decide +kernel) fun t hf y => ?_
  blk_simp
  rw [after0_5, out_mean]
  show mean (V m c main_v15 ((win0_5.blk t).view.emb y)) (V m c main_v23 ((win0_5.blk t).view.emb y)) = _
  rfl

theorem final_var (c : Dev nD) : (dats m 0 c).arrAt 6 cfg0.N = vars (V m c main_v15) (V m c main_v31) := by
  refine (dats m 0 c).arrAt_eq_of_covers 6 _ (by decide +kernel) fun t hf y => ?_
  blk_simp
  rw [after0_6, out_var]
  show var (V m c main_v15 ((win0_6.blk t).view.emb y)) (V m c main_v31 ((win0_6.blk t).view.emb y)) = _
  rfl

/-- What the operations after the call take out of its results. -/
theorem tail_step (W : Valuation τ sig (Elt Ideal)) :
    (⟨StableHlo.after hostOps1 W (Proc.devRef .tc main_v35), StableHlo.after hostOps1 W (Proc.devRef .tc main_v37), StableHlo.after hostOps1 W (Proc.devRef .tc main_v39), StableHlo.after hostOps1 W (Proc.devRef .tc main_v41), StableHlo.after hostOps1 W (Proc.devRef .tc main_v42), StableHlo.after hostOps1 W (Proc.devRef .tc main_v43), StableHlo.after hostOps1 W (Proc.devRef .tc main_v45), StableHlo.after hostOps1 W (Proc.devRef .tc main_v46)⟩ : Parts)
      = unpack (W (Proc.devRef .tc main_v32_0)) := by
  unfold unpack
  simp only [hostOps1]
  after_results
  rfl

theorem tail_mean (W : Valuation τ sig (Elt Ideal)) :
    (⟨StableHlo.after hostOps1 W (Proc.devRef .tc main_v49), StableHlo.after hostOps1 W (Proc.devRef .tc main_v51), StableHlo.after hostOps1 W (Proc.devRef .tc main_v53), StableHlo.after hostOps1 W (Proc.devRef .tc main_v55), StableHlo.after hostOps1 W (Proc.devRef .tc main_v56), StableHlo.after hostOps1 W (Proc.devRef .tc main_v57), StableHlo.after hostOps1 W (Proc.devRef .tc main_v59), StableHlo.after hostOps1 W (Proc.devRef .tc main_v60)⟩ : Parts)
      = unpack (W (Proc.devRef .tc main_v32_1)) := by
  unfold unpack
  simp only [hostOps1]
  after_results
  rfl

theorem tail_var (W : Valuation τ sig (Elt Ideal)) :
    (⟨StableHlo.after hostOps1 W (Proc.devRef .tc main_v63), StableHlo.after hostOps1 W (Proc.devRef .tc main_v65), StableHlo.after hostOps1 W (Proc.devRef .tc main_v67), StableHlo.after hostOps1 W (Proc.devRef .tc main_v69), StableHlo.after hostOps1 W (Proc.devRef .tc main_v70), StableHlo.after hostOps1 W (Proc.devRef .tc main_v71), StableHlo.after hostOps1 W (Proc.devRef .tc main_v73), StableHlo.after hostOps1 W (Proc.devRef .tc main_v74)⟩ : Parts)
      = unpack (W (Proc.devRef .tc main_v32_2)) := by
  unfold unpack
  simp only [hostOps1]
  after_results
  rfl

/-- What the program returns. -/
def newSteps (c : Dev nD) : Parts := allSteps (weights m c) (grads m c) (firsts m c) (seconds m c)
def newMeans (c : Dev nD) : Parts := allMeans (grads m c) (firsts m c)
def newVars (c : Dev nD) : Parts := allVars (grads m c) (seconds m c)

theorem arr_inj : Function.Injective (Pipeline.arrRef spec0) := by decide

theorem end_step (c : Dev nD) :
    (⟨Pipeline.afterTail₀ cfgs (dats m) 0 (V0 m) [hostOps1] c main_v35, Pipeline.afterTail₀ cfgs (dats m) 0 (V0 m) [hostOps1] c main_v37, Pipeline.afterTail₀ cfgs (dats m) 0 (V0 m) [hostOps1] c main_v39, Pipeline.afterTail₀ cfgs (dats m) 0 (V0 m) [hostOps1] c main_v41, Pipeline.afterTail₀ cfgs (dats m) 0 (V0 m) [hostOps1] c main_v42, Pipeline.afterTail₀ cfgs (dats m) 0 (V0 m) [hostOps1] c main_v43, Pipeline.afterTail₀ cfgs (dats m) 0 (V0 m) [hostOps1] c main_v45, Pipeline.afterTail₀ cfgs (dats m) 0 (V0 m) [hostOps1] c main_v46⟩ : Parts)
      = newSteps m c := by
  refine (tail_step (Pipeline.withArrays spec0 c (V0 m c) fun w => (dats m 0 c).arrAt w cfg0.N)).trans ?_
  refine (congrArg unpack ((Pipeline.withArrays_arr spec0 arr_inj c (V0 m c) (fun w => (dats m 0 c).arrAt w cfg0.N) 4).trans
    ((final_step m c).trans (steps_congr (V_weights m c) (V_grads m c) (V_firsts m c) (V_seconds m c))))).trans ?_
  exact unpack_steps _ _ _ _

theorem end_mean (c : Dev nD) :
    (⟨Pipeline.afterTail₀ cfgs (dats m) 0 (V0 m) [hostOps1] c main_v49, Pipeline.afterTail₀ cfgs (dats m) 0 (V0 m) [hostOps1] c main_v51, Pipeline.afterTail₀ cfgs (dats m) 0 (V0 m) [hostOps1] c main_v53, Pipeline.afterTail₀ cfgs (dats m) 0 (V0 m) [hostOps1] c main_v55, Pipeline.afterTail₀ cfgs (dats m) 0 (V0 m) [hostOps1] c main_v56, Pipeline.afterTail₀ cfgs (dats m) 0 (V0 m) [hostOps1] c main_v57, Pipeline.afterTail₀ cfgs (dats m) 0 (V0 m) [hostOps1] c main_v59, Pipeline.afterTail₀ cfgs (dats m) 0 (V0 m) [hostOps1] c main_v60⟩ : Parts)
      = newMeans m c := by
  refine (tail_mean (Pipeline.withArrays spec0 c (V0 m c) fun w => (dats m 0 c).arrAt w cfg0.N)).trans ?_
  refine (congrArg unpack ((Pipeline.withArrays_arr spec0 arr_inj c (V0 m c) (fun w => (dats m 0 c).arrAt w cfg0.N) 5).trans
    ((final_mean m c).trans (means_congr (V_grads m c) (V_firsts m c))))).trans ?_
  exact unpack_means _ _

theorem end_var (c : Dev nD) :
    (⟨Pipeline.afterTail₀ cfgs (dats m) 0 (V0 m) [hostOps1] c main_v63, Pipeline.afterTail₀ cfgs (dats m) 0 (V0 m) [hostOps1] c main_v65, Pipeline.afterTail₀ cfgs (dats m) 0 (V0 m) [hostOps1] c main_v67, Pipeline.afterTail₀ cfgs (dats m) 0 (V0 m) [hostOps1] c main_v69, Pipeline.afterTail₀ cfgs (dats m) 0 (V0 m) [hostOps1] c main_v70, Pipeline.afterTail₀ cfgs (dats m) 0 (V0 m) [hostOps1] c main_v71, Pipeline.afterTail₀ cfgs (dats m) 0 (V0 m) [hostOps1] c main_v73, Pipeline.afterTail₀ cfgs (dats m) 0 (V0 m) [hostOps1] c main_v74⟩ : Parts)
      = newVars m c := by
  refine (tail_var (Pipeline.withArrays spec0 c (V0 m c) fun w => (dats m 0 c).arrAt w cfg0.N)).trans ?_
  refine (congrArg unpack ((Pipeline.withArrays_arr spec0 arr_inj c (V0 m c) (fun w => (dats m 0 c).arrAt w cfg0.N) 6).trans
    ((final_var m c).trans (vars_congr (V_grads m c) (V_seconds m c))))).trans ?_
  exact unpack_vars _ _

set_option maxHeartbeats 4000000 in
/-- The program and the reference compute the same arrays. -/
theorem claim : Cert.algebraic_Kernel19Ideal_Reference19Ideal := by
  intro m g m' g' _ hm
  refine ⟨fun c => (newSteps m c).a0, fun c => (newSteps m c).a1, fun c => (newSteps m c).a2, fun c => (newSteps m c).a3, fun c => (newSteps m c).a4, fun c => (newSteps m c).a5, fun c => (newSteps m c).a6, fun c => (newSteps m c).a7, fun c => (newMeans m c).a0, fun c => (newMeans m c).a1, fun c => (newMeans m c).a2, fun c => (newMeans m c).a3, fun c => (newMeans m c).a4, fun c => (newMeans m c).a5, fun c => (newMeans m c).a6, fun c => (newMeans m c).a7, fun c => (newVars m c).a0, fun c => (newVars m c).a1, fun c => (newVars m c).a2, fun c => (newVars m c).a3, fun c => (newVars m c).a4, fun c => (newVars m c).a5, fun c => (newVars m c).a6, fun c => (newVars m c).a7, ?_, ?_⟩
  · exact (θ_run _ _ _).mono (fun r h c => ⟨((h c).2 main_v35 (Pipeline.mem_restRefs_of main_v35 (by decide) (by decide))).trans (congrArg Parts.a0 (end_step m c)),
      ((h c).2 main_v37 (Pipeline.mem_restRefs_of main_v37 (by decide) (by decide))).trans (congrArg Parts.a1 (end_step m c)),
      ((h c).2 main_v39 (Pipeline.mem_restRefs_of main_v39 (by decide) (by decide))).trans (congrArg Parts.a2 (end_step m c)),
      ((h c).2 main_v41 (Pipeline.mem_restRefs_of main_v41 (by decide) (by decide))).trans (congrArg Parts.a3 (end_step m c)),
      ((h c).2 main_v42 (Pipeline.mem_restRefs_of main_v42 (by decide) (by decide))).trans (congrArg Parts.a4 (end_step m c)),
      ((h c).2 main_v43 (Pipeline.mem_restRefs_of main_v43 (by decide) (by decide))).trans (congrArg Parts.a5 (end_step m c)),
      ((h c).2 main_v45 (Pipeline.mem_restRefs_of main_v45 (by decide) (by decide))).trans (congrArg Parts.a6 (end_step m c)),
      ((h c).2 main_v46 (Pipeline.mem_restRefs_of main_v46 (by decide) (by decide))).trans (congrArg Parts.a7 (end_step m c)),
      ((h c).2 main_v49 (Pipeline.mem_restRefs_of main_v49 (by decide) (by decide))).trans (congrArg Parts.a0 (end_mean m c)),
      ((h c).2 main_v51 (Pipeline.mem_restRefs_of main_v51 (by decide) (by decide))).trans (congrArg Parts.a1 (end_mean m c)),
      ((h c).2 main_v53 (Pipeline.mem_restRefs_of main_v53 (by decide) (by decide))).trans (congrArg Parts.a2 (end_mean m c)),
      ((h c).2 main_v55 (Pipeline.mem_restRefs_of main_v55 (by decide) (by decide))).trans (congrArg Parts.a3 (end_mean m c)),
      ((h c).2 main_v56 (Pipeline.mem_restRefs_of main_v56 (by decide) (by decide))).trans (congrArg Parts.a4 (end_mean m c)),
      ((h c).2 main_v57 (Pipeline.mem_restRefs_of main_v57 (by decide) (by decide))).trans (congrArg Parts.a5 (end_mean m c)),
      ((h c).2 main_v59 (Pipeline.mem_restRefs_of main_v59 (by decide) (by decide))).trans (congrArg Parts.a6 (end_mean m c)),
      ((h c).2 main_v60 (Pipeline.mem_restRefs_of main_v60 (by decide) (by decide))).trans (congrArg Parts.a7 (end_mean m c)),
      ((h c).2 main_v63 (Pipeline.mem_restRefs_of main_v63 (by decide) (by decide))).trans (congrArg Parts.a0 (end_var m c)),
      ((h c).2 main_v65 (Pipeline.mem_restRefs_of main_v65 (by decide) (by decide))).trans (congrArg Parts.a1 (end_var m c)),
      ((h c).2 main_v67 (Pipeline.mem_restRefs_of main_v67 (by decide) (by decide))).trans (congrArg Parts.a2 (end_var m c)),
      ((h c).2 main_v69 (Pipeline.mem_restRefs_of main_v69 (by decide) (by decide))).trans (congrArg Parts.a3 (end_var m c)),
      ((h c).2 main_v70 (Pipeline.mem_restRefs_of main_v70 (by decide) (by decide))).trans (congrArg Parts.a4 (end_var m c)),
      ((h c).2 main_v71 (Pipeline.mem_restRefs_of main_v71 (by decide) (by decide))).trans (congrArg Parts.a5 (end_var m c)),
      ((h c).2 main_v73 (Pipeline.mem_restRefs_of main_v73 (by decide) (by decide))).trans (congrArg Parts.a6 (end_var m c)),
      ((h c).2 main_v74 (Pipeline.mem_restRefs_of main_v74 (by decide) (by decide))).trans (congrArg Parts.a7 (end_var m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c),
      ((h c).2 main_arg28 (Pipeline.mem_restRefs_of main_arg28 (by decide) (by decide))).trans (W_main_arg28 m (dats m) c),
      ((h c).2 main_arg29 (Pipeline.mem_restRefs_of main_arg29 (by decide) (by decide))).trans (W_main_arg29 m (dats m) c),
      ((h c).2 main_arg30 (Pipeline.mem_restRefs_of main_arg30 (by decide) (by decide))).trans (W_main_arg30 m (dats m) c),
      ((h c).2 main_arg31 (Pipeline.mem_restRefs_of main_arg31 (by decide) (by decide))).trans (W_main_arg31 m (dats m) c)⟩) (run_main m g)
  · refine (θ_run _ _ _).mono (fun r h c => ?_) (Cert.Reference19Ideal.Value.run m' g')
    obtain ⟨h0, h1, h2, h3, h4, h5, h6, h7, h8, h9, h10, h11, h12, h13, h14, h15, h16, h17, h18, h19, h20, h21, h22, h23, h24, h25, h26, h27, h28, h29, h30, h31⟩ := hm c
    exact ⟨(h c).1.trans ((steps_ref _ _ _ _ _).trans (steps_congr h0 h8 h16 h24)),
      (h c).2.1.trans ((steps_ref _ _ _ _ _).trans (steps_congr h1 h9 h17 h25)),
      (h c).2.2.1.trans ((steps_ref _ _ _ _ _).trans (steps_congr h2 h10 h18 h26)),
      (h c).2.2.2.1.trans ((steps_ref _ _ _ _ _).trans (steps_congr h3 h11 h19 h27)),
      (h c).2.2.2.2.1.trans ((steps_ref _ _ _ _ _).trans (steps_congr h4 h12 h20 h28)),
      (h c).2.2.2.2.2.1.trans ((steps_ref _ _ _ _ _).trans (steps_congr h5 h13 h21 h29)),
      (h c).2.2.2.2.2.2.1.trans ((steps_ref _ _ _ _ _).trans (steps_congr h6 h14 h22 h30)),
      (h c).2.2.2.2.2.2.2.1.trans ((steps_ref _ _ _ _ _).trans (steps_congr h7 h15 h23 h31)),
      (h c).2.2.2.2.2.2.2.2.1.trans ((means_ref _ _ _).trans (means_congr h8 h16)),
      (h c).2.2.2.2.2.2.2.2.2.1.trans ((means_ref _ _ _).trans (means_congr h9 h17)),
      (h c).2.2.2.2.2.2.2.2.2.2.1.trans ((means_ref _ _ _).trans (means_congr h10 h18)),
      (h c).2.2.2.2.2.2.2.2.2.2.2.1.trans ((means_ref _ _ _).trans (means_congr h11 h19)),
      (h c).2.2.2.2.2.2.2.2.2.2.2.2.1.trans ((means_ref _ _ _).trans (means_congr h12 h20)),
      (h c).2.2.2.2.2.2.2.2.2.2.2.2.2.1.trans ((means_ref _ _ _).trans (means_congr h13 h21)),
      (h c).2.2.2.2.2.2.2.2.2.2.2.2.2.2.1.trans ((means_ref _ _ _).trans (means_congr h14 h22)),
      (h c).2.2.2.2.2.2.2.2.2.2.2.2.2.2.2.1.trans ((means_ref _ _ _).trans (means_congr h15 h23)),
      (h c).2.2.2.2.2.2.2.2.2.2.2.2.2.2.2.2.1.trans ((vars_ref _ _ _).trans (vars_congr h8 h24)),
      (h c).2.2.2.2.2.2.2.2.2.2.2.2.2.2.2.2.2.1.trans ((vars_ref _ _ _).trans (vars_congr h9 h25)),
      (h c).2.2.2.2.2.2.2.2.2.2.2.2.2.2.2.2.2.2.1.trans ((vars_ref _ _ _).trans (vars_congr h10 h26)),
      (h c).2.2.2.2.2.2.2.2.2.2.2.2.2.2.2.2.2.2.2.1.trans ((vars_ref _ _ _).trans (vars_congr h11 h27)),
      (h c).2.2.2.2.2.2.2.2.2.2.2.2.2.2.2.2.2.2.2.2.1.trans ((vars_ref _ _ _).trans (vars_congr h12 h28)),
      (h c).2.2.2.2.2.2.2.2.2.2.2.2.2.2.2.2.2.2.2.2.2.1.trans ((vars_ref _ _ _).trans (vars_congr h13 h29)),
      (h c).2.2.2.2.2.2.2.2.2.2.2.2.2.2.2.2.2.2.2.2.2.2.1.trans ((vars_ref _ _ _).trans (vars_congr h14 h30)),
      (h c).2.2.2.2.2.2.2.2.2.2.2.2.2.2.2.2.2.2.2.2.2.2.2.1.trans ((vars_ref _ _ _).trans (vars_congr h15 h31)),
      (h c).2.2.2.2.2.2.2.2.2.2.2.2.2.2.2.2.2.2.2.2.2.2.2.2⟩

end Cert.Proof.Update19

end
-- ==== Proof.Product.lean ====
/- A product of two arrays and a product with a transpose, entry by entry, and what the matrix unit leaves for them. -/
module

public import Idealize.ShloMosaic.Lib.MatmulPlain
public import Idealize.ShloMosaic.Lib.IdealHost
public import Idealize.ShloMosaic.Lib.ValueIdx

@[expose] public section

noncomputable section

namespace Cert.Proof.Product

open Idealize.ShloMosaic Idealize.ShloMosaic.ValueIdx

section
variable {M K N : ℕ} (x : Vec Ideal ⟨2, ![M, K]⟩ .f32) (w : Vec Ideal ⟨2, ![K, N]⟩ .f32) (z : Vec Ideal ⟨2, ![N, K]⟩ .f32)

/-- An entry of the product, and of the product with a transpose. -/
def nn (i : Fin M) (j : Fin N) : EReal := ∑ k : Fin K, x (ix2 i k) * w (ix2 k j)
def nt (i : Fin M) (j : Fin N) : EReal := ∑ k : Fin K, x (ix2 i k) * z (ix2 j k)

/-- An entry computed from a row and a column that hold what the arrays hold there. -/
theorem nn_of (i : Fin M) (j : Fin N) (a b : Fin K → EReal) (ha : ∀ k, a k = x (ix2 i k)) (hb : ∀ k, b k = w (ix2 k j)) :
    ∑ k, a k * b k = nn x w i j := Finset.sum_congr rfl fun k _ => by rw [ha, hb]

theorem nt_of (i : Fin M) (j : Fin N) (a b : Fin K → EReal) (ha : ∀ k, a k = x (ix2 i k)) (hb : ∀ k, b k = z (ix2 j k)) :
    ∑ k, a k * b k = nt x z i j := Finset.sum_congr rfl fun k _ => by rw [ha, hb]
end

section
variable {M K N : ℕ} (a : FVec Ideal ⟨2, ![M, K]⟩ .bf16) (b : FVec Ideal ⟨2, ![K, N]⟩ .bf16) (d : FVec Ideal ⟨2, ![N, K]⟩ .bf16)

theorem unit_nn (i : Fin M) (j : Fin N) : FloatOps.matmul (F := Ideal) (DotDims.plain M K N) none a b
    (constant (F := Ideal) ⟨2, ![M, N]⟩ .f32 0x00000000#32) (ix2 i j) = ∑ k : Fin K, a (ix2 i k) * b (ix2 k j) := by
  rw [Ideal.matmul_plain_apply]
  show Ideal.ofBits .f32 0x00000000#32 + _ = _
  rw [Ideal.ofBits_zero_f32, zero_add]

theorem unit_nt (i : Fin M) (j : Fin N) : FloatOps.matmul (F := Ideal) (DotDims.transposedRhs M K N) none a d
    (constant (F := Ideal) ⟨2, ![M, N]⟩ .f32 0x00000000#32) (ix2 i j) = ∑ k : Fin K, a (ix2 i k) * d (ix2 j k) := by
  rw [Ideal.matmul_transposedRhs_apply]
  show Ideal.ofBits .f32 0x00000000#32 + _ = _
  rw [Ideal.ofBits_zero_f32, zero_add]
end

theorem zero2 : (![0, 0] : Fin 2 → Nat) = fun _ => 0 := funext fun a => by fin_cases a <;> rfl

end Cert.Proof.Product

end
-- ==== Proof.AttnOut.lean ====
/- What the attention's output call leaves in its result array (`final`), and the same array as the reference computes it (`value`). -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Product
public import Idealize.ShloMosaic.Lib.Pipeline.ValueKit.Geometry

@[expose] public section

set_option maxRecDepth 16384

noncomputable section

namespace Cert.Proof.AttnOut

open Cert.Kernel20Ideal Cert.Kernel20Ideal.Gen Cert.Proof.Product
open Idealize.ShloMosaic Idealize.ShloMosaic.TcCoe Idealize.ShloMosaic.ValueIdx Idealize.SL.Sem

/-- The result array. -/
def G (h : Vec Ideal ⟨2, ![4096, 1024]⟩ .f32) (x : Vec Ideal ⟨2, ![4096, 1024]⟩ .f32) (w : Vec Ideal ⟨2, ![1024, 1024]⟩ .f32) :
    Vec Ideal ⟨2, ![4096, 1024]⟩ .f32 := fun i => h i + nn x w (i 0) (i 1)

theorem pay1_apply (a : Vec Ideal S1024x1024 .bf16) (w : Vec Ideal S1024x1024 .bf16) (h : Vec Ideal S1024x1024 .f32) (r : Fin 1024) (k : Fin 1024) :
    k0_pay1 (F := Ideal) a w h (ix2 r k) = h (ix2 r k) + ∑ q : Fin 1024, a (ix2 r q) * w (ix2 q k) := by
  unfold k0_pay1
  simp only [shapeCast_self]
  exact congrArg (fun s : EReal => h (ix2 r k) + s) (unit_nn a w r k)

theorem out_eq (a : Vec Ideal S1024x1024 .bf16) (w : Vec Ideal S1024x1024 .bf16) (h : Vec Ideal S1024x1024 .f32) :
    out0_3 (F := Ideal) a w h = k0_pay1 (F := Ideal) a w h := by
  unfold out0_3
  rw [View.ld_unit_zero zero2 _ a, View.ld_unit_zero zero2 _ w, View.ld_unit_zero zero2 _ h]
  exact View.canon_unit_zero zero2 _ _

variable (m : (ℓ : Loc nD τ sig) → Buf (Elt Ideal) ℓ)

/-- What the region finds. -/
theorem V_x (c : Dev nD) (i : S4096x1024.Idx) : V m c main_v0 i = m ((c : Thread nD τ).loc main_arg1) i := by
  dsimp only [V, hostOps0]
  after_results
  rfl

theorem V_w (c : Dev nD) (i : S1024x1024.Idx) : V m c main_v1 i = m ((c : Thread nD τ).loc main_arg2) i := by
  dsimp only [V, hostOps0]
  after_results
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

theorem lt_N (t : Fin cfg0.N) : t.val < 4 := lt_of_lt_of_eq t.isLt (show cfg0.N = 4 from N_0)

/-- The row of the arrays that a row of the point's block is. -/
def at_ (t : Fin cfg0.N) (r : Fin 1024) : Fin 4096 := ⟨t.val * 1024 + r.val, by have := lt_N t; have := r.isLt; omega⟩

theorem blk_x (c : Dev nD) (t : Fin cfg0.N) (r : Fin 1024) (q : Fin 1024) :
    iblk m c 0 t (ix2 r q) = m ((c : Thread nD τ).loc main_arg1) (ix2 (at_ t r) q) := by
  have ha : (win0_0.blk t).view.emb (ix2 r q) = (ix2 (at_ t r) q : S4096x1024.Idx) := by
    funext a; apply Fin.ext
    match a with
    | ⟨0, _⟩ => blk_simp [e0]; rfl
    | ⟨1, _⟩ => blk_simp [e0]
  show V m c main_v0 ((win0_0.blk t).view.emb (ix2 r q)) = _
  rw [ha, V_x]

theorem blk_w (c : Dev nD) (t : Fin cfg0.N) (r : Fin 1024) (q : Fin 1024) :
    iblk m c 1 t (ix2 r q) = m ((c : Thread nD τ).loc main_arg2) (ix2 r q) := by
  have ha : (win0_1.blk t).view.emb (ix2 r q) = (ix2 r q : S1024x1024.Idx) := by
    funext a; apply Fin.ext
    match a with
    | ⟨0, _⟩ => blk_simp [e1]
    | ⟨1, _⟩ => blk_simp [e1]
  show V m c main_v1 ((win0_1.blk t).view.emb (ix2 r q)) = _
  rw [ha, V_w]

theorem blk_h (c : Dev nD) (t : Fin cfg0.N) (r : Fin 1024) (q : Fin 1024) :
    iblk m c 2 t (ix2 r q) = m ((c : Thread nD τ).loc main_arg0) (ix2 (at_ t r) q) := by
  have ha : (win0_2.blk t).view.emb (ix2 r q) = (ix2 (at_ t r) q : S4096x1024.Idx) := by
    funext a; apply Fin.ext
    match a with
    | ⟨0, _⟩ => blk_simp [e2]; rfl
    | ⟨1, _⟩ => blk_simp [e2]
  show V m c main_arg0 ((win0_2.blk t).view.emb (ix2 r q)) = _
  rw [ha, V_main_arg0]

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  obtain ⟨r, k, rfl⟩ : ∃ (r : Fin 1024) (k : Fin 1024), y = ix2 r k := ⟨y 0, y 1, eq_ix2 y⟩
  have hi : (win0_3.blk t).view.emb (ix2 r k) = (ix2 (at_ t r) k : S4096x1024.Idx) := by
    funext a; apply Fin.ext
    match a with
    | ⟨0, _⟩ => blk_simp [e3]; rfl
    | ⟨1, _⟩ => blk_simp [e3]
  generalize (win0_3.blk t).view.emb (ix2 r k) = i at hi ⊢
  subst hi
  exact (pay1_apply _ _ _ r k).trans (congrArg₂ (fun a s : EReal => a + s) (blk_h m c t r k)
    (nn_of _ _ (at_ t r) k _ _ (fun q => blk_x m c t r q) (fun q => blk_w m c t q k)))

section
open Cert.Reference20Ideal Cert.Reference20Ideal.Read

/-- The reference's result array. -/
theorem value (h : Vec Ideal Cert.Reference20Ideal.S4096x1024 .f32) (x : Vec Ideal Cert.Reference20Ideal.S4096x1024 .f32) (w : Vec Ideal Cert.Reference20Ideal.S1024x1024 .f32) :
    val_main_v1 (F := Ideal) h x w = G h x w := by
  funext i
  rw [val_main_v1_apply]
  exact congrArg (fun s : EReal => h i + s) ((val_main_v0_apply x w i).trans (Finset.sum_congr rfl fun k _ => congrArg₂ (fun a b : EReal => a * b)
    (congrArg _ (funext fun a => by fin_cases a <;> rfl)) (congrArg _ (funext fun a => by fin_cases a <;> rfl))))
end

/-- The call and the reference compute the same array. -/
theorem claim : Cert.algebraic_Kernel20Ideal_Reference20Ideal := by
  intro m g m' g' _ hm
  refine ⟨fun c => G (m (c.tc.loc main_arg0)) (m (c.tc.loc main_arg1)) (m (c.tc.loc main_arg2)), ?_, ?_⟩
  · exact (θ_run _ _ _).mono (fun r h c => ⟨(h c).1.trans (final m c), (h c).2⟩) (Cert.Kernel20Ideal.Value.run_blocks m g)
  · refine (θ_run _ _ _).mono (fun r h c => ⟨(h c).1.trans ?_, (h c).2⟩) (Cert.Reference20Ideal.Value.run m' g')
    obtain ⟨h0, h1, h2⟩ := hm c
    refine (Cert.Reference20Ideal.Read.val_main_v1_eq _ _ _).trans ?_
    rw [h0, h1, h2]
    exact value _ _ _

end Cert.Proof.AttnOut

end
-- ==== Proof.AttnDo.lean ====
/- What the call that carries the gradient back through the attention's output weight leaves in its result array (`final`), and the
   same array as the reference computes it (`value`). -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Product
public import Idealize.ShloMosaic.Lib.Pipeline.ValueKit.Geometry

@[expose] public section

set_option maxRecDepth 16384

noncomputable section

namespace Cert.Proof.AttnDo

open Cert.Kernel21Ideal Cert.Kernel21Ideal.Gen Cert.Proof.Product
open Idealize.ShloMosaic Idealize.ShloMosaic.TcCoe Idealize.ShloMosaic.ValueIdx Idealize.SL.Sem

/-- The result array. -/
def G (dy : Vec Ideal ⟨2, ![4096, 1024]⟩ .f32) (w : Vec Ideal ⟨2, ![1024, 1024]⟩ .f32) :
    Vec Ideal ⟨2, ![4096, 1024]⟩ .bf16 := fun i => nt dy w (i 0) (i 1)

theorem pay1_apply (a : Vec Ideal S512x1024 .f32) (w : Vec Ideal S1024x1024 .bf16) (r : Fin 512) (k : Fin 1024) :
    k0_pay1 (F := Ideal) a w (ix2 r k) = ∑ q : Fin 1024, a (ix2 r q) * w (ix2 k q) := by
  unfold k0_pay1
  rw [shapeCast_self]
  exact unit_nt (truncf .bf16 a bitsLt_bf16_f32) w r k

theorem out_eq (a : Vec Ideal S512x1024 .f32) (w : Vec Ideal S1024x1024 .bf16) :
    out0_2 (F := Ideal) a w = k0_pay1 (F := Ideal) a w := by
  unfold out0_2
  rw [View.ld_unit_zero zero2 _ a, View.ld_unit_zero zero2 _ w]
  exact View.canon_unit_zero zero2 _ _

variable (m : (ℓ : Loc nD τ sig) → Buf (Elt Ideal) ℓ)

/-- What the region finds. -/
theorem V_w (c : Dev nD) (i : S1024x1024.Idx) : V m c main_v0 i = m ((c : Thread nD τ).loc main_arg1) i := by
  dsimp only [V, hostOps0]
  after_results
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 8 := lt_of_lt_of_eq t.isLt (show cfg0.N = 8 from N_0)

/-- The row of the arrays that a row of the point's block is. -/
def at_ (t : Fin cfg0.N) (r : Fin 512) : Fin 4096 := ⟨t.val * 512 + r.val, by have := lt_N t; have := r.isLt; omega⟩

theorem blk_dy (c : Dev nD) (t : Fin cfg0.N) (r : Fin 512) (q : Fin 1024) :
    iblk m c 0 t (ix2 r q) = m ((c : Thread nD τ).loc main_arg0) (ix2 (at_ t r) q) := by
  have ha : (win0_0.blk t).view.emb (ix2 r q) = (ix2 (at_ t r) q : S4096x1024.Idx) := by
    funext a; apply Fin.ext
    match a with
    | ⟨0, _⟩ => blk_simp [e0]; rfl
    | ⟨1, _⟩ => blk_simp [e0]
  show V m c main_arg0 ((win0_0.blk t).view.emb (ix2 r q)) = _
  rw [ha, V_main_arg0]

theorem blk_w (c : Dev nD) (t : Fin cfg0.N) (r : Fin 1024) (q : Fin 1024) :
    iblk m c 1 t (ix2 r q) = m ((c : Thread nD τ).loc main_arg1) (ix2 r q) := by
  have ha : (win0_1.blk t).view.emb (ix2 r q) = (ix2 r q : S1024x1024.Idx) := by
    funext a; apply Fin.ext
    match a with
    | ⟨0, _⟩ => blk_simp [e1]
    | ⟨1, _⟩ => blk_simp [e1]
  show V m c main_v0 ((win0_1.blk t).view.emb (ix2 r q)) = _
  rw [ha, V_w]

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, out_eq]
  obtain ⟨r, k, rfl⟩ : ∃ (r : Fin 512) (k : Fin 1024), y = ix2 r k := ⟨y 0, y 1, eq_ix2 y⟩
  have hi : (win0_2.blk t).view.emb (ix2 r k) = (ix2 (at_ t r) k : S4096x1024.Idx) := by
    funext a; apply Fin.ext
    match a with
    | ⟨0, _⟩ => blk_simp [e2]; rfl
    | ⟨1, _⟩ => blk_simp [e2]
  generalize (win0_2.blk t).view.emb (ix2 r k) = i at hi ⊢
  subst hi
  exact (pay1_apply _ _ r k).trans (nt_of _ _ (at_ t r) k _ _ (fun q => blk_dy m c t r q) (fun q => blk_w m c t k q))

section
open Cert.Reference21Ideal Cert.Reference21Ideal.Read

/-- The reference's result array. -/
theorem value (dy : Vec Ideal Cert.Reference21Ideal.S4096x1024 .f32) (w : Vec Ideal Cert.Reference21Ideal.S1024x1024 .f32) :
    val_main_v3 (F := Ideal) dy w = G dy w := by
  funext i
  exact (val_main_v2_apply dy w i).trans (Finset.sum_congr rfl fun k _ => congrArg₂ (fun a b : EReal => a * b)
    (congrArg _ (funext fun a => by fin_cases a <;> rfl)) (congrArg _ (funext fun a => by fin_cases a <;> rfl)))
end

/-- The call and the reference compute the same array. -/
theorem claim : Cert.algebraic_Kernel21Ideal_Reference21Ideal := by
  intro m g m' g' _ hm
  refine ⟨fun c => G (m (c.tc.loc main_arg0)) (m (c.tc.loc main_arg1)), ?_, ?_⟩
  · exact (θ_run _ _ _).mono (fun r h c => ⟨(h c).1.trans (final m c), (h c).2⟩) (Cert.Kernel21Ideal.Value.run_blocks m g)
  · refine (θ_run _ _ _).mono (fun r h c => ⟨(h c).1.trans ?_, (h c).2⟩) (Cert.Reference21Ideal.Value.run m' g')
    obtain ⟨h0, h1⟩ := hm c
    refine (Cert.Reference21Ideal.Read.val_main_v3_eq _ _).trans ?_
    rw [h0, h1]
    exact value _ _

end Cert.Proof.AttnDo

end
-- ==== Proof.AttnDwo.lean ====
/- What the call that makes the attention's output weight's gradient leaves in its result array (`final`), and the same array as
   the reference computes it (`value`). -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Weight
public import Idealize.ShloMosaic.Lib.Pipeline.ReadBack
public import Idealize.ShloMosaic.Lib.Pipeline.ValueKit.Geometry

@[expose] public section

set_option maxRecDepth 16384

noncomputable section

namespace Cert.Proof.AttnDwo

open Cert.Kernel22Ideal Cert.Kernel22Ideal.Gen Cert.Proof.Weight
open Idealize.ShloMosaic Idealize.ShloMosaic.TcCoe Idealize.ShloMosaic.ValueIdx Idealize.SL.Sem

/-- The result array: the gradient. -/
def G (x : Vec Ideal ⟨2, ![4096, 1024]⟩ .f32) (dy : Vec Ideal ⟨2, ![4096, 1024]⟩ .f32) : Vec Ideal ⟨2, ![1024, 1024]⟩ .bf16 :=
  fun i => grads x dy (i 0) (i 1)

/-- A half's product, at an index. -/
theorem pay1_apply (x : Vec Ideal S2048x1024 .bf16) (dy : Vec Ideal S2048x1024 .f32) (k : Fin 1024) (l : Fin 1024) :
    k0_pay1 (F := Ideal) x dy (ix2 k l) = ∑ r : Fin 2048, x (ix2 r k) * dy (ix2 r l) := by
  unfold k0_pay1
  rw [shapeCast_self]
  exact tn_apply dot_S2048x1024_S2048x1024_S1024x1024_0_0_1_1_n_n.wf x (truncf .bf16 dy bitsLt_bf16_f32) k l

/-- The second half's product added to the first's. -/
theorem pay3_apply (x : Vec Ideal S2048x1024 .bf16) (dy : Vec Ideal S2048x1024 .f32) (a : Vec Ideal S1024x1024 .f32) (j : S1024x1024.Idx) :
    k0_pay4 (F := Ideal) (k0_pay3 (F := Ideal) x dy a) j = a j + k0_pay1 (F := Ideal) x dy j := by
  unfold k0_pay3
  simp only [shapeCast_self]
  rfl

variable (m : (ℓ : Loc nD τ sig) → Buf (Elt Ideal) ℓ)

/-- What the region finds. -/
theorem V_x (c : Dev nD) (i : S4096x1024.Idx) : V m c main_v0 i = m ((c : Thread nD τ).loc main_arg0) i := by
  dsimp only [V, hostOps0]
  after_results
  rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

theorem lt_N (t : Fin cfg0.N) : t.val < 2 := lt_of_lt_of_eq t.isLt (show cfg0.N = 2 from N_0)

/-- The row of the arrays that a row of the point's block is. -/
def at_ (t : Fin cfg0.N) (r : Fin 2048) : Fin 4096 := ⟨t.val * 2048 + r.val, by have := lt_N t; have := r.isLt; omega⟩

theorem blk_x (c : Dev nD) (t : Fin cfg0.N) (r : Fin 2048) (q : Fin 1024) :
    iblk m c 0 t (ix2 r q) = m ((c : Thread nD τ).loc main_arg0) (ix2 (at_ t r) q) := by
  have ha : (win0_0.blk t).view.emb (ix2 r q) = (ix2 (at_ t r) q : S4096x1024.Idx) := by
    funext a; apply Fin.ext
    match a with
    | ⟨0, _⟩ => blk_simp [e0]; rfl
    | ⟨1, _⟩ => blk_simp [e0]
  show V m c main_v0 ((win0_0.blk t).view.emb (ix2 r q)) = _
  rw [ha, V_x]

theorem blk_dy (c : Dev nD) (t : Fin cfg0.N) (r : Fin 2048) (q : Fin 1024) :
    iblk m c 1 t (ix2 r q) = m ((c : Thread nD τ).loc main_arg1) (ix2 (at_ t r) q) := by
  have ha : (win0_1.blk t).view.emb (ix2 r q) = (ix2 (at_ t r) q : S4096x1024.Idx) := by
    funext a; apply Fin.ext
    match a with
    | ⟨0, _⟩ => blk_simp [e1]; rfl
    | ⟨1, _⟩ => blk_simp [e1]
  show V m c main_arg1 ((win0_1.blk t).view.emb (ix2 r q)) = _
  rw [ha, V_main_arg1]

theorem scratch_first (c : Dev nD) (t : Fin cfg0.N) (h : t.val = 0) (k : Fin 1024) (l : Fin 1024) :
    (outsAt0 m c t.val t.isLt).2 (ix2 k l) = k0_pay1 (F := Ideal) (iblk m c 0 t) (iblk m c 1 t) (ix2 k l) := by
  rw [outsAt0_A m c t (by omega) (by omega) (by omega)]
  frame_out
  unfold k0_pay2
  rw [shapeCast_self]

theorem out_last (c : Dev nD) (t : Fin cfg0.N) (h : t.val = 1) (k : Fin 1024) (l : Fin 1024) :
    (outsAt0 m c t.val t.isLt).1 (ix2 k l)
      = (outsAt0 m c (t.val - 1) (Nat.lt_of_le_of_lt (Nat.sub_le _ _) t.isLt)).2 (ix2 k l)
        + k0_pay1 (F := Ideal) (iblk m c 0 t) (iblk m c 1 t) (ix2 k l) := by
  rw [outsAt0_B m c t (by omega) (by omega) (by omega)]
  frame_out
  rw [read_unread_whole]
  exact pay3_apply _ _ _ _

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hN := lt_N t
  have h1 : t.val = 1 := by have := (flush0_2 t).mp hf; omega
  blk_simp
  rw [after0_2]
  obtain ⟨k, l, rfl⟩ : ∃ (k : Fin 1024) (l : Fin 1024), y = ix2 k l := ⟨y 0, y 1, eq_ix2 y⟩
  have hi : (win0_2.blk t).view.emb (ix2 k l) = (ix2 k l : S1024x1024.Idx) := by
    funext a; apply Fin.ext
    match a with
    | ⟨0, _⟩ => blk_simp [e2]
    | ⟨1, _⟩ => blk_simp [e2]
  generalize (win0_2.blk t).view.emb (ix2 k l) = i at hi ⊢
  subst hi
  have ht : t.val - 1 < cfg0.N := Nat.lt_of_le_of_lt (Nat.sub_le _ _) t.isLt
  refine (out_last m c t h1 k l).trans (Eq.trans (congrArg₂ (fun a b : EReal => a + b)
    ((scratch_first m c ⟨t.val - 1, ht⟩ (by show t.val - 1 = 0; omega) k l).trans (pay1_apply _ _ k l)) (pay1_apply _ _ k l)) ?_)
  exact grads_two _ _ k l (at_ ⟨t.val - 1, ht⟩) (at_ t)
    (fun r => by show (t.val - 1) * 2048 + r.val = r.val; omega) (fun r => by show t.val * 2048 + r.val = 2048 + r.val; omega)
    _ _ _ _ (fun r => blk_x m c _ r k) (fun r => blk_dy m c _ r l) (fun r => blk_x m c t r k) (fun r => blk_dy m c t r l)

section
open Cert.Reference22Ideal Cert.Reference22Ideal.Read

/-- The reference's result array. -/
theorem value (x : Vec Ideal Cert.Reference22Ideal.S4096x1024 .f32) (dy : Vec Ideal Cert.Reference22Ideal.S4096x1024 .f32) :
    val_main_v4 (F := Ideal) x dy = G x dy := by
  funext i
  rw [val_main_v4_apply]
  refine (val_main_v3_apply x dy i).trans ?_
  rw [val_main_v2_apply]
  show _ = ∑ t : Fin 4096, x (ix2 t (i 0)) * dy (ix2 t (i 1))
  exact Finset.sum_congr rfl fun t _ => (mul_comm (G := EReal) _ _).trans (congrArg₂ (fun a b : EReal => a * b)
    (congrArg x (funext fun a => by fin_cases a <;> rfl)) (congrArg dy (funext fun a => by fin_cases a <;> rfl)))
end

/-- The call and the reference compute the same array. -/
theorem claim : Cert.algebraic_Kernel22Ideal_Reference22Ideal := by
  intro m g m' g' _ hm
  refine ⟨fun c => G (m (c.tc.loc main_arg0)) (m (c.tc.loc main_arg1)), ?_, ?_⟩
  · exact (θ_run _ _ _).mono (fun r h c => ⟨(h c).1.trans (final m c), (h c).2⟩) (Cert.Kernel22Ideal.Value.run_blocks m g)
  · refine (θ_run _ _ _).mono (fun r h c => ⟨(h c).1.trans ?_, (h c).2⟩) (Cert.Reference22Ideal.Value.run m' g')
    obtain ⟨h0, h1⟩ := hm c
    refine (Cert.Reference22Ideal.Read.val_main_v4_eq _ _).trans ?_
    rw [h0, h1]
    exact value _ _

end Cert.Proof.AttnDwo

end
-- ==== Proof.Dq.lean ====
/- What the call that makes the latent queries leaves in its result array (`final`), and the same array as the reference computes
   it (`value`). -/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Product
public import Idealize.ShloMosaic.Lib.Pipeline.ValueKit.Geometry

@[expose] public section

set_option maxRecDepth 16384

noncomputable section

namespace Cert.Proof.Dq

open Cert.Kernel23Ideal Cert.Kernel23Ideal.Gen Cert.Proof.Product
open Idealize.ShloMosaic Idealize.ShloMosaic.TcCoe Idealize.ShloMosaic.ValueIdx Idealize.SL.Sem

/-- The result array. -/
def G (x : Vec Ideal ⟨2, ![4096, 1024]⟩ .f32) (w : Vec Ideal ⟨2, ![1024, 768]⟩ .f32) :
    Vec Ideal ⟨2, ![4096, 768]⟩ .f32 := fun i => nn x w (i 0) (i 1)

theorem pay1_apply (a : Vec Ideal S1024x1024 .bf16) (w : Vec Ideal S1024x768 .bf16) (r : Fin 1024) (k : Fin 768) :
    k0_pay1 (F := Ideal) a w (ix2 r k) = ∑ q : Fin 1024, a (ix2 r q) * w (ix2 q k) := by
  unfold k0_pay1
  simp only [shapeCast_self]
  exact unit_nn a w r k

theorem out_eq (a : Vec Ideal S1024x1024 .bf16) (w : Vec Ideal S1024x768 .bf16) :
    out0_2 (F := Ideal) a w = k0_pay1 (F := Ideal) a w := by
  unfold out0_2
  rw [View.ld_unit_zero zero2 _ a, View.ld_unit_zero zero2 _ w]
  exact View.canon_unit_zero zero2 _ _

variable (m : (ℓ : Loc nD τ sig) → Buf (Elt Ideal) ℓ)

/-- What the region finds. -/
theorem V_x (c : Dev nD) (i : S4096x1024.Idx) : V m c main_v0 i = m ((c : Thread nD τ).loc main_arg0) i := by
  dsimp only [V, hostOps0]
  after_results
  rfl

theorem V_w (c : Dev nD) (i : S1024x768.Idx) : V m c main_v1 i = m ((c : Thread nD τ).loc main_arg1) i := by
  dsimp only [V, hostOps0]
  after_results
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 4 := lt_of_lt_of_eq t.isLt (show cfg0.N = 4 from N_0)

/-- The row of the arrays that a row of the point's block is. -/
def at_ (t : Fin cfg0.N) (r : Fin 1024) : Fin 4096 := ⟨t.val * 1024 + r.val, by have := lt_N t; have := r.isLt; omega⟩

theorem blk_x (c : Dev nD) (t : Fin cfg0.N) (r : Fin 1024) (q : Fin 1024) :
    iblk m c 0 t (ix2 r q) = m ((c : Thread nD τ).loc main_arg0) (ix2 (at_ t r) q) := by
  have ha : (win0_0.blk t).view.emb (ix2 r q) = (ix2 (at_ t r) q : S4096x1024.Idx) := by
    funext a; apply Fin.ext
    match a with
    | ⟨0, _⟩ => blk_simp [e0]; rfl
    | ⟨1, _⟩ => blk_simp [e0]
  show V m c main_v0 ((win0_0.blk t).view.emb (ix2 r q)) = _
  rw [ha, V_x]

theorem blk_w (c : Dev nD) (t : Fin cfg0.N) (r : Fin 1024) (q : Fin 768) :
    iblk m c 1 t (ix2 r q) = m ((c : Thread nD τ).loc main_arg1) (ix2 r q) := by
  have ha : (win0_1.blk t).view.emb (ix2 r q) = (ix2 r q : S1024x768.Idx) := by
    funext a; apply Fin.ext
    match a with
    | ⟨0, _⟩ => blk_simp [e1]
    | ⟨1, _⟩ => blk_simp [e1]
  show V m c main_v1 ((win0_1.blk t).view.emb (ix2 r q)) = _
  rw [ha, V_w]

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, out_eq]
  obtain ⟨r, k, rfl⟩ : ∃ (r : Fin 1024) (k : Fin 768), y = ix2 r k := ⟨y 0, y 1, eq_ix2 y⟩
  have hi : (win0_2.blk t).view.emb (ix2 r k) = (ix2 (at_ t r) k : S4096x768.Idx) := by
    funext a; apply Fin.ext
    match a with
    | ⟨0, _⟩ => blk_simp [e2]; rfl
    | ⟨1, _⟩ => blk_simp [e2]
  generalize (win0_2.blk t).view.emb (ix2 r k) = i at hi ⊢
  subst hi
  exact (pay1_apply _ _ r k).trans (nn_of _ _ (at_ t r) k _ _ (fun q => blk_x m c t r q) (fun q => blk_w m c t q k))

section
open Cert.Reference23Ideal Cert.Reference23Ideal.Read

/-- The reference's result array. -/
theorem value (x : Vec Ideal Cert.Reference23Ideal.S4096x1024 .f32) (w : Vec Ideal Cert.Reference23Ideal.S1024x768 .f32) :
    val_main_v0 (F := Ideal) x w = G x w := by
  funext i
  refine (val_main_v0_apply x w i).trans ?_
  show _ = ∑ k : Fin 1024, x (ix2 (i 0) k) * w (ix2 k (i 1))
  exact Finset.sum_congr rfl fun k _ => congrArg₂ (fun a b : EReal => a * b)
    (congrArg _ (funext fun a => by fin_cases a <;> rfl)) (congrArg _ (funext fun a => by fin_cases a <;> rfl))
end

/-- The call and the reference compute the same array. -/
theorem claim : Cert.algebraic_Kernel23Ideal_Reference23Ideal := by
  intro m g m' g' _ hm
  refine ⟨fun c => G (m (c.tc.loc main_arg0)) (m (c.tc.loc main_arg1)), ?_, ?_⟩
  · exact (θ_run _ _ _).mono (fun r h c => ⟨(h c).1.trans (final m c), (h c).2⟩) (Cert.Kernel23Ideal.Value.run_blocks m g)
  · refine (θ_run _ _ _).mono (fun r h c => ⟨(h c).1.trans ?_, (h c).2⟩) (Cert.Reference23Ideal.Value.run m' g')
    obtain ⟨h0, h1⟩ := hm c
    refine (Cert.Reference23Ideal.Read.val_main_v0_eq _ _).trans ?_
    rw [h0, h1]
    exact value _ _

end Cert.Proof.Dq

end
-- ==== Proof.Dwdq.lean ====
/- What the call that makes the latent queries' weight's gradient leaves in its result array (`final`), and the same array as the
   reference computes it (`value`). -/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Weight
public import Idealize.ShloMosaic.Lib.Pipeline.ReadBack
public import Idealize.ShloMosaic.Lib.Pipeline.ValueKit.Geometry

@[expose] public section

set_option maxRecDepth 16384

noncomputable section

namespace Cert.Proof.Dwdq

open Cert.Kernel24Ideal Cert.Kernel24Ideal.Gen Cert.Proof.Weight
open Idealize.ShloMosaic Idealize.ShloMosaic.TcCoe Idealize.ShloMosaic.ValueIdx Idealize.SL.Sem

/-- The result array: the gradient. -/
def G (x : Vec Ideal ⟨2, ![4096, 1024]⟩ .f32) (dy : Vec Ideal ⟨2, ![4096, 768]⟩ .f32) : Vec Ideal ⟨2, ![1024, 768]⟩ .bf16 :=
  fun i => grads x dy (i 0) (i 1)

/-- A half's product, at an index. -/
theorem pay1_apply (x : Vec Ideal S2048x1024 .bf16) (dy : Vec Ideal S2048x768 .f32) (k : Fin 1024) (l : Fin 768) :
    k0_pay1 (F := Ideal) x dy (ix2 k l) = ∑ r : Fin 2048, x (ix2 r k) * dy (ix2 r l) := by
  unfold k0_pay1
  rw [shapeCast_self]
  exact tn_apply dot_S2048x1024_S2048x768_S1024x768_0_0_1_1_n_n.wf x (truncf .bf16 dy bitsLt_bf16_f32) k l

/-- The second half's product added to the first's. -/
theorem pay3_apply (x : Vec Ideal S2048x1024 .bf16) (dy : Vec Ideal S2048x768 .f32) (a : Vec Ideal S1024x768 .f32) (j : S1024x768.Idx) :
    k0_pay4 (F := Ideal) (k0_pay3 (F := Ideal) x dy a) j = a j + k0_pay1 (F := Ideal) x dy j := by
  unfold k0_pay3
  simp only [shapeCast_self]
  rfl

variable (m : (ℓ : Loc nD τ sig) → Buf (Elt Ideal) ℓ)

/-- What the region finds. -/
theorem V_x (c : Dev nD) (i : S4096x1024.Idx) : V m c main_v0 i = m ((c : Thread nD τ).loc main_arg0) i := by
  dsimp only [V, hostOps0]
  after_results
  rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

theorem lt_N (t : Fin cfg0.N) : t.val < 2 := lt_of_lt_of_eq t.isLt (show cfg0.N = 2 from N_0)

/-- The row of the arrays that a row of the point's block is. -/
def at_ (t : Fin cfg0.N) (r : Fin 2048) : Fin 4096 := ⟨t.val * 2048 + r.val, by have := lt_N t; have := r.isLt; omega⟩

theorem blk_x (c : Dev nD) (t : Fin cfg0.N) (r : Fin 2048) (q : Fin 1024) :
    iblk m c 0 t (ix2 r q) = m ((c : Thread nD τ).loc main_arg0) (ix2 (at_ t r) q) := by
  have ha : (win0_0.blk t).view.emb (ix2 r q) = (ix2 (at_ t r) q : S4096x1024.Idx) := by
    funext a; apply Fin.ext
    match a with
    | ⟨0, _⟩ => blk_simp [e0]; rfl
    | ⟨1, _⟩ => blk_simp [e0]
  show V m c main_v0 ((win0_0.blk t).view.emb (ix2 r q)) = _
  rw [ha, V_x]

theorem blk_dy (c : Dev nD) (t : Fin cfg0.N) (r : Fin 2048) (q : Fin 768) :
    iblk m c 1 t (ix2 r q) = m ((c : Thread nD τ).loc main_arg1) (ix2 (at_ t r) q) := by
  have ha : (win0_1.blk t).view.emb (ix2 r q) = (ix2 (at_ t r) q : S4096x768.Idx) := by
    funext a; apply Fin.ext
    match a with
    | ⟨0, _⟩ => blk_simp [e1]; rfl
    | ⟨1, _⟩ => blk_simp [e1]
  show V m c main_arg1 ((win0_1.blk t).view.emb (ix2 r q)) = _
  rw [ha, V_main_arg1]

theorem scratch_first (c : Dev nD) (t : Fin cfg0.N) (h : t.val = 0) (k : Fin 1024) (l : Fin 768) :
    (outsAt0 m c t.val t.isLt).2 (ix2 k l) = k0_pay1 (F := Ideal) (iblk m c 0 t) (iblk m c 1 t) (ix2 k l) := by
  rw [outsAt0_A m c t (by omega) (by omega) (by omega)]
  frame_out
  unfold k0_pay2
  rw [shapeCast_self]

theorem out_last (c : Dev nD) (t : Fin cfg0.N) (h : t.val = 1) (k : Fin 1024) (l : Fin 768) :
    (outsAt0 m c t.val t.isLt).1 (ix2 k l)
      = (outsAt0 m c (t.val - 1) (Nat.lt_of_le_of_lt (Nat.sub_le _ _) t.isLt)).2 (ix2 k l)
        + k0_pay1 (F := Ideal) (iblk m c 0 t) (iblk m c 1 t) (ix2 k l) := by
  rw [outsAt0_B m c t (by omega) (by omega) (by omega)]
  frame_out
  rw [read_unread_whole]
  exact pay3_apply _ _ _ _

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hN := lt_N t
  have h1 : t.val = 1 := by have := (flush0_2 t).mp hf; omega
  blk_simp
  rw [after0_2]
  obtain ⟨k, l, rfl⟩ : ∃ (k : Fin 1024) (l : Fin 768), y = ix2 k l := ⟨y 0, y 1, eq_ix2 y⟩
  have hi : (win0_2.blk t).view.emb (ix2 k l) = (ix2 k l : S1024x768.Idx) := by
    funext a; apply Fin.ext
    match a with
    | ⟨0, _⟩ => blk_simp [e2]
    | ⟨1, _⟩ => blk_simp [e2]
  generalize (win0_2.blk t).view.emb (ix2 k l) = i at hi ⊢
  subst hi
  have ht : t.val - 1 < cfg0.N := Nat.lt_of_le_of_lt (Nat.sub_le _ _) t.isLt
  refine (out_last m c t h1 k l).trans (Eq.trans (congrArg₂ (fun a b : EReal => a + b)
    ((scratch_first m c ⟨t.val - 1, ht⟩ (by show t.val - 1 = 0; omega) k l).trans (pay1_apply _ _ k l)) (pay1_apply _ _ k l)) ?_)
  exact grads_two _ _ k l (at_ ⟨t.val - 1, ht⟩) (at_ t)
    (fun r => by show (t.val - 1) * 2048 + r.val = r.val; omega) (fun r => by show t.val * 2048 + r.val = 2048 + r.val; omega)
    _ _ _ _ (fun r => blk_x m c _ r k) (fun r => blk_dy m c _ r l) (fun r => blk_x m c t r k) (fun r => blk_dy m c t r l)

section
open Cert.Reference24Ideal Cert.Reference24Ideal.Read

/-- The reference's result array. -/
theorem value (x : Vec Ideal Cert.Reference24Ideal.S4096x1024 .f32) (dy : Vec Ideal Cert.Reference24Ideal.S4096x768 .f32) :
    val_main_v4 (F := Ideal) x dy = G x dy := by
  funext i
  rw [val_main_v4_apply]
  refine (val_main_v3_apply x dy i).trans ?_
  rw [val_main_v2_apply]
  show _ = ∑ t : Fin 4096, x (ix2 t (i 0)) * dy (ix2 t (i 1))
  exact Finset.sum_congr rfl fun t _ => (mul_comm (G := EReal) _ _).trans (congrArg₂ (fun a b : EReal => a * b)
    (congrArg x (funext fun a => by fin_cases a <;> rfl)) (congrArg dy (funext fun a => by fin_cases a <;> rfl)))
end

/-- The call and the reference compute the same array. -/
theorem claim : Cert.algebraic_Kernel24Ideal_Reference24Ideal := by
  intro m g m' g' _ hm
  refine ⟨fun c => G (m (c.tc.loc main_arg0)) (m (c.tc.loc main_arg1)), ?_, ?_⟩
  · exact (θ_run _ _ _).mono (fun r h c => ⟨(h c).1.trans (final m c), (h c).2⟩) (Cert.Kernel24Ideal.Value.run_blocks m g)
  · refine (θ_run _ _ _).mono (fun r h c => ⟨(h c).1.trans ?_, (h c).2⟩) (Cert.Reference24Ideal.Value.run m' g')
    obtain ⟨h0, h1⟩ := hm c
    refine (Cert.Reference24Ideal.Read.val_main_v4_eq _ _).trans ?_
    rw [h0, h1]
    exact value _ _

end Cert.Proof.Dwdq

end
-- ==== Proof.DhnLow.lean ====
/- What the call that carries the gradient back through the latent queries' weight leaves in its result array (`final`), and the
   same array as the reference computes it (`value`). -/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Product
public import Idealize.ShloMosaic.Lib.Pipeline.ValueKit.Geometry

@[expose] public section

set_option maxRecDepth 16384

noncomputable section

namespace Cert.Proof.DhnLow

open Cert.Kernel25Ideal Cert.Kernel25Ideal.Gen Cert.Proof.Product
open Idealize.ShloMosaic Idealize.ShloMosaic.TcCoe Idealize.ShloMosaic.ValueIdx Idealize.SL.Sem

/-- The result array. -/
def G (dy : Vec Ideal ⟨2, ![4096, 768]⟩ .f32) (w : Vec Ideal ⟨2, ![1024, 768]⟩ .f32) :
    Vec Ideal ⟨2, ![4096, 1024]⟩ .f32 := fun i => nt dy w (i 0) (i 1)

theorem pay1_apply (a : Vec Ideal S512x768 .f32) (w : Vec Ideal S1024x768 .bf16) (r : Fin 512) (k : Fin 1024) :
    k0_pay1 (F := Ideal) a w (ix2 r k) = ∑ q : Fin 768, a (ix2 r q) * w (ix2 k q) := by
  unfold k0_pay1
  rw [shapeCast_self]
  exact unit_nt (truncf .bf16 a bitsLt_bf16_f32) w r k

theorem out_eq (a : Vec Ideal S512x768 .f32) (w : Vec Ideal S1024x768 .bf16) :
    out0_2 (F := Ideal) a w = k0_pay1 (F := Ideal) a w := by
  unfold out0_2
  rw [View.ld_unit_zero zero2 _ a, View.ld_unit_zero zero2 _ w]
  exact View.canon_unit_zero zero2 _ _

variable (m : (ℓ : Loc nD τ sig) → Buf (Elt Ideal) ℓ)

/-- What the region finds. -/
theorem V_w (c : Dev nD) (i : S1024x768.Idx) : V m c main_v0 i = m ((c : Thread nD τ).loc main_arg1) i := by
  dsimp only [V, hostOps0]
  after_results
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 8 := lt_of_lt_of_eq t.isLt (show cfg0.N = 8 from N_0)

/-- The row of the arrays that a row of the point's block is. -/
def at_ (t : Fin cfg0.N) (r : Fin 512) : Fin 4096 := ⟨t.val * 512 + r.val, by have := lt_N t; have := r.isLt; omega⟩

theorem blk_dy (c : Dev nD) (t : Fin cfg0.N) (r : Fin 512) (q : Fin 768) :
    iblk m c 0 t (ix2 r q) = m ((c : Thread nD τ).loc main_arg0) (ix2 (at_ t r) q) := by
  have ha : (win0_0.blk t).view.emb (ix2 r q) = (ix2 (at_ t r) q : S4096x768.Idx) := by
    funext a; apply Fin.ext
    match a with
    | ⟨0, _⟩ => blk_simp [e0]; rfl
    | ⟨1, _⟩ => blk_simp [e0]
  show V m c main_arg0 ((win0_0.blk t).view.emb (ix2 r q)) = _
  rw [ha, V_main_arg0]

theorem blk_w (c : Dev nD) (t : Fin cfg0.N) (r : Fin 1024) (q : Fin 768) :
    iblk m c 1 t (ix2 r q) = m ((c : Thread nD τ).loc main_arg1) (ix2 r q) := by
  have ha : (win0_1.blk t).view.emb (ix2 r q) = (ix2 r q : S1024x768.Idx) := by
    funext a; apply Fin.ext
    match a with
    | ⟨0, _⟩ => blk_simp [e1]
    | ⟨1, _⟩ => blk_simp [e1]
  show V m c main_v0 ((win0_1.blk t).view.emb (ix2 r q)) = _
  rw [ha, V_w]

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, out_eq]
  obtain ⟨r, k, rfl⟩ : ∃ (r : Fin 512) (k : Fin 1024), y = ix2 r k := ⟨y 0, y 1, eq_ix2 y⟩
  have hi : (win0_2.blk t).view.emb (ix2 r k) = (ix2 (at_ t r) k : S4096x1024.Idx) := by
    funext a; apply Fin.ext
    match a with
    | ⟨0, _⟩ => blk_simp [e2]; rfl
    | ⟨1, _⟩ => blk_simp [e2]
  generalize (win0_2.blk t).view.emb (ix2 r k) = i at hi ⊢
  subst hi
  exact (pay1_apply _ _ r k).trans (nt_of _ _ (at_ t r) k _ _ (fun q => blk_dy m c t r q) (fun q => blk_w m c t k q))

section
open Cert.Reference25Ideal Cert.Reference25Ideal.Read

/-- The reference's result array. -/
theorem value (dy : Vec Ideal Cert.Reference25Ideal.S4096x768 .f32) (w : Vec Ideal Cert.Reference25Ideal.S1024x768 .f32) :
    val_main_v2 (F := Ideal) dy w = G dy w := by
  funext i
  exact (val_main_v2_apply dy w i).trans (Finset.sum_congr rfl fun k _ => congrArg₂ (fun a b : EReal => a * b)
    (congrArg _ (funext fun a => by fin_cases a <;> rfl)) (congrArg _ (funext fun a => by fin_cases a <;> rfl)))
end

/-- The call and the reference compute the same array. -/
theorem claim : Cert.algebraic_Kernel25Ideal_Reference25Ideal := by
  intro m g m' g' _ hm
  refine ⟨fun c => G (m (c.tc.loc main_arg0)) (m (c.tc.loc main_arg1)), ?_, ?_⟩
  · exact (θ_run _ _ _).mono (fun r h c => ⟨(h c).1.trans (final m c), (h c).2⟩) (Cert.Kernel25Ideal.Value.run_blocks m g)
  · refine (θ_run _ _ _).mono (fun r h c => ⟨(h c).1.trans ?_, (h c).2⟩) (Cert.Reference25Ideal.Value.run m' g')
    obtain ⟨h0, h1⟩ := hm c
    refine (Cert.Reference25Ideal.Read.val_main_v2_eq _ _).trans ?_
    rw [h0, h1]
    exact value _ _

end Cert.Proof.DhnLow

end
-- ==== Proof.Block.lean ====
/- A block of 256 rows of a normalisation's gradient: what the block gives to the input's gradient and to the gain's gradient,
   and the sum that a walk over sixteen such blocks builds up. -/
module

public import proofs.«01_k».proof.Proof.Gen.Kernel26Ideal.Skeleton
public import proofs.«01_k».proof.Proof.Rows

@[expose] public section

set_option maxRecDepth 16384

noncomputable section

namespace Cert.Proof.Block

open Cert.Kernel26Ideal Cert.Kernel26Ideal.Gen Cert.Proof.Norm Cert.Proof.Rows
open Idealize.ShloMosaic Idealize.ShloMosaic.ValueIdx

/-- The sum along a row, and the sum along a column, kept as an array of one column or one row. -/
theorem alongRow {n w : ℕ} (v : FVec Ideal ⟨2, ![n, w]⟩ .f32) (hr : Shape.Reduces ⟨2, ![n, w]⟩ [1] ⟨1, ![n]⟩)
    (hc : Shape.ShapeCasts ⟨1, ![n]⟩ ⟨2, ![n, 1]⟩) (r : Fin n) (z : Fin 1) :
    shapeCast ⟨2, ![n, 1]⟩ (multiReduction .add [1] ⟨1, ![n]⟩ v 0x00000000#32 hr (.inl rfl) rfl) hc (ix2 r z)
      = ∑ q : Fin w, v (ix2 r q) := by
  refine (shapeCast_apply _ _ _ (ix1 r) (by
    rw [Shape.rowMajor_val_one, Shape.rowMajor_val_two]
    show r.val = r.val * 1 + z.val
    omega)).trans ((Ideal.multiReduction_add_single v _ _ _ _ _).trans (Finset.sum_congr rfl fun q _ => congrArg v ?_))
  funext a
  match a with
  | ⟨0, _⟩ => exact Fin.ext rfl
  | ⟨1, _⟩ => exact Fin.ext rfl

theorem alongColumn {n w : ℕ} (v : FVec Ideal ⟨2, ![n, w]⟩ .f32) (hr : Shape.Reduces ⟨2, ![n, w]⟩ [0] ⟨1, ![w]⟩)
    (hc : Shape.ShapeCasts ⟨1, ![w]⟩ ⟨2, ![1, w]⟩) (z : Fin 1) (k : Fin w) :
    shapeCast ⟨2, ![1, w]⟩ (multiReduction .add [0] ⟨1, ![w]⟩ v 0x00000000#32 hr (.inl rfl) rfl) hc (ix2 z k)
      = ∑ r : Fin n, v (ix2 r k) := by
  refine (shapeCast_apply _ _ _ (ix1 k) (by
    rw [Shape.rowMajor_val_one, Shape.rowMajor_val_two]
    show k.val = z.val * w + k.val
    rw [Fin.val_eq_zero z, Nat.zero_mul, Nat.zero_add])).trans
      ((Ideal.multiReduction_add_single v _ _ _ _ _).trans (Finset.sum_congr rfl fun r _ => congrArg v ?_))
  funext a
  match a with
  | ⟨0, _⟩ => exact Fin.ext rfl
  | ⟨1, _⟩ => exact Fin.ext rfl

/-- One number for each row, spread over the row. -/
theorem spread (v : FVec Ideal S256x1 .f32) (r : Fin 256) (k : Fin 1024) :
    broadcastTo S256x1024 v broadcasts_S256x1_S256x1024 (ix2 r k) = v (ix2 r (0 : Fin 1)) :=
  broadcastTo_apply v _ _ _ fun a => by
    match a with
    | ⟨0, _⟩ => rfl
    | ⟨1, _⟩ => rfl

/-- The gain, kept as one row and spread over the rows. -/
theorem gain_apply (g : Vec Ideal S1x1024 .f32) (r : Fin 256) (k : Fin 1024) :
    broadcastTo S256x1024 (shapeCast S1x1024 g shapeCasts_S1x1024_S1x1024) broadcasts_S1x1024_S256x1024 (ix2 r k)
      = g (ix2 (0 : Fin 1) k) := by
  rw [shapeCast_self]; exact broadcastTo_1b_ab_apply g _ r k

theorem root_apply (x : Vec Ideal S256x1024 .f32) (r : Fin 256) (z : Fin 1) : k0_pay2 (F := Ideal) x (ix2 r z) = rinv (row x r) :=
  congrArg (fun s : EReal => Ideal.rsqrt (Ideal.div s len + Norm.guard))
    (alongRow (mulf x x) reduces_S256x1024_S256 shapeCasts_S256_S256x1 r z)

theorem scaled_apply (x : Vec Ideal S256x1024 .f32) (r : Fin 256) (k : Fin 1024) :
    k0_pay3 (F := Ideal) x (ix2 r k) = x (ix2 r k) * rinv (row x r) :=
  congrArg (fun s : EReal => x (ix2 r k) * s) ((spread (k0_pay2 x) r k).trans (root_apply x r 0))

/-- What a block of rows adds to the gain's gradient. -/
theorem toGain (x a : Vec Ideal S256x1024 .f32) (z : Fin 1) (k : Fin 1024) :
    k0_pay4 (F := Ideal) x a (ix2 z k) = ∑ r : Fin 256, a (ix2 r k) * (x (ix2 r k) * rinv (row x r)) :=
  (alongColumn (mulf a (k0_pay3 x)) reduces_S256x1024_S1024 shapeCasts_S1024_S1x1024 z k).trans
    (Finset.sum_congr rfl fun r _ => congrArg (fun s : EReal => a (ix2 r k) * s) (scaled_apply x r k))

/-- The block of the input's gradient. -/
theorem toInput (x a d : Vec Ideal S256x1024 .f32) (g : Vec Ideal S1x1024 .f32) (r : Fin 256) (k : Fin 1024) :
    k0_pay5 (F := Ideal) x g a d (ix2 r k)
      = dRow (row x r) (row a r) (fun k => g (ix2 (0 : Fin 1) k)) (d (ix2 r k)) k := by
  let ag : FVec Ideal S256x1024 .f32 := mulf a (broadcastTo S256x1024 (shapeCast S1x1024 g shapeCasts_S1x1024_S1x1024)
    broadcasts_S1x1024_S256x1024)
  have hag : ∀ q : Fin 1024, ag (ix2 r q) = a (ix2 r q) * g (ix2 (0 : Fin 1) q) := fun q =>
    congrArg (fun s : EReal => a (ix2 r q) * s) (gain_apply g r q)
  have hs := (alongRow (mulf ag (k0_pay3 x)) reduces_S256x1024_S256 shapeCasts_S256_S256x1 r 0).trans
    (Finset.sum_congr rfl fun q _ => congrArg₂ (fun s t : EReal => s * t) (hag q) (scaled_apply x r q))
  have hm := (spread (divf (shapeCast S256x1 (multiReduction .add [1] S256 (mulf ag (k0_pay3 x)) 0x00000000#32
    reduces_S256x1024_S256 (.inl rfl) rfl) shapeCasts_S256_S256x1) (broadcast S256x1 (Scalar.ofBits .f32 0x44800000#32)))
    r k).trans (congrArg (fun s : EReal => Ideal.div s len) hs)
  exact congrArg₂ (fun s t : EReal => d (ix2 r k) + s * t) ((spread (k0_pay2 x) r k).trans (root_apply x r 0))
    (congrArg₂ (fun s t : EReal => s - t) (hag k) (congrArg₂ (fun s t : EReal => s * t) (scaled_apply x r k) hm))

/-- Row `r` of block `t`. -/
def at_ (t : Fin 16) (r : Fin 256) : Fin 4096 := ⟨t.val * 256 + r.val, by have := t.isLt; have := r.isLt; omega⟩

/-- A total that is set at the first block and added to at every later one is the sum over all rows. -/
theorem walk (D : (n : ℕ) → n < 16 → EReal) (f : Fin 4096 → EReal)
    (h0 : ∀ t : Fin 16, t.val % 16 = 0 → D t.val t.isLt = ∑ r : Fin 256, f (at_ t r))
    (hs : ∀ t : Fin 16, ¬t.val % 16 = 0 → D t.val t.isLt = D (t.val - 1) (by omega) + ∑ r : Fin 256, f (at_ t r))
    (t : Fin 16) (h : t.val = 15) : D t.val t.isLt = ∑ r, f r := by
  have e := Pipeline.eq_sum_fin_of_reset_step_apply_of_flush (N := 16) (fun n hn (_ : Unit) => D n hn) 16 (fun _ => 0)
    (fun t _ => ∑ r : Fin 256, f (at_ t r)) (fun t ht _ => (h0 t ht).trans (zero_add _).symm) (fun t ht _ => hs t ht) t
    (by omega) ()
  refine e.trans ((zero_add _).trans ((Finset.sum_congr rfl fun s _ => ?_).trans (Fin.sum_mul_add_fin 16 256 f)))
  have es : (⟨16 * (t.val / 16) + s.val, by omega⟩ : Fin 16) = s := Fin.ext (by
    show 16 * (t.val / 16) + s.val = s.val
    omega)
  exact Finset.sum_congr rfl fun r _ => congrArg f (by rw [es]; rfl)

/-- What a block adds to the gain's gradient, over rows of the arrays. -/
theorem toGain_rows (h : Vec Ideal ⟨2, ![4096, 1024]⟩ .f32) (A : Fin 4096 → Fin 1024 → EReal) (x a : Vec Ideal S256x1024 .f32)
    (R : Fin 256 → Fin 4096) (hx : ∀ r k, x (ix2 r k) = h (ix2 (R r) k)) (ha : ∀ r k, a (ix2 r k) = A (R r) k) (j : S1x1024.Idx) :
    k0_pay4 (F := Ideal) x a j = ∑ r : Fin 256, A (R r) (j 1) * (h (ix2 (R r) (j 1)) * rinv (row h (R r))) := by
  obtain ⟨z, k, rfl⟩ : ∃ (z : Fin 1) (k : Fin 1024), j = ix2 z k := ⟨j 0, j 1, eq_ix2 j⟩
  refine (toGain x a z k).trans (Finset.sum_congr rfl fun r _ => ?_)
  have ex : row x r = row h (R r) := funext (hx r)
  exact congrArg₂ (fun s t : EReal => s * t) (ha r k) (congrArg₂ (fun s t : EReal => s * t) (hx r k) (congrArg rinv ex))

theorem toInput_rows (h : Vec Ideal ⟨2, ![4096, 1024]⟩ .f32) (gain : Vec Ideal ⟨1, ![1024]⟩ .f32) (D : Vec Ideal ⟨2, ![4096, 1024]⟩ .f32)
    (A : Fin 4096 → Fin 1024 → EReal) (x a d : Vec Ideal S256x1024 .f32) (g : Vec Ideal S1x1024 .f32) (R : Fin 256 → Fin 4096)
    (hx : ∀ r k, x (ix2 r k) = h (ix2 (R r) k)) (ha : ∀ r k, a (ix2 r k) = A (R r) k) (hd : ∀ r k, d (ix2 r k) = D (ix2 (R r) k))
    (hg : ∀ k, g (ix2 (0 : Fin 1) k) = gain (ix1 k)) (r : Fin 256) (k : Fin 1024) :
    k0_pay5 (F := Ideal) x g a d (ix2 r k) = GDx h gain D A (ix2 (R r) k) := by
  refine (toInput x a d g r k).trans ?_
  have ex : row x r = row h (R r) := funext (hx r)
  have ea : row a r = A (R r) := funext (ha r)
  have eg : (fun k => g (ix2 (0 : Fin 1) k)) = fun k => gain (ix1 k) := funext hg
  rw [ex, ea, eg, hd]
  rfl

end Cert.Proof.Block

end
-- ==== Proof.NormBwd.lean ====
/- The gradient of a normalisation that is called by itself: what the call leaves in its two result arrays, the same two arrays
   as the reference computes them, and that they agree. -/
module

public import proofs.«01_k».proof.Defs
public import proofs.«01_k».proof.Proof.Block
public import proofs.«01_k».proof.Proof.DxnRef
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit.Geometry
public import Idealize.ShloMosaic.Lib.Pipeline.ReadBack

@[expose] public section

set_option maxRecDepth 16384

noncomputable section

namespace Cert.Proof.NormBwd

open Cert.Kernel26Ideal Cert.Kernel26Ideal.Gen Cert.Proof.Rows Cert.Proof.Block
open Idealize.ShloMosaic Idealize.ShloMosaic.TcCoe Idealize.ShloMosaic.ValueIdx Idealize.SL.Sem

/-- The gradient that arrives, by rows. -/
def given (dy : Vec Ideal ⟨2, ![4096, 1024]⟩ .f32) (r : Fin 4096) (k : Fin 1024) : EReal := dy (ix2 r k)

section
variable (m : (ℓ : Loc nD τ sig) → Buf (Elt Ideal) ℓ)

theorem V_g (c : Dev nD) (k : Fin 1024) :
    V m c main_v0 (ix2 (0 : Fin 1) k) = m ((c : Thread nD τ).loc main_arg1) (ix1 k) := by
  dsimp only [V, hostOps0]
  after_results
  show shapeCast ⟨2, ![1, 1024]⟩ (m ((c : Thread nD τ).loc main_arg1)) shapeCasts_S1024_S1x1024 (ix2 (0 : Fin 1) k) = _
  exact shapeCast_a_1a_apply _ _ _ _

theorem N_eq : (16 : ℕ) = cfg0.N := N_0.symm

/-- A point of the walk as a number below sixteen, and a row of its block. -/
def num (t : Fin cfg0.N) : Fin 16 := ⟨t.val, lt_of_lt_of_eq t.isLt N_eq.symm⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)

theorem blk_x (c : Dev nD) (t : Fin cfg0.N) (r : Fin 256) (k : Fin 1024) :
    iblk m c 0 t (ix2 r k) = m ((c : Thread nD τ).loc main_arg0) (ix2 (at_ (num t) r) k) := by
  have ha : (win0_0.blk t).view.emb (ix2 r k) = (ix2 (at_ (num t) r) k : S4096x1024.Idx) := by
    funext a; apply Fin.ext
    match a with
    | ⟨0, _⟩ => blk_simp [e0]; rfl
    | ⟨1, _⟩ => blk_simp [e0]
  show V m c main_arg0 ((win0_0.blk t).view.emb (ix2 r k)) = _
  rw [ha, V_main_arg0]

theorem blk_g (c : Dev nD) (t : Fin cfg0.N) (k : Fin 1024) :
    iblk m c 1 t (ix2 (0 : Fin 1) k) = m ((c : Thread nD τ).loc main_arg1) (ix1 k) := by
  have ha : (win0_1.blk t).view.emb (ix2 (0 : Fin 1) k) = (ix2 (0 : Fin 1) k : S1x1024.Idx) := by
    funext a; apply Fin.ext
    match a with
    | ⟨0, _⟩ => blk_simp [e1]
    | ⟨1, _⟩ => blk_simp [e1]
  show V m c main_v0 ((win0_1.blk t).view.emb (ix2 (0 : Fin 1) k)) = _
  rw [ha, V_g]

theorem blk_dy (c : Dev nD) (t : Fin cfg0.N) (r : Fin 256) (k : Fin 1024) :
    iblk m c 2 t (ix2 r k) = given (m ((c : Thread nD τ).loc main_arg3)) (at_ (num t) r) k := by
  have ha : (win0_2.blk t).view.emb (ix2 r k) = (ix2 (at_ (num t) r) k : S4096x1024.Idx) := by
    funext a; apply Fin.ext
    match a with
    | ⟨0, _⟩ => blk_simp [e2]; rfl
    | ⟨1, _⟩ => blk_simp [e2]
  show V m c main_arg3 ((win0_2.blk t).view.emb (ix2 r k)) = _
  rw [ha, V_main_arg3]
  rfl

theorem blk_d (c : Dev nD) (t : Fin cfg0.N) (r : Fin 256) (k : Fin 1024) :
    iblk m c 3 t (ix2 r k) = m ((c : Thread nD τ).loc main_arg2) (ix2 (at_ (num t) r) k) := by
  have ha : (win0_3.blk t).view.emb (ix2 r k) = (ix2 (at_ (num t) r) k : S4096x1024.Idx) := by
    funext a; apply Fin.ext
    match a with
    | ⟨0, _⟩ => blk_simp [e3]; rfl
    | ⟨1, _⟩ => blk_simp [e3]
  show V m c main_arg2 ((win0_3.blk t).view.emb (ix2 r k)) = _
  rw [ha, V_main_arg2]

/-- What a point writes. -/
theorem wrote (c : Dev nD) (t : Fin cfg0.N) : (outsAt0 m c t.val t.isLt).1
    = k0_pay5 (F := Ideal) (iblk m c 0 t) (iblk m c 1 t) (iblk m c 2 t) (iblk m c 3 t) := by
  have hN := (num t).isLt
  by_cases h : t.val % 16 = 0
  · rw [outsAt0_A m c t h (by change t.val < 16 at hN; omega)]
    frame_out
  · rw [outsAt0_B m c t h (by omega)]
    frame_out

theorem began (c : Dev nD) (t : Fin cfg0.N) (h : t.val % 16 = 0) : (outsAt0 m c t.val t.isLt).2
    = k0_pay4 (F := Ideal) (iblk m c 0 t) (iblk m c 2 t) := by
  have hN := (num t).isLt
  rw [outsAt0_A m c t h (by change t.val < 16 at hN; omega)]
  frame_out

theorem added (c : Dev nD) (t : Fin cfg0.N) (h : ¬t.val % 16 = 0) : (outsAt0 m c t.val t.isLt).2
    = k0_pay1 (F := Ideal) (k0_pay4 (iblk m c 0 t) (iblk m c 2 t))
      (outsAt0 m c (t.val - 1) (Nat.lt_of_le_of_lt (Nat.sub_le _ _) t.isLt)).2 := by
  rw [outsAt0_B m c t h (by omega)]
  frame_out

theorem sum_apply (a b : Vec Ideal S1x1024 .f32) (j : S1x1024.Idx) : k0_pay1 (F := Ideal) a b j = b j + a j := by
  unfold k0_pay1
  rw [shapeCast_self]
  rfl

/-- The two result arrays after the run. -/
theorem finalDx (c : Dev nD) : (dats m 0 c).arrAt 4 cfg0.N
    = GDx (m ((c : Thread nD τ).loc main_arg0)) (m ((c : Thread nD τ).loc main_arg1)) (m ((c : Thread nD τ).loc main_arg2))
      (given (m ((c : Thread nD τ).loc main_arg3))) := by
  refine (dats m 0 c).arrAt_eq_of_covers 4 _ (by decide +kernel) fun t _ y => ?_
  blk_simp
  rw [after0_4, wrote]
  obtain ⟨r, k, rfl⟩ : ∃ (r : Fin 256) (k : Fin 1024), y = ix2 r k := ⟨y 0, y 1, eq_ix2 y⟩
  have hi : (win0_4.blk t).view.emb (ix2 r k) = (ix2 (at_ (num t) r) k : S4096x1024.Idx) := by
    funext a; apply Fin.ext
    match a with
    | ⟨0, _⟩ => blk_simp [e4]; rfl
    | ⟨1, _⟩ => blk_simp [e4]
  generalize (win0_4.blk t).view.emb (ix2 r k) = i at hi ⊢
  subst hi
  exact toInput_rows _ _ _ _ _ _ _ _ (at_ (num t)) (blk_x m c t) (blk_dy m c t) (blk_d m c t) (blk_g m c t) r k

/-- After the last point the second result holds the sum over all rows. -/
theorem total (c : Dev nD) (t : Fin cfg0.N) (h : t.val = 15) (j : S1x1024.Idx) : (outsAt0 m c t.val t.isLt).2 j
    = GDg (m ((c : Thread nD τ).loc main_arg0)) (given (m ((c : Thread nD τ).loc main_arg3))) j := by
  have part := fun t : Fin cfg0.N => toGain_rows _ _ _ _ (at_ (num t)) (blk_x m c t) (blk_dy m c t) j
  exact walk (fun n hn => (outsAt0 m c n (lt_of_lt_of_eq hn N_eq)).2 j)
    (fun r => (fun a x i : EReal => a * (x * i)) (given (m ((c : Thread nD τ).loc main_arg3)) r (j 1))
      (m ((c : Thread nD τ).loc main_arg0) (ix2 r (j 1))) (Norm.rinv (row (m ((c : Thread nD τ).loc main_arg0)) r)))
    (fun t ht => (congrFun (began m c ⟨t.val, lt_of_lt_of_eq t.isLt N_eq⟩ ht) j).trans (part ⟨t.val, lt_of_lt_of_eq t.isLt N_eq⟩))
    (fun t ht => ((congrFun (added m c ⟨t.val, lt_of_lt_of_eq t.isLt N_eq⟩ ht) j).trans (sum_apply _ _ j)).trans
      (congrArg (fun s : EReal => _ + s) (part ⟨t.val, lt_of_lt_of_eq t.isLt N_eq⟩))) (num t) h

theorem finalDg (c : Dev nD) : (dats m 0 c).arrAt 5 cfg0.N
    = GDg (m ((c : Thread nD τ).loc main_arg0)) (given (m ((c : Thread nD τ).loc main_arg3))) := by
  generalize hG : GDg (m ((c : Thread nD τ).loc main_arg0)) (given (m ((c : Thread nD τ).loc main_arg3))) = G'
  refine (dats m 0 c).arrAt_eq_of_covers 5 _ (by decide +kernel) fun t hf y => ?_
  have hN := (num t).isLt
  change t.val < 16 at hN
  have h3 : t.val = 15 := by have := (flush0_5 t).mp hf; omega
  blk_simp
  rw [after0_5]
  have h0 : ((win0_5.blk t).view.emb y 0).val = (y 0).val := by blk_simp [e5]
  have h1 : ((win0_5.blk t).view.emb y 1).val = (y 1).val := by blk_simp [e5]
  have hi : (win0_5.blk t).view.emb y = y := by
    funext a; apply Fin.ext
    match a with
    | ⟨0, _⟩ => exact h0
    | ⟨1, _⟩ => exact h1
  refine (total m c t h3 y).trans ((congrFun hG y).trans ?_)
  exact congrArg G' hi.symm
end

section
open Cert.Reference26Ideal Cert.Reference26Ideal.Read

variable (h : Vec Ideal Cert.Reference26Ideal.S4096x1024 .f32) (g : Vec Ideal Cert.Reference26Ideal.S1024 .f32)
  (d dy : Vec Ideal Cert.Reference26Ideal.S4096x1024 .f32)

theorem gained_apply (r : Fin 4096) (k : Fin 1024) : val_main_v20 (F := Ideal) g dy (ix2 r k) = given dy r k * g (ix1 k) := by
  rw [val_main_v20_apply, val_main_v19_apply, val_main_v13_apply]
  have e : idx_main_v13 (idx_main_v19 (ix2 r k)) = ix1 k := funext fun a => by fin_cases a; rfl
  rw [e]
  rfl

theorem slope_apply (r : Fin 4096) (k : Fin 1024) : val_main_v32 (F := Ideal) h g dy (ix2 r k)
    = Norm.slope (row h r) (fun q => given dy r q * g (ix1 q)) := by
  rw [val_main_v32_apply, val_main_v31_apply, val_main_cst_7_apply]
  refine (DxnRef.zero_add_sum _).trans ((Fin.sum_univ_one _).trans ?_)
  have e : idx_main_v31 (idx_main_v32 (ix2 r k)) 0 = ix2 r (0 : Fin 1) := funext fun a => by fin_cases a <;> rfl
  rw [e, val_main_v30_apply, val_main_v28_apply, val_main_v24_apply, val_main_v23_apply]
  have hc : val_main_v10 (F := Ideal) h (ix2 r (0 : Fin 1))
      = Norm.minusHalf * Ideal.div (Norm.rinv (row h r)) (Norm.meanSq (row h r)) :=
    congrArg₂ (fun a b : EReal => Norm.minusHalf * Ideal.div a b) (DxnRef.rinv_apply h r 0) (DxnRef.meanSq_apply h r 0)
  rw [hc]
  refine congrArg (fun s : EReal => Ideal.div (s * (Norm.minusHalf * Ideal.div (Norm.rinv (row h r)) (Norm.meanSq (row h r)))) Norm.len)
    ((DxnRef.zero_add_sum _).trans (Finset.sum_congr rfl fun q _ => ?_))
  have e : idx_main_v23 (idx_main_v24 (ix2 r (0 : Fin 1))) q = ix2 r q := funext fun a => by
    fin_cases a
    · exact Fin.ext (by show r.val * 1 + 0 = r.val; omega)
    · rfl
  rw [e, val_main_v22_apply, gained_apply]
  rfl

/-- The reference's two result arrays. -/
theorem value : val_main_v36 (F := Ideal) h g d dy = GDx h g d (given dy) := by
  funext i
  obtain ⟨r, k, rfl⟩ : ∃ (r : Fin 4096) (k : Fin 1024), i = ix2 r k := ⟨i 0, i 1, eq_ix2 i⟩
  rw [val_main_v36_apply, val_main_v34_apply, val_main_v27_apply, val_main_v26_apply, val_main_v33_apply, val_main_v35_apply,
    slope_apply, gained_apply, val_main_v25_apply]
  have e : idx_main_v25 (ix2 r k) = ix2 r (0 : Fin 1) := funext fun a => by fin_cases a <;> rfl
  have hr : val_main_v7 (F := Ideal) h (ix2 r (0 : Fin 1)) = Norm.rinv (row h r) := DxnRef.rinv_apply h r 0
  rw [e, hr]
  exact (Norm.grad (row h r) (fun q => given dy r q * g (ix1 q)) (d (ix2 r k)) k).symm

theorem valueGain : val_main_v37 (F := Ideal) h dy = GDg h (given dy) := by
  funext i
  obtain ⟨z, k, rfl⟩ : ∃ (z : Fin 1) (k : Fin 1024), i = ix2 z k := ⟨i 0, i 1, eq_ix2 i⟩
  rw [val_main_v37_apply, val_main_v21_apply, val_main_cst_4_apply]
  refine (DxnRef.zero_add_sum _).trans ((Fin.sum_univ_one _).trans ?_)
  rw [val_main_v18_apply, val_main_v17_apply, val_main_cst_3_apply]
  refine (DxnRef.zero_add_sum _).trans (Finset.sum_congr rfl fun r _ => ?_)
  have e : idx_main_v17 (idx_main_v18 (idx_main_v21 (idx_main_v37 (ix2 z k)) 0)) r = ix2 r k := funext fun a => by
    have hz := z.isLt
    fin_cases a
    · rfl
    · exact Fin.ext (by show _ = k.val; simp [idx_main_v17, idx_main_v18, idx_main_v21, idx_main_v37])
  rw [e, val_main_v16_apply, val_main_v12_apply, val_main_v11_apply]
  have e : idx_main_v11 (ix2 r k) = ix2 r (0 : Fin 1) := funext fun a => by fin_cases a <;> rfl
  have hr : val_main_v7 (F := Ideal) h (ix2 r (0 : Fin 1)) = Norm.rinv (row h r) := DxnRef.rinv_apply h r 0
  rw [e, hr]
  exact mul_comm (G := EReal) _ _
end

/-- The call and the reference compute the same two arrays. -/
theorem claim : Cert.algebraic_Kernel26Ideal_Reference26Ideal := by
  intro m g m' g' _ hm
  refine ⟨fun c => GDx (m (c.tc.loc main_arg0)) (m (c.tc.loc main_arg1)) (m (c.tc.loc main_arg2)) (given (m (c.tc.loc main_arg3))),
    fun c => GDg (m (c.tc.loc main_arg0)) (given (m (c.tc.loc main_arg3))), ?_, ?_⟩
  · exact (θ_run _ _ _).mono (fun r h c => ⟨(h c).1.trans (finalDx m c), (h c).2.1.trans (finalDg m c), (h c).2.2⟩)
      (Cert.Kernel26Ideal.Value.run_blocks m g)
  · refine (θ_run _ _ _).mono (fun r h c => ⟨(h c).1.trans ?_, (h c).2.1.trans ?_, (h c).2.2⟩) (Cert.Reference26Ideal.Value.run m' g')
    · obtain ⟨h0, h1, h2, h3⟩ := hm c
      refine (Cert.Reference26Ideal.Read.val_main_v36_eq _ _ _ _).trans ?_
      rw [h0, h1, h2, h3]
      exact value _ _ _ _
    · obtain ⟨h0, h1, h2, h3⟩ := hm c
      refine (Cert.Reference26Ideal.Read.val_main_v37_eq _ _).trans ?_
      rw [h0, h3]
      exact valueGain _ _

end Cert.Proof.NormBwd

end
-- ==== Proof.Head.lean ====
/- The loss and its gradient through the last normalisation: what the call leaves in its three result arrays. -/
module

public import proofs.«01_k».proof.Proof.Block
public import proofs.«01_k».proof.Proof.Gen.Kernel27Ideal.Value
public import Idealize.ShloMosaic.Lib.Pipeline.ValueKit.Geometry
public import Idealize.ShloMosaic.Lib.Pipeline.ReadBack

@[expose] public section

set_option maxRecDepth 16384

noncomputable section

namespace Cert.Proof.Head

open Cert.Kernel27Ideal Cert.Kernel27Ideal.Gen Cert.Proof.Rows Cert.Proof.Block
open Idealize.ShloMosaic Idealize.ShloMosaic.TcCoe Idealize.ShloMosaic.ValueIdx Idealize.SL.Sem

/-- One over the row's length, and a half, as the programs spell them. -/
def perLen : EReal := Ideal.ofBits .f32 0x3A800000#32
def half : EReal := Ideal.ofBits .f32 0x3F000000#32

/-- How far a normalised row is from its target, at one entry. -/
def off {n : ℕ} (h : Vec Ideal ⟨2, ![n, 1024]⟩ .f32) (g : Fin 1024 → EReal) (t : Vec Ideal ⟨2, ![n, 1024]⟩ .f32) (r : Fin n)
    (k : Fin 1024) : EReal := h (ix2 r k) * Norm.rinv (row h r) * g k - t (ix2 r k)

/-- The gradient of the loss with respect to the normalised array. -/
def pull (h : Vec Ideal ⟨2, ![4096, 1024]⟩ .f32) (g : Vec Ideal ⟨1, ![1024]⟩ .f32) (t : Vec Ideal ⟨2, ![4096, 1024]⟩ .f32)
    (r : Fin 4096) (k : Fin 1024) : EReal := off h (fun k => g (ix1 k)) t r k * perLen

/-- The mean square of a row's distance. -/
def rowLoss {n : ℕ} (h : Vec Ideal ⟨2, ![n, 1024]⟩ .f32) (g : Fin 1024 → EReal) (t : Vec Ideal ⟨2, ![n, 1024]⟩ .f32) (r : Fin n) :
    EReal := Ideal.div (∑ k, off h g t r k * off h g t r k) Norm.len

/-- The loss, in every lane of the row that holds it. -/
def GLoss (h : Vec Ideal ⟨2, ![4096, 1024]⟩ .f32) (g : Vec Ideal ⟨1, ![1024]⟩ .f32) (t : Vec Ideal ⟨2, ![4096, 1024]⟩ .f32) :
    Vec Ideal ⟨2, ![1, 128]⟩ .f32 := fun _ => half * ∑ r, rowLoss h (fun k => g (ix1 k)) t r

/-- Half of a sum is the sum of the halves. -/
theorem half_sum {ι : Type} (s : Finset ι) (f : ι → EReal) : half * ∑ i ∈ s, f i = ∑ i ∈ s, half * f i := by
  unfold half
  rw [Reals.half_eq]
  exact Reals.coe_mul_sum s _ (by norm_num) f

/-- The distance over a block. -/
theorem off_apply (x y : Vec Ideal S256x1024 .f32) (g : Vec Ideal S1x1024 .f32) (r : Fin 256) (k : Fin 1024) :
    k0_pay7 (F := Ideal) x g y (ix2 r k) = off x (fun k => g (ix2 (0 : Fin 1) k)) y r k :=
  congrArg₂ (fun s t : EReal => s * t - y (ix2 r k)) (scaled_apply x r k) (gain_apply g r k)

theorem pull_apply (x y : Vec Ideal S256x1024 .f32) (g : Vec Ideal S1x1024 .f32) (r : Fin 256) (k : Fin 1024) :
    k0_pay9 (F := Ideal) x g y (ix2 r k) = off x (fun k => g (ix2 (0 : Fin 1) k)) y r k * perLen :=
  congrArg (fun s : EReal => s * perLen) (off_apply x y g r k)

/-- What a block adds to the loss. -/
theorem toLoss (x y : Vec Ideal S256x1024 .f32) (g : Vec Ideal S1x1024 .f32) (z : Fin 1) (l : Fin 128) :
    k0_pay3 (F := Ideal) (k0_pay8 x g y) (ix2 z l)
      = ∑ r : Fin 256, half * rowLoss x (fun k => g (ix2 (0 : Fin 1) k)) y r := by
  have hb : k0_pay3 (F := Ideal) (k0_pay8 x g y) (ix2 z l) = k0_pay8 (F := Ideal) x g y (ix2 (0 : Fin 1) (0 : Fin 1)) := by
    unfold k0_pay3
    rw [shapeCast_self]
    exact broadcastTo_apply _ _ _ _ fun a => by
      match a with
      | ⟨0, _⟩ => rfl
      | ⟨1, _⟩ => rfl
  let e : FVec Ideal S256x1024 .f32 := k0_pay7 x g y
  let q : FVec Ideal S256x1 .f32 := divf (shapeCast S256x1 (multiReduction .add [1] S256 (mulf e e) 0x00000000#32
    reduces_S256x1024_S256 (.inl rfl) rfl) shapeCasts_S256_S256x1) (broadcast S256x1 (Scalar.ofBits .f32 0x44800000#32))
  have hq : ∀ r : Fin 256, q (ix2 r (0 : Fin 1)) = rowLoss x (fun k => g (ix2 (0 : Fin 1) k)) y r := fun r =>
    congrArg (fun s : EReal => Ideal.div s Norm.len)
      ((alongRow (mulf e e) reduces_S256x1024_S256 shapeCasts_S256_S256x1 r 0).trans (Finset.sum_congr rfl fun k _ =>
        congrArg₂ (fun s t : EReal => s * t) (off_apply x y g r k) (off_apply x y g r k)))
  have hs : k0_pay8 (F := Ideal) x g y (ix2 (0 : Fin 1) (0 : Fin 1)) = half * ∑ r : Fin 256, q (ix2 r (0 : Fin 1)) :=
    congrArg (fun s : EReal => half * s) (alongColumn q reduces_S256x1_S1 shapeCasts_S1_S1x1 0 0)
  rw [hb, hs, half_sum]
  exact Finset.sum_congr rfl fun r _ => congrArg (fun s : EReal => half * s) (hq r)

section
variable (m : (ℓ : Loc nD τ sig) → Buf (Elt Ideal) ℓ)

theorem V_g (c : Dev nD) (k : Fin 1024) :
    V m c main_v0 (ix2 (0 : Fin 1) k) = m ((c : Thread nD τ).loc main_arg1) (ix1 k) := by
  dsimp only [V, hostOps0]
  after_results
  show shapeCast ⟨2, ![1, 1024]⟩ (m ((c : Thread nD τ).loc main_arg1)) shapeCasts_S1024_S1x1024 (ix2 (0 : Fin 1) k) = _
  exact shapeCast_a_1a_apply _ _ _ _

theorem N_eq : (16 : ℕ) = cfg0.N := N_0.symm

def num (t : Fin cfg0.N) : Fin 16 := ⟨t.val, lt_of_lt_of_eq t.isLt N_eq.symm⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)

theorem blk_x (c : Dev nD) (t : Fin cfg0.N) (r : Fin 256) (k : Fin 1024) :
    iblk m c 0 t (ix2 r k) = m ((c : Thread nD τ).loc main_arg0) (ix2 (at_ (num t) r) k) := by
  have ha : (win0_0.blk t).view.emb (ix2 r k) = (ix2 (at_ (num t) r) k : S4096x1024.Idx) := by
    funext a; apply Fin.ext
    match a with
    | ⟨0, _⟩ => blk_simp [e0]; rfl
    | ⟨1, _⟩ => blk_simp [e0]
  show V m c main_arg0 ((win0_0.blk t).view.emb (ix2 r k)) = _
  rw [ha, V_main_arg0]

theorem blk_g (c : Dev nD) (t : Fin cfg0.N) (k : Fin 1024) :
    iblk m c 1 t (ix2 (0 : Fin 1) k) = m ((c : Thread nD τ).loc main_arg1) (ix1 k) := by
  have ha : (win0_1.blk t).view.emb (ix2 (0 : Fin 1) k) = (ix2 (0 : Fin 1) k : S1x1024.Idx) := by
    funext a; apply Fin.ext
    match a with
    | ⟨0, _⟩ => blk_simp [e1]
    | ⟨1, _⟩ => blk_simp [e1]
  show V m c main_v0 ((win0_1.blk t).view.emb (ix2 (0 : Fin 1) k)) = _
  rw [ha, V_g]

theorem blk_t (c : Dev nD) (t : Fin cfg0.N) (r : Fin 256) (k : Fin 1024) :
    iblk m c 2 t (ix2 r k) = m ((c : Thread nD τ).loc main_arg2) (ix2 (at_ (num t) r) k) := by
  have ha : (win0_2.blk t).view.emb (ix2 r k) = (ix2 (at_ (num t) r) k : S4096x1024.Idx) := by
    funext a; apply Fin.ext
    match a with
    | ⟨0, _⟩ => blk_simp [e2]; rfl
    | ⟨1, _⟩ => blk_simp [e2]
  show V m c main_arg2 ((win0_2.blk t).view.emb (ix2 r k)) = _
  rw [ha, V_main_arg2]

/-- The distances of the point's rows are those of the arrays' rows. -/
theorem off_rows (c : Dev nD) (t : Fin cfg0.N) (r : Fin 256) (k : Fin 1024) :
    off (iblk m c 0 t) (fun k => iblk m c 1 t (ix2 (0 : Fin 1) k)) (iblk m c 2 t) r k
      = off (m ((c : Thread nD τ).loc main_arg0)) (fun k => m ((c : Thread nD τ).loc main_arg1) (ix1 k))
        (m ((c : Thread nD τ).loc main_arg2)) (at_ (num t) r) k := by
  have ex : row (iblk m c 0 t) r = row (m ((c : Thread nD τ).loc main_arg0)) (at_ (num t) r) := funext fun q => blk_x m c t r q
  exact congrArg₂ (fun s t : EReal => s - t) (congrArg₂ (fun a b : EReal => a * b)
    (congrArg₂ (fun a b : EReal => a * b) (blk_x m c t r k) (congrArg Norm.rinv ex)) (blk_g m c t k)) (blk_t m c t r k)

theorem pull_rows (c : Dev nD) (t : Fin cfg0.N) (r : Fin 256) (k : Fin 1024) :
    k0_pay9 (F := Ideal) (iblk m c 0 t) (iblk m c 1 t) (iblk m c 2 t) (ix2 r k)
      = pull (m ((c : Thread nD τ).loc main_arg0)) (m ((c : Thread nD τ).loc main_arg1)) (m ((c : Thread nD τ).loc main_arg2))
        (at_ (num t) r) k :=
  (pull_apply _ _ _ r k).trans (congrArg (fun s : EReal => s * perLen) (off_rows m c t r k))

theorem loss_rows (c : Dev nD) (t : Fin cfg0.N) (j : S1x128.Idx) :
    k0_pay3 (F := Ideal) (k0_pay8 (iblk m c 0 t) (iblk m c 1 t) (iblk m c 2 t)) j
      = ∑ r : Fin 256, half * rowLoss (m ((c : Thread nD τ).loc main_arg0)) (fun k => m ((c : Thread nD τ).loc main_arg1) (ix1 k))
        (m ((c : Thread nD τ).loc main_arg2)) (at_ (num t) r) := by
  obtain ⟨z, l, rfl⟩ : ∃ (z : Fin 1) (l : Fin 128), j = ix2 z l := ⟨j 0, j 1, eq_ix2 j⟩
  refine (toLoss _ _ _ z l).trans (Finset.sum_congr rfl fun r _ => congrArg (fun s : EReal => half * s) ?_)
  exact congrArg (fun s : EReal => Ideal.div s Norm.len) (Finset.sum_congr rfl fun k _ =>
    congrArg₂ (fun a b : EReal => a * b) (off_rows m c t r k) (off_rows m c t r k))

/-- What a point leaves in the three result blocks. -/
theorem wrote (c : Dev nD) (t : Fin cfg0.N) : (outsAt0 m c t.val t.isLt).1
    = k0_pay1 (F := Ideal) (k0_pay10 (iblk m c 0 t)) (k0_pay11 (iblk m c 0 t))
      (k0_pay12 (iblk m c 0 t) (iblk m c 1 t) (iblk m c 2 t)) (k0_pay13 (iblk m c 0 t) (iblk m c 1 t) (iblk m c 2 t)) := by
  have hN := (num t).isLt
  by_cases h : t.val % 16 = 0
  · rw [outsAt0_A m c t h (by change t.val < 16 at hN; omega)]
    frame_out
  · rw [outsAt0_B m c t h (by omega)]
    frame_out

theorem began (c : Dev nD) (t : Fin cfg0.N) (h : t.val % 16 = 0) :
    (outsAt0 m c t.val t.isLt).2.1 = k0_pay2 (F := Ideal) (k0_pay9 (iblk m c 0 t) (iblk m c 1 t) (iblk m c 2 t)) (k0_pay11 (iblk m c 0 t))
    ∧ (outsAt0 m c t.val t.isLt).2.2 = k0_pay3 (F := Ideal) (k0_pay8 (iblk m c 0 t) (iblk m c 1 t) (iblk m c 2 t)) := by
  have hN := (num t).isLt
  rw [outsAt0_A m c t h (by change t.val < 16 at hN; omega)]
  constructor <;> frame_out

theorem added (c : Dev nD) (t : Fin cfg0.N) (h : ¬t.val % 16 = 0) :
    (outsAt0 m c t.val t.isLt).2.1 = k0_pay4 (F := Ideal) (k0_pay9 (iblk m c 0 t) (iblk m c 1 t) (iblk m c 2 t)) (k0_pay11 (iblk m c 0 t))
      (outsAt0 m c (t.val - 1) (Nat.lt_of_le_of_lt (Nat.sub_le _ _) t.isLt)).2.1
    ∧ (outsAt0 m c t.val t.isLt).2.2 = k0_pay5 (F := Ideal) (k0_pay8 (iblk m c 0 t) (iblk m c 1 t) (iblk m c 2 t))
      (outsAt0 m c (t.val - 1) (Nat.lt_of_le_of_lt (Nat.sub_le _ _) t.isLt)).2.2 := by
  rw [outsAt0_B m c t h (by omega)]
  constructor <;> frame_out

theorem gain_sum (v w : FVec Ideal S256x1024 .f32) (a : Vec Ideal S1x1024 .f32) (j : S1x1024.Idx) :
    k0_pay4 (F := Ideal) v w a j = a j + k0_pay2 v w j := by
  unfold k0_pay4
  rw [shapeCast_self]
  rfl

theorem loss_sum (v : FVec Ideal S1x1 .f32) (a : Vec Ideal S1x128 .f32) (j : S1x128.Idx) :
    k0_pay5 (F := Ideal) v a j = a j + k0_pay3 v j := by
  unfold k0_pay5
  rw [shapeCast_self]
  rfl

/-- The three result arrays after the run. -/
theorem finalDx (c : Dev nD) : (dats m 0 c).arrAt 3 cfg0.N
    = GDx (m ((c : Thread nD τ).loc main_arg0)) (m ((c : Thread nD τ).loc main_arg1)) (fun _ => (0 : EReal))
      (pull (m ((c : Thread nD τ).loc main_arg0)) (m ((c : Thread nD τ).loc main_arg1)) (m ((c : Thread nD τ).loc main_arg2))) := by
  refine (dats m 0 c).arrAt_eq_of_covers 3 _ (by decide +kernel) fun t _ y => ?_
  blk_simp
  rw [after0_3, wrote]
  obtain ⟨r, k, rfl⟩ : ∃ (r : Fin 256) (k : Fin 1024), y = ix2 r k := ⟨y 0, y 1, eq_ix2 y⟩
  have hi : (win0_3.blk t).view.emb (ix2 r k) = (ix2 (at_ (num t) r) k : S4096x1024.Idx) := by
    funext a; apply Fin.ext
    match a with
    | ⟨0, _⟩ => blk_simp [e3]; rfl
    | ⟨1, _⟩ => blk_simp [e3]
  generalize (win0_3.blk t).view.emb (ix2 r k) = i at hi ⊢
  subst hi
  exact (zero_add (M := EReal) _).symm.trans (toInput_rows _ _ (fun _ => (0 : EReal)) _ (iblk m c 0 t) (k0_pay9 (iblk m c 0 t) (iblk m c 1 t) (iblk m c 2 t))
    (fun _ => (0 : EReal)) (iblk m c 1 t) (at_ (num t)) (blk_x m c t) (pull_rows m c t) (fun _ _ => rfl) (blk_g m c t) r k)

theorem totalGain (c : Dev nD) (t : Fin cfg0.N) (h : t.val = 15) (j : S1x1024.Idx) : (outsAt0 m c t.val t.isLt).2.1 j
    = GDg (m ((c : Thread nD τ).loc main_arg0))
      (pull (m ((c : Thread nD τ).loc main_arg0)) (m ((c : Thread nD τ).loc main_arg1)) (m ((c : Thread nD τ).loc main_arg2))) j := by
  have part : ∀ t : Fin cfg0.N, k0_pay2 (F := Ideal) (k0_pay9 (iblk m c 0 t) (iblk m c 1 t) (iblk m c 2 t)) (k0_pay11 (iblk m c 0 t)) j
      = _ := fun t => toGain_rows _ _ (iblk m c 0 t) (k0_pay9 (iblk m c 0 t) (iblk m c 1 t) (iblk m c 2 t)) (at_ (num t))
        (blk_x m c t) (pull_rows m c t) j
  exact walk (fun n hn => (outsAt0 m c n (lt_of_lt_of_eq hn N_eq)).2.1 j)
    (fun r => (fun a x i : EReal => a * (x * i)) (pull (m ((c : Thread nD τ).loc main_arg0)) (m ((c : Thread nD τ).loc main_arg1)) (m ((c : Thread nD τ).loc main_arg2)) r (j 1))
      (m ((c : Thread nD τ).loc main_arg0) (ix2 r (j 1))) (Norm.rinv (row (m ((c : Thread nD τ).loc main_arg0)) r)))
    (fun t ht => (congrFun (began m c ⟨t.val, lt_of_lt_of_eq t.isLt N_eq⟩ ht).1 j).trans (part ⟨t.val, lt_of_lt_of_eq t.isLt N_eq⟩))
    (fun t ht => ((congrFun (added m c ⟨t.val, lt_of_lt_of_eq t.isLt N_eq⟩ ht).1 j).trans (gain_sum _ _ _ j)).trans
      (congrArg (fun s : EReal => _ + s) (part ⟨t.val, lt_of_lt_of_eq t.isLt N_eq⟩))) (num t) h

theorem totalLoss (c : Dev nD) (t : Fin cfg0.N) (h : t.val = 15) (j : S1x128.Idx) : (outsAt0 m c t.val t.isLt).2.2 j
    = GLoss (m ((c : Thread nD τ).loc main_arg0)) (m ((c : Thread nD τ).loc main_arg1)) (m ((c : Thread nD τ).loc main_arg2)) j :=
  (walk (fun n hn => (outsAt0 m c n (lt_of_lt_of_eq hn N_eq)).2.2 j)
    (fun r => half * rowLoss (m ((c : Thread nD τ).loc main_arg0)) (fun k => m ((c : Thread nD τ).loc main_arg1) (ix1 k))
      (m ((c : Thread nD τ).loc main_arg2)) r)
    (fun t ht => (congrFun (began m c ⟨t.val, lt_of_lt_of_eq t.isLt N_eq⟩ ht).2 j).trans (loss_rows m c ⟨t.val, lt_of_lt_of_eq t.isLt N_eq⟩ j))
    (fun t ht => ((congrFun (added m c ⟨t.val, lt_of_lt_of_eq t.isLt N_eq⟩ ht).2 j).trans (loss_sum _ _ j)).trans
      (congrArg (fun s : EReal => _ + s) (loss_rows m c ⟨t.val, lt_of_lt_of_eq t.isLt N_eq⟩ j))) (num t) h).trans
    (half_sum _ _).symm

theorem last (t : Fin cfg0.N) (h : t.val % 16 = 15) : t.val = 15 := by
  have hN := (num t).isLt
  change t.val < 16 at hN
  omega

theorem finalDg (c : Dev nD) : (dats m 0 c).arrAt 4 cfg0.N
    = GDg (m ((c : Thread nD τ).loc main_arg0))
      (pull (m ((c : Thread nD τ).loc main_arg0)) (m ((c : Thread nD τ).loc main_arg1)) (m ((c : Thread nD τ).loc main_arg2))) := by
  generalize hG : GDg (m ((c : Thread nD τ).loc main_arg0))
      (pull (m ((c : Thread nD τ).loc main_arg0)) (m ((c : Thread nD τ).loc main_arg1)) (m ((c : Thread nD τ).loc main_arg2))) = G'
  refine (dats m 0 c).arrAt_eq_of_covers 4 _ (by decide +kernel) fun t hf y => ?_
  have h3 := last t ((flush0_4 t).mp hf)
  blk_simp
  rw [after0_4]
  have h0 : ((win0_4.blk t).view.emb y 0).val = (y 0).val := by blk_simp [e4]
  have h1 : ((win0_4.blk t).view.emb y 1).val = (y 1).val := by blk_simp [e4]
  have hi : (win0_4.blk t).view.emb y = y := by
    funext a; apply Fin.ext
    match a with
    | ⟨0, _⟩ => exact h0
    | ⟨1, _⟩ => exact h1
  refine (totalGain m c t h3 y).trans ((congrFun hG y).trans ?_)
  exact congrArg G' hi.symm

theorem finalLoss (c : Dev nD) : (dats m 0 c).arrAt 5 cfg0.N
    = GLoss (m ((c : Thread nD τ).loc main_arg0)) (m ((c : Thread nD τ).loc main_arg1)) (m ((c : Thread nD τ).loc main_arg2)) := by
  refine (dats m 0 c).arrAt_eq_of_covers 5 _ (by decide +kernel) fun t hf y => ?_
  have h3 := last t ((flush0_5 t).mp hf)
  blk_simp
  rw [after0_5]
  exact totalLoss m c t h3 y
end

end Cert.Proof.Head

end
-- ==== Proof.HeadRef.lean ====
/- The loss and its gradient as the reference computes them, and that the call computes the same three arrays. -/
module

public import proofs.«01_k».proof.Defs
public import proofs.«01_k».proof.Proof.Head
public import proofs.«01_k».proof.Proof.DxnRef
public import proofs.«01_k».proof.Proof.Gen.Reference27Ideal.Run
public import proofs.«01_k».proof.Proof.Gen.Reference27Ideal.Read

@[expose] public section

set_option maxRecDepth 16384

noncomputable section

namespace Cert.Proof.HeadRef

open Cert.Reference27Ideal Cert.Reference27Ideal.Gen Cert.Reference27Ideal.Read Cert.Proof.Rows Cert.Proof.Head
open Idealize.ShloMosaic Idealize.ShloMosaic.TcCoe Idealize.ShloMosaic.ValueIdx Idealize.SL.Sem

variable (h : Vec Ideal S4096x1024 .f32) (g : Vec Ideal S1024 .f32) (t : Vec Ideal S4096x1024 .f32)

theorem rinv_apply (r : Fin 4096) (z : Fin 1) : val_main_v7 (F := Ideal) h (ix2 r z) = Norm.rinv (row h r) :=
  DxnRef.rinv_apply h r z

theorem gain_apply (r : Fin 4096) (k : Fin 1024) : val_main_v14 (F := Ideal) g (ix2 r k) = g (ix1 k) := by
  rw [val_main_v14_apply, val_main_v13_apply]
  exact congrArg g (funext fun a => by fin_cases a; rfl)

theorem scaled_apply (r : Fin 4096) (k : Fin 1024) : val_main_v12 (F := Ideal) h (ix2 r k) = h (ix2 r k) * Norm.rinv (row h r) := by
  rw [val_main_v12_apply, val_main_v11_apply]
  have e : idx_main_v11 (ix2 r k) = ix2 r (0 : Fin 1) := funext fun a => by fin_cases a <;> rfl
  rw [e, rinv_apply]
  rfl

theorem off_apply (r : Fin 4096) (k : Fin 1024) : val_main_v16 (F := Ideal) h g t (ix2 r k) = off h (fun k => g (ix1 k)) t r k := by
  rw [val_main_v16_apply, val_main_v15_apply, scaled_apply, gain_apply]
  rfl

/-- The derivative of half the mean square of the distance is the distance over the row's length. -/
theorem weight (x : EReal) :
    Ideal.div (Ideal.ofBits .f32 0x3F000000#32 * Ideal.ofBits .f32 0x3F800000#32) Norm.len * (Ideal.ofBits .f32 0x40000000#32 * x)
      = x * perLen := by
  have h1 : Ideal.ofBits .f32 0x3F800000#32 = ((1 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have h3 : perLen = ((1 / 1024 : ℝ) : EReal) := by
    unfold perLen
    simp [Ideal.ofBits, Ideal.ieee]
    rw [← EReal.coe_mul]
    norm_num
  rw [Norm.div_len, Reals.half_eq, h1, h2, h3, ← mul_assoc, ← EReal.coe_mul, ← EReal.coe_mul, ← EReal.coe_mul, mul_comm x]
  norm_num

theorem pull_apply (r : Fin 4096) (k : Fin 1024) : val_main_v30 (F := Ideal) h g t (ix2 r k) = pull h g t r k := by
  rw [val_main_v30_apply, val_main_v29_apply, val_main_v28_apply, val_main_v26_apply, val_main_v27_apply, val_main_v25_apply,
    val_main_v19_apply, val_main_v18_apply, off_apply, val_main_cst_8_apply, val_main_cst_9_apply, val_main_cst_10_apply,
    val_main_cst_3_apply]
  exact weight _

theorem gained_apply (r : Fin 4096) (k : Fin 1024) : val_main_v35 (F := Ideal) h g t (ix2 r k) = pull h g t r k * g (ix1 k) := by
  rw [val_main_v35_apply, pull_apply]
  exact congrArg (fun s : EReal => pull h g t r k * s) (gain_apply g r k)

theorem slope_apply (r : Fin 4096) (k : Fin 1024) : val_main_v46 (F := Ideal) h g t (ix2 r k)
    = Norm.slope (row h r) (fun q => pull h g t r q * g (ix1 q)) := by
  rw [val_main_v46_apply, val_main_v45_apply, val_main_cst_15_apply]
  refine (DxnRef.zero_add_sum _).trans ((Fin.sum_univ_one _).trans ?_)
  have e : idx_main_v45 (idx_main_v46 (ix2 r k)) 0 = ix2 r (0 : Fin 1) := funext fun a => by fin_cases a <;> rfl
  rw [e, val_main_v44_apply, val_main_v42_apply, val_main_v39_apply, val_main_v38_apply]
  have hc : val_main_v10 (F := Ideal) h (ix2 r (0 : Fin 1))
      = Norm.minusHalf * Ideal.div (Norm.rinv (row h r)) (Norm.meanSq (row h r)) :=
    congrArg₂ (fun a b : EReal => Norm.minusHalf * Ideal.div a b) (DxnRef.rinv_apply h r 0) (DxnRef.meanSq_apply h r 0)
  rw [hc]
  refine congrArg (fun s : EReal => Ideal.div (s * (Norm.minusHalf * Ideal.div (Norm.rinv (row h r)) (Norm.meanSq (row h r)))) Norm.len)
    ((DxnRef.zero_add_sum _).trans (Finset.sum_congr rfl fun q _ => ?_))
  have e : idx_main_v38 (idx_main_v39 (ix2 r (0 : Fin 1))) q = ix2 r q := funext fun a => by
    fin_cases a
    · exact Fin.ext (by show r.val * 1 + 0 = r.val; omega)
    · rfl
  rw [e, val_main_v37_apply, gained_apply]
  rfl

theorem value : val_main_v50 (F := Ideal) h g t = GDx h g (fun _ => (0 : EReal)) (pull h g t) := by
  funext i
  obtain ⟨r, k, rfl⟩ : ∃ (r : Fin 4096) (k : Fin 1024), i = ix2 r k := ⟨i 0, i 1, eq_ix2 i⟩
  rw [val_main_v50_apply, val_main_v48_apply, val_main_v41_apply, val_main_v47_apply, val_main_v49_apply,
    slope_apply, gained_apply, val_main_v40_apply]
  have e : idx_main_v40 (ix2 r k) = ix2 r (0 : Fin 1) := funext fun a => by fin_cases a <;> rfl
  rw [e, rinv_apply]
  have n := Norm.grad (row h r) (fun q => pull h g t r q * g (ix1 q)) 0 k
  refine Eq.trans ?_ n.symm
  rw [zero_add (M := EReal) (_ * _)]
  rfl

theorem valueGain : val_main_v51 (F := Ideal) h g t = GDg h (pull h g t) := by
  funext i
  obtain ⟨z, k, rfl⟩ : ∃ (z : Fin 1) (k : Fin 1024), i = ix2 z k := ⟨i 0, i 1, eq_ix2 i⟩
  rw [val_main_v51_apply, val_main_v36_apply, val_main_cst_12_apply]
  refine (DxnRef.zero_add_sum _).trans ((Fin.sum_univ_one _).trans ?_)
  rw [val_main_v33_apply, val_main_v32_apply, val_main_cst_11_apply]
  refine (DxnRef.zero_add_sum _).trans (Finset.sum_congr rfl fun r _ => ?_)
  have e : idx_main_v32 (idx_main_v33 (idx_main_v36 (idx_main_v51 (ix2 z k)) 0)) r = ix2 r k := funext fun a => by
    have hz := z.isLt
    fin_cases a
    · rfl
    · exact Fin.ext (by show _ = k.val; simp [idx_main_v32, idx_main_v33, idx_main_v36, idx_main_v51])
  rw [e, val_main_v31_apply, scaled_apply, pull_apply]
  exact mul_comm (G := EReal) _ _

theorem valueLoss : val_main_v52 (F := Ideal) h g t = GLoss h g t := by
  funext i
  rw [val_main_v52_apply, val_main_v24_apply, val_main_v23_apply, val_main_cst_6_apply, val_main_cst_7_apply]
  refine congrArg (fun s : EReal => half * s) ?_
  rw [show (FloatOps.ofBits .f32 0x00000000#32 : Ideal .f32) = (0 : EReal) from Ideal.ofBits_zero_f32, zero_add (M := EReal)]
  refine (Finset.sum_equiv (ι := Fin 4096) ⟨fun r => (ix1 r : S4096.Idx), fun j => j 0, fun _ => rfl, fun j => (eq_ix1 j).symm⟩ (fun _ => by simp)
    fun r _ => ?_).symm
  refine Eq.symm ?_
  show val_main_v22 (F := Ideal) h g t (ix1 r) = rowLoss h (fun k => g (ix1 k)) t r
  rw [val_main_v22_apply, val_main_v20_apply, val_main_v21_apply, val_main_cst_4_apply, val_main_cst_5_apply]
  refine congrArg (fun s : EReal => Ideal.div s Norm.len) ((DxnRef.zero_add_sum _).trans (Finset.sum_congr rfl fun k _ => ?_))
  have e : idx_main_v20 (ix1 r) k = ix2 r k := funext fun a => by fin_cases a <;> rfl
  rw [e, val_main_v17_apply, off_apply]
  rfl

/-- The call and the reference compute the same three arrays. -/
theorem claim : Cert.algebraic_Kernel27Ideal_Reference27Ideal := by
  intro m g m' g' _ hm
  refine ⟨fun c => GDx (m (c.tc.loc Cert.Kernel27Ideal.main_arg0)) (m (c.tc.loc Cert.Kernel27Ideal.main_arg1)) (fun _ => (0 : EReal))
      (pull (m (c.tc.loc Cert.Kernel27Ideal.main_arg0)) (m (c.tc.loc Cert.Kernel27Ideal.main_arg1)) (m (c.tc.loc Cert.Kernel27Ideal.main_arg2))),
    fun c => GDg (m (c.tc.loc Cert.Kernel27Ideal.main_arg0))
      (pull (m (c.tc.loc Cert.Kernel27Ideal.main_arg0)) (m (c.tc.loc Cert.Kernel27Ideal.main_arg1)) (m (c.tc.loc Cert.Kernel27Ideal.main_arg2))),
    fun c => GLoss (m (c.tc.loc Cert.Kernel27Ideal.main_arg0)) (m (c.tc.loc Cert.Kernel27Ideal.main_arg1))
      (m (c.tc.loc Cert.Kernel27Ideal.main_arg2)), ?_, ?_⟩
  · exact (θ_run _ _ _).mono (fun r h c => ⟨(h c).1.trans (Head.finalDx m c), (h c).2.1.trans (Head.finalDg m c),
      (h c).2.2.1.trans (Head.finalLoss m c), (h c).2.2.2⟩) (Cert.Kernel27Ideal.Value.run_blocks m g)
  · refine (θ_run _ _ _).mono (fun r h c => ⟨(h c).1.trans ?_, (h c).2.1.trans ?_, (h c).2.2.1.trans ?_, (h c).2.2.2⟩)
      (Cert.Reference27Ideal.Value.run m' g')
    · obtain ⟨h0, h1, h2⟩ := hm c
      refine (Cert.Reference27Ideal.Read.val_main_v50_eq m' c).trans ?_
      rw [h0, h1, h2]
      exact value _ _ _
    · obtain ⟨h0, h1, h2⟩ := hm c
      refine (Cert.Reference27Ideal.Read.val_main_v51_eq _ _ _).trans ?_
      rw [h0, h1, h2]
      exact valueGain _ _ _
    · obtain ⟨h0, h1, h2⟩ := hm c
      refine (Cert.Reference27Ideal.Read.val_main_v52_eq _ _ _).trans ?_
      rw [h0, h1, h2]
      exact valueLoss _ _ _

end Cert.Proof.HeadRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Reference27Ideal.Read
public import proofs.«01_k».proof.Proof.ClaimDxn
public import proofs.«01_k».proof.Proof.ClaimDact
public import proofs.«01_k».proof.Proof.ClaimDhn
public import proofs.«01_k».proof.Proof.Dwin
public import proofs.«01_k».proof.Proof.Dwout
public import proofs.«01_k».proof.Proof.Dwqkv
public import proofs.«01_k».proof.Proof.InAct
public import proofs.«01_k».proof.Proof.NormCall
public import proofs.«01_k».proof.Proof.Out
public import proofs.«01_k».proof.Proof.Qkv
public import proofs.«01_k».proof.Proof.Update11
public import proofs.«01_k».proof.Proof.Update12
public import proofs.«01_k».proof.Proof.Update13
public import proofs.«01_k».proof.Proof.Update14
public import proofs.«01_k».proof.Proof.Update15
public import proofs.«01_k».proof.Proof.Update16
public import proofs.«01_k».proof.Proof.Update17
public import proofs.«01_k».proof.Proof.Update18
public import proofs.«01_k».proof.Proof.Update19
public import proofs.«01_k».proof.Proof.AttnOut
public import proofs.«01_k».proof.Proof.AttnDo
public import proofs.«01_k».proof.Proof.AttnDwo
public import proofs.«01_k».proof.Proof.Dq
public import proofs.«01_k».proof.Proof.Dwdq
public import proofs.«01_k».proof.Proof.DhnLow
public import proofs.«01_k».proof.Proof.NormBwd
public import proofs.«01_k».proof.Proof.HeadRef
public import proofs.«01_k».proof.Proof.Small
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Pre_finite.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m g _ => Cert.Kernel.Gen.frame m g
  · exact fun m g _ => Cert.KernelIdeal.Gen.frame m g
  · exact fun m g _ => (θ_run _ _ _).mono (fun r h => ⟨fun c => (h c).2.2, sem_eq_zero_of_no_sems (by decide) r.2⟩)
      (Cert.ReferenceIdeal.Value.run m g)
  · exact fun m g _ => Cert.Kernel2.Gen.frame m g
  · exact fun m g _ => Cert.Kernel2Ideal.Gen.frame m g
  · exact fun m g _ => Cert.Kernel2Ideal.Gen.frame m g
  · exact fun m g _ => (θ_run _ _ _).mono (fun r h => ⟨fun c => (h c).2, sem_eq_zero_of_no_sems (by decide) r.2⟩)
      (Cert.Reference2Ideal.Value.run m g)
  · exact fun m g _ => (θ_run _ _ _).mono (fun r h => ⟨fun c => (h c).2, sem_eq_zero_of_no_sems (by decide) r.2⟩)
      (Cert.Reference2Ideal.Value.run m g)
  · exact fun m g _ => Cert.Kernel3.Gen.frame m g
  · exact fun m g _ => Cert.Kernel3Ideal.Gen.frame m g
  · exact fun m g _ => (θ_run _ _ _).mono (fun r h => ⟨fun c => (h c).2, sem_eq_zero_of_no_sems (by decide) r.2⟩)
      (Cert.Reference3Ideal.Value.run m g)
  · exact fun m g _ => Cert.Kernel4.Gen.frame m g
  · exact fun m g _ => Cert.Kernel4Ideal.Gen.frame m g
  · exact fun m g _ => (θ_run _ _ _).mono (fun r h => ⟨fun c => (h c).2, sem_eq_zero_of_no_sems (by decide) r.2⟩)
      (Cert.Reference4Ideal.Value.run m g)
  · exact fun m g _ => Cert.Kernel5.Gen.frame m g
  · exact fun m g _ => Cert.Kernel5Ideal.Gen.frame m g
  · exact fun m g _ => (θ_run _ _ _).mono (fun r h => ⟨fun c => (h c).2.2, sem_eq_zero_of_no_sems (by decide) r.2⟩)
      (Cert.Reference5Ideal.Value.run m g)
  · exact fun m g _ => Cert.Kernel6.Gen.frame m g
  · exact fun m g _ => Cert.Kernel6Ideal.Gen.frame m g
  · exact fun m g _ => (θ_run _ _ _).mono (fun r h => ⟨fun c => (h c).2, sem_eq_zero_of_no_sems (by decide) r.2⟩)
      (Cert.Reference6Ideal.Value.run m g)
  · exact fun m g _ => Cert.Kernel7.Gen.frame m g
  · exact fun m g _ => Cert.Kernel7Ideal.Gen.frame m g
  · exact fun m g _ => (θ_run _ _ _).mono (fun r h => ⟨fun c => (h c).2, sem_eq_zero_of_no_sems (by decide) r.2⟩)
      (Cert.Reference7Ideal.Value.run m g)
  · exact fun m g _ => Cert.Kernel8.Gen.frame m g
  · exact fun m g _ => Cert.Kernel8Ideal.Gen.frame m g
  · exact fun m g _ => (θ_run _ _ _).mono (fun r h => ⟨fun c => (h c).2.2, sem_eq_zero_of_no_sems (by decide) r.2⟩)
      (Cert.Reference8Ideal.Value.run m g)
  · exact fun m g _ => Cert.Kernel9.Gen.frame m g
  · exact fun m g _ => Cert.Kernel9Ideal.Gen.frame m g
  · exact fun m g _ => (θ_run _ _ _).mono (fun r h => ⟨fun c => (h c).2, sem_eq_zero_of_no_sems (by decide) r.2⟩)
      (Cert.Reference9Ideal.Value.run m g)
  · exact fun m g _ => Cert.Kernel10.Gen.frame m g
  · exact fun m g _ => Cert.Kernel10Ideal.Gen.frame m g
  · exact fun m g _ => (θ_run _ _ _).mono (fun r h => ⟨fun c => (h c).2, sem_eq_zero_of_no_sems (by decide) r.2⟩)
      (Cert.Reference10Ideal.Value.run m g)
  · exact fun m g _ => Cert.Kernel11.Gen.frame m g
  · exact fun m g _ => Cert.Kernel11Ideal.Gen.frame m g
  · exact fun m g _ => (θ_run _ _ _).mono (fun r h => ⟨fun c => (h c).2.2.2, sem_eq_zero_of_no_sems (by decide) r.2⟩)
      (Cert.Reference11Ideal.Value.run m g)
  · exact fun m g _ => Cert.Kernel12.Gen.frame m g
  · exact fun m g _ => Cert.Kernel12Ideal.Gen.frame m g
  · exact fun m g _ => (θ_run _ _ _).mono (fun r h => ⟨fun c => (h c).2.2.2, sem_eq_zero_of_no_sems (by decide) r.2⟩)
      (Cert.Reference12Ideal.Value.run m g)
  · exact fun m g _ => Cert.Kernel13.Gen.frame m g
  · exact fun m g _ => Cert.Kernel13Ideal.Gen.frame m g
  · exact fun m g _ => (θ_run _ _ _).mono (fun r h => ⟨fun c => (h c).2.2.2, sem_eq_zero_of_no_sems (by decide) r.2⟩)
      (Cert.Reference13Ideal.Value.run m g)
  · exact fun m g _ => Cert.Kernel14.Gen.frame m g
  · exact fun m g _ => Cert.Kernel14Ideal.Gen.frame m g
  · exact fun m g _ => (θ_run _ _ _).mono (fun r h => ⟨fun c => (h c).2.2.2, sem_eq_zero_of_no_sems (by decide) r.2⟩)
      (Cert.Reference14Ideal.Value.run m g)
  · exact fun m g _ => Cert.Kernel15.Gen.frame m g
  · exact fun m g _ => Cert.Kernel15Ideal.Gen.frame m g
  · exact fun m g _ => (θ_run _ _ _).mono (fun r h => ⟨fun c => (h c).2.2.2, sem_eq_zero_of_no_sems (by decide) r.2⟩)
      (Cert.Reference15Ideal.Value.run m g)
  · exact fun m g _ => Cert.Kernel16.Gen.frame m g
  · exact fun m g _ => Cert.Kernel16Ideal.Gen.frame m g
  · exact fun m g _ => (θ_run _ _ _).mono (fun r h => ⟨fun c => (h c).2.2.2, sem_eq_zero_of_no_sems (by decide) r.2⟩)
      (Cert.Reference16Ideal.Value.run m g)
  · exact fun m g _ => Cert.Kernel17.Gen.frame m g
  · exact fun m g _ => Cert.Kernel17Ideal.Gen.frame m g
  · exact fun m g _ => (θ_run _ _ _).mono (fun r h => ⟨fun c => (h c).2.2.2, sem_eq_zero_of_no_sems (by decide) r.2⟩)
      (Cert.Reference17Ideal.Value.run m g)
  · exact fun m g _ => Cert.Kernel18.Gen.frame m g
  · exact fun m g _ => Cert.Kernel18Ideal.Gen.frame m g
  · exact fun m g _ => (θ_run _ _ _).mono (fun r h => ⟨fun c => (h c).2.2.2, sem_eq_zero_of_no_sems (by decide) r.2⟩)
      (Cert.Reference18Ideal.Value.run m g)
  · exact fun m g _ => Cert.Kernel19.Gen.frame m g
  · exact fun m g _ => Cert.Kernel19Ideal.Gen.frame m g
  · exact fun m g _ => (θ_run _ _ _).mono (fun r h => ⟨fun c => (h c).2.2.2.2.2.2.2.2.2.2.2.2.2.2.2.2.2.2.2.2.2.2.2.2, sem_eq_zero_of_no_sems (by decide) r.2⟩)
      (Cert.Reference19Ideal.Value.run m g)
  · exact fun m g _ => Cert.Kernel20.Gen.frame m g
  · exact fun m g _ => Cert.Kernel20Ideal.Gen.frame m g
  · exact fun m g _ => (θ_run _ _ _).mono (fun r h => ⟨fun c => (h c).2, sem_eq_zero_of_no_sems (by decide) r.2⟩)
      (Cert.Reference20Ideal.Value.run m g)
  · exact fun m g _ => Cert.Kernel21.Gen.frame m g
  · exact fun m g _ => Cert.Kernel21Ideal.Gen.frame m g
  · exact fun m g _ => (θ_run _ _ _).mono (fun r h => ⟨fun c => (h c).2, sem_eq_zero_of_no_sems (by decide) r.2⟩)
      (Cert.Reference21Ideal.Value.run m g)
  · exact fun m g _ => Cert.Kernel22.Gen.frame m g
  · exact fun m g _ => Cert.Kernel22Ideal.Gen.frame m g
  · exact fun m g _ => (θ_run _ _ _).mono (fun r h => ⟨fun c => (h c).2, sem_eq_zero_of_no_sems (by decide) r.2⟩)
      (Cert.Reference22Ideal.Value.run m g)
  · exact fun m g _ => Cert.Kernel23.Gen.frame m g
  · exact fun m g _ => Cert.Kernel23Ideal.Gen.frame m g
  · exact fun m g _ => (θ_run _ _ _).mono (fun r h => ⟨fun c => (h c).2, sem_eq_zero_of_no_sems (by decide) r.2⟩)
      (Cert.Reference23Ideal.Value.run m g)
  · exact fun m g _ => Cert.Kernel24.Gen.frame m g
  · exact fun m g _ => Cert.Kernel24Ideal.Gen.frame m g
  · exact fun m g _ => (θ_run _ _ _).mono (fun r h => ⟨fun c => (h c).2, sem_eq_zero_of_no_sems (by decide) r.2⟩)
      (Cert.Reference24Ideal.Value.run m g)
  · exact fun m g _ => Cert.Kernel25.Gen.frame m g
  · exact fun m g _ => Cert.Kernel25Ideal.Gen.frame m g
  · exact fun m g _ => (θ_run _ _ _).mono (fun r h => ⟨fun c => (h c).2, sem_eq_zero_of_no_sems (by decide) r.2⟩)
      (Cert.Reference25Ideal.Value.run m g)
  · exact fun m g _ => Cert.Kernel26.Gen.frame m g
  · exact fun m g _ => Cert.Kernel26Ideal.Gen.frame m g
  · exact fun m g _ => (θ_run _ _ _).mono (fun r h => ⟨fun c => (h c).2.2, sem_eq_zero_of_no_sems (by decide) r.2⟩)
      (Cert.Reference26Ideal.Value.run m g)
  · exact fun m g _ => Cert.Kernel27.Gen.frame m g
  · exact fun m g _ => Cert.Kernel27Ideal.Gen.frame m g
  · exact fun m g _ => (θ_run _ _ _).mono (fun r h => ⟨fun c => (h c).2.2.2, sem_eq_zero_of_no_sems (by decide) r.2⟩)
      (Cert.Reference27Ideal.Value.run m g)
  · trivial
  · exact Claims.dxn
  · trivial
  · exact Claims.dact
  · trivial
  · exact Dwin.claim
  · trivial
  · exact Dwout.claim
  · trivial
  · exact InAct.claim
  · trivial
  · exact Out.claim
  · trivial
  · exact NormCall.claim
  · trivial
  · exact Claims.dhn
  · trivial
  · exact Dwqkv.claim
  · trivial
  · exact Qkv.claim
  · trivial
  · exact Update11.claim
  · trivial
  · exact Update12.claim
  · trivial
  · exact Update13.claim
  · trivial
  · exact Update14.claim
  · trivial
  · exact Update15.claim
  · trivial
  · exact Update16.claim
  · trivial
  · exact Update17.claim
  · trivial
  · exact Update18.claim
  · trivial
  · exact Update19.claim
  · trivial
  · exact AttnOut.claim
  · trivial
  · exact AttnDo.claim
  · trivial
  · exact AttnDwo.claim
  · trivial
  · exact Dq.claim
  · trivial
  · exact Dwdq.claim
  · trivial
  · exact DhnLow.claim
  · trivial
  · exact NormBwd.claim
  · trivial
  · exact HeadRef.claim⟩

end Cert.Proof

end
